-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_scores [hPre_finite_scores : Cert.Pre_finite_scores.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesRefIdeal (m : (ℓ : Loc Cert.ValuesRefIdeal.nD Cert.ValuesRefIdeal.τ Cert.ValuesRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Logf (m : (ℓ : Loc Cert.Logf.nD Cert.Logf.τ Cert.Logf.sig) → Buf (Elt Bits) ℓ) : Prop :=
  True

def Pre_LogfIdeal (m : (ℓ : Loc Cert.LogfIdeal.nD Cert.LogfIdeal.τ Cert.LogfIdeal.sig) → Buf (Elt Ideal) ℓ) : Prop :=
  True

def Pre_LogfRefIdeal (m : (ℓ : Loc Cert.LogfRefIdeal.nD Cert.LogfRefIdeal.τ Cert.LogfRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_ConvStep (m : (ℓ : Loc Cert.ConvStep.nD Cert.ConvStep.τ Cert.ConvStep.sig) → Buf (Elt Bits) ℓ) : Prop :=
  True

def Pre_ConvStepIdeal (m : (ℓ : Loc Cert.ConvStepIdeal.nD Cert.ConvStepIdeal.τ Cert.ConvStepIdeal.sig) → Buf (Elt Ideal) ℓ) : Prop :=
  True

def Pre_ConvStepRefIdeal (m : (ℓ : Loc Cert.ConvStepRefIdeal.nD Cert.ConvStepRefIdeal.τ Cert.ConvStepRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite_scores [hFoxRefIdeal : Cert.FoxRefIdeal.Facts] [hPre_finite_scores : Cert.Pre_finite_scores.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_scores m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1)
      ∧ r.2.mem ((c.tc : Thread Cert.ValuesRefIdeal.nD Cert.ValuesRefIdeal.τ).loc Cert.ValuesRefIdeal.main_arg2) = m ((c.tc : Thread Cert.ValuesRefIdeal.nD Cert.ValuesRefIdeal.τ).loc Cert.ValuesRefIdeal.main_arg2))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1))
      ∧ r.2.sem = fun _ => 0)

def quiescent_Logf [hLogf : Cert.Logf.Facts] : Prop :=
  ∀ (m : (ℓ : Loc Cert.Logf.nD Cert.Logf.τ Cert.Logf.sig) → Buf (Elt Bits) ℓ) (g : Dev Cert.Logf.nD → PrngReg), Pre_Logf m →
    θ_run (Cert.Logf.defs (F := Bits)) (onTc (τ := Cert.Logf.τ) (Cert.Logf.main (F := Bits))) ⟨m, fun _ => 0, g⟩ (fun r => (∀ c : Dev Cert.Logf.nD,
      r.2.mem ((c.tc : Thread Cert.Logf.nD Cert.Logf.τ).loc Cert.Logf.main_arg0) = m ((c.tc : Thread Cert.Logf.nD Cert.Logf.τ).loc Cert.Logf.main_arg0)
      ∧ r.2.mem ((c.tc : Thread Cert.Logf.nD Cert.Logf.τ).loc Cert.Logf.main_arg1) = m ((c.tc : Thread Cert.Logf.nD Cert.Logf.τ).loc Cert.Logf.main_arg1)
      ∧ r.2.mem ((c.tc : Thread Cert.Logf.nD Cert.Logf.τ).loc Cert.Logf.main_arg2) = m ((c.tc : Thread Cert.Logf.nD Cert.Logf.τ).loc Cert.Logf.main_arg2)
      ∧ r.2.mem ((c.tc : Thread Cert.Logf.nD Cert.Logf.τ).loc Cert.Logf.main_arg3) = m ((c.tc : Thread Cert.Logf.nD Cert.Logf.τ).loc Cert.Logf.main_arg3))
      ∧ r.2.sem = fun _ => 0)

def quiescent_LogfIdeal [hLogfIdeal : Cert.LogfIdeal.Facts] : Prop :=
  ∀ (m : (ℓ : Loc Cert.LogfIdeal.nD Cert.LogfIdeal.τ Cert.LogfIdeal.sig) → Buf (Elt Ideal) ℓ) (g : Dev Cert.LogfIdeal.nD → PrngReg), Pre_LogfIdeal m →
    θ_run (Cert.LogfIdeal.defs (F := Ideal)) (onTc (τ := Cert.LogfIdeal.τ) (Cert.LogfIdeal.main (F := Ideal))) ⟨m, fun _ => 0, g⟩ (fun r => (∀ c : Dev Cert.LogfIdeal.nD,
      r.2.mem ((c.tc : Thread Cert.LogfIdeal.nD Cert.LogfIdeal.τ).loc Cert.LogfIdeal.main_arg0) = m ((c.tc : Thread Cert.LogfIdeal.nD Cert.LogfIdeal.τ).loc Cert.LogfIdeal.main_arg0)
      ∧ r.2.mem ((c.tc : Thread Cert.LogfIdeal.nD Cert.LogfIdeal.τ).loc Cert.LogfIdeal.main_arg1) = m ((c.tc : Thread Cert.LogfIdeal.nD Cert.LogfIdeal.τ).loc Cert.LogfIdeal.main_arg1)
      ∧ r.2.mem ((c.tc : Thread Cert.LogfIdeal.nD Cert.LogfIdeal.τ).loc Cert.LogfIdeal.main_arg2) = m ((c.tc : Thread Cert.LogfIdeal.nD Cert.LogfIdeal.τ).loc Cert.LogfIdeal.main_arg2)
      ∧ r.2.mem ((c.tc : Thread Cert.LogfIdeal.nD Cert.LogfIdeal.τ).loc Cert.LogfIdeal.main_arg3) = m ((c.tc : Thread Cert.LogfIdeal.nD Cert.LogfIdeal.τ).loc Cert.LogfIdeal.main_arg3))
      ∧ r.2.sem = fun _ => 0)

def quiescent_LogfRefIdeal [hLogfRefIdeal : Cert.LogfRefIdeal.Facts] : Prop :=
  ∀ (m : (ℓ : Loc Cert.LogfRefIdeal.nD Cert.LogfRefIdeal.τ Cert.LogfRefIdeal.sig) → Buf (Elt Ideal) ℓ) (g : Dev Cert.LogfRefIdeal.nD → PrngReg), Pre_LogfRefIdeal m →
    θ_run (Cert.LogfRefIdeal.defs (F := Ideal)) (onTc (τ := Cert.LogfRefIdeal.τ) (Cert.LogfRefIdeal.main (F := Ideal))) ⟨m, fun _ => 0, g⟩ (fun r => (∀ c : Dev Cert.LogfRefIdeal.nD,
      r.2.mem ((c.tc : Thread Cert.LogfRefIdeal.nD Cert.LogfRefIdeal.τ).loc Cert.LogfRefIdeal.main_arg0) = m ((c.tc : Thread Cert.LogfRefIdeal.nD Cert.LogfRefIdeal.τ).loc Cert.LogfRefIdeal.main_arg0)
      ∧ r.2.mem ((c.tc : Thread Cert.LogfRefIdeal.nD Cert.LogfRefIdeal.τ).loc Cert.LogfRefIdeal.main_arg1) = m ((c.tc : Thread Cert.LogfRefIdeal.nD Cert.LogfRefIdeal.τ).loc Cert.LogfRefIdeal.main_arg1)
      ∧ r.2.mem ((c.tc : Thread Cert.LogfRefIdeal.nD Cert.LogfRefIdeal.τ).loc Cert.LogfRefIdeal.main_arg2) = m ((c.tc : Thread Cert.LogfRefIdeal.nD Cert.LogfRefIdeal.τ).loc Cert.LogfRefIdeal.main_arg2)
      ∧ r.2.mem ((c.tc : Thread Cert.LogfRefIdeal.nD Cert.LogfRefIdeal.τ).loc Cert.LogfRefIdeal.main_arg3) = m ((c.tc : Thread Cert.LogfRefIdeal.nD Cert.LogfRefIdeal.τ).loc Cert.LogfRefIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2))
      ∧ r.2.sem = fun _ => 0)

def quiescent_ConvStep [hConvStep : Cert.ConvStep.Facts] : Prop :=
  ∀ (m : (ℓ : Loc Cert.ConvStep.nD Cert.ConvStep.τ Cert.ConvStep.sig) → Buf (Elt Bits) ℓ) (g : Dev Cert.ConvStep.nD → PrngReg), Pre_ConvStep m →
    θ_run (Cert.ConvStep.defs (F := Bits)) (onTc (τ := Cert.ConvStep.τ) (Cert.ConvStep.main (F := Bits))) ⟨m, fun _ => 0, g⟩ (fun r => (∀ c : Dev Cert.ConvStep.nD,
      r.2.mem ((c.tc : Thread Cert.ConvStep.nD Cert.ConvStep.τ).loc Cert.ConvStep.main_arg0) = m ((c.tc : Thread Cert.ConvStep.nD Cert.ConvStep.τ).loc Cert.ConvStep.main_arg0)
      ∧ r.2.mem ((c.tc : Thread Cert.ConvStep.nD Cert.ConvStep.τ).loc Cert.ConvStep.main_arg1) = m ((c.tc : Thread Cert.ConvStep.nD Cert.ConvStep.τ).loc Cert.ConvStep.main_arg1)
      ∧ r.2.mem ((c.tc : Thread Cert.ConvStep.nD Cert.ConvStep.τ).loc Cert.ConvStep.main_arg2) = m ((c.tc : Thread Cert.ConvStep.nD Cert.ConvStep.τ).loc Cert.ConvStep.main_arg2)
      ∧ r.2.mem ((c.tc : Thread Cert.ConvStep.nD Cert.ConvStep.τ).loc Cert.ConvStep.main_arg3) = m ((c.tc : Thread Cert.ConvStep.nD Cert.ConvStep.τ).loc Cert.ConvStep.main_arg3)
      ∧ r.2.mem ((c.tc : Thread Cert.ConvStep.nD Cert.ConvStep.τ).loc Cert.ConvStep.main_arg4) = m ((c.tc : Thread Cert.ConvStep.nD Cert.ConvStep.τ).loc Cert.ConvStep.main_arg4)
      ∧ r.2.mem ((c.tc : Thread Cert.ConvStep.nD Cert.ConvStep.τ).loc Cert.ConvStep.main_arg5) = m ((c.tc : Thread Cert.ConvStep.nD Cert.ConvStep.τ).loc Cert.ConvStep.main_arg5))
      ∧ r.2.sem = fun _ => 0)

def quiescent_ConvStepIdeal [hConvStepIdeal : Cert.ConvStepIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg), Pre_ConvStepIdeal m →
    θ_run (Cert.ConvStepIdeal.defs (F := Ideal)) (onTc (τ := Cert.ConvStepIdeal.τ) (Cert.ConvStepIdeal.main (F := Ideal))) ⟨m, fun _ => 0, g⟩ (fun r => (∀ c : Dev Cert.ConvStepIdeal.nD,
      r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
      ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
      ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
      ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3)
      ∧ r.2.mem ((c.tc : Thread Cert.ConvStepIdeal.nD Cert.ConvStepIdeal.τ).loc Cert.ConvStepIdeal.main_arg4) = m ((c.tc : Thread Cert.ConvStepIdeal.nD Cert.ConvStepIdeal.τ).loc Cert.ConvStepIdeal.main_arg4)
      ∧ r.2.mem ((c.tc : Thread Cert.ConvStepIdeal.nD Cert.ConvStepIdeal.τ).loc Cert.ConvStepIdeal.main_arg5) = m ((c.tc : Thread Cert.ConvStepIdeal.nD Cert.ConvStepIdeal.τ).loc Cert.ConvStepIdeal.main_arg5))
      ∧ r.2.sem = fun _ => 0)

def quiescent_ConvStepRefIdeal [hConvStepRefIdeal : Cert.ConvStepRefIdeal.Facts] : Prop :=
  ∀ (m : (ℓ : Loc Cert.ConvStepRefIdeal.nD Cert.ConvStepRefIdeal.τ Cert.ConvStepRefIdeal.sig) → Buf (Elt Ideal) ℓ) (g : Dev Cert.ConvStepRefIdeal.nD → PrngReg), Pre_ConvStepRefIdeal m →
    θ_run (Cert.ConvStepRefIdeal.defs (F := Ideal)) (onTc (τ := Cert.ConvStepRefIdeal.τ) (Cert.ConvStepRefIdeal.main (F := Ideal))) ⟨m, fun _ => 0, g⟩ (fun r => (∀ c : Dev Cert.ConvStepRefIdeal.nD,
      r.2.mem ((c.tc : Thread Cert.ConvStepRefIdeal.nD Cert.ConvStepRefIdeal.τ).loc Cert.ConvStepRefIdeal.main_arg0) = m ((c.tc : Thread Cert.ConvStepRefIdeal.nD Cert.ConvStepRefIdeal.τ).loc Cert.ConvStepRefIdeal.main_arg0)
      ∧ r.2.mem ((c.tc : Thread Cert.ConvStepRefIdeal.nD Cert.ConvStepRefIdeal.τ).loc Cert.ConvStepRefIdeal.main_arg1) = m ((c.tc : Thread Cert.ConvStepRefIdeal.nD Cert.ConvStepRefIdeal.τ).loc Cert.ConvStepRefIdeal.main_arg1)
      ∧ r.2.mem ((c.tc : Thread Cert.ConvStepRefIdeal.nD Cert.ConvStepRefIdeal.τ).loc Cert.ConvStepRefIdeal.main_arg2) = m ((c.tc : Thread Cert.ConvStepRefIdeal.nD Cert.ConvStepRefIdeal.τ).loc Cert.ConvStepRefIdeal.main_arg2)
      ∧ r.2.mem ((c.tc : Thread Cert.ConvStepRefIdeal.nD Cert.ConvStepRefIdeal.τ).loc Cert.ConvStepRefIdeal.main_arg3) = m ((c.tc : Thread Cert.ConvStepRefIdeal.nD Cert.ConvStepRefIdeal.τ).loc Cert.ConvStepRefIdeal.main_arg3)
      ∧ r.2.mem ((c.tc : Thread Cert.ConvStepRefIdeal.nD Cert.ConvStepRefIdeal.τ).loc Cert.ConvStepRefIdeal.main_arg4) = m ((c.tc : Thread Cert.ConvStepRefIdeal.nD Cert.ConvStepRefIdeal.τ).loc Cert.ConvStepRefIdeal.main_arg4)
      ∧ r.2.mem ((c.tc : Thread Cert.ConvStepRefIdeal.nD Cert.ConvStepRefIdeal.τ).loc Cert.ConvStepRefIdeal.main_arg5) = m ((c.tc : Thread Cert.ConvStepRefIdeal.nD Cert.ConvStepRefIdeal.τ).loc Cert.ConvStepRefIdeal.main_arg5))
      ∧ r.2.sem = fun _ => 0)

def preserves_Fox_FoxIdeal : Prop :=
  True

def algebraic_FoxIdeal_FoxRefIdeal_pre_finite_scores [hFoxIdeal : Cert.FoxIdeal.Facts] [hFoxRefIdeal : Cert.FoxRefIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_scores m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v43) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v35) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)
      ∧ m' ((c.tc : Thread Cert.KeysRefIdeal.nD Cert.KeysRefIdeal.τ).loc Cert.KeysRefIdeal.main_arg2) = m ((c.tc : Thread Cert.KeysIdeal.nD Cert.KeysIdeal.τ).loc Cert.KeysIdeal.main_arg2)) →
    ∃ (v0 : (c : Dev Cert.KeysIdeal.nD) → Buf (Elt Ideal) ((c.tc : Thread Cert.KeysIdeal.nD Cert.KeysIdeal.τ).loc Cert.KeysIdeal.main_v5)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v5) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v6) = v0 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1)
          ∧ r.2.mem ((c.tc : Thread Cert.KeysRefIdeal.nD Cert.KeysRefIdeal.τ).loc Cert.KeysRefIdeal.main_arg2) = m' ((c.tc : Thread Cert.KeysRefIdeal.nD Cert.KeysRefIdeal.τ).loc Cert.KeysRefIdeal.main_arg2))

def preserves_Values_ValuesIdeal : Prop :=
  True

def algebraic_ValuesIdeal_ValuesRefIdeal [hValuesIdeal : Cert.ValuesIdeal.Facts] [hValuesRefIdeal : Cert.ValuesRefIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)
      ∧ m' ((c.tc : Thread Cert.ValuesRefIdeal.nD Cert.ValuesRefIdeal.τ).loc Cert.ValuesRefIdeal.main_arg2) = m ((c.tc : Thread Cert.ValuesIdeal.nD Cert.ValuesIdeal.τ).loc Cert.ValuesIdeal.main_arg2)) →
    ∃ (v0 : (c : Dev Cert.ValuesIdeal.nD) → Buf (Elt Ideal) ((c.tc : Thread Cert.ValuesIdeal.nD Cert.ValuesIdeal.τ).loc Cert.ValuesIdeal.main_v5)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v5) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v6) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1)
          ∧ r.2.mem ((c.tc : Thread Cert.ValuesRefIdeal.nD Cert.ValuesRefIdeal.τ).loc Cert.ValuesRefIdeal.main_arg2) = m' ((c.tc : Thread Cert.ValuesRefIdeal.nD Cert.ValuesRefIdeal.τ).loc Cert.ValuesRefIdeal.main_arg2))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)) →
    ∃ (v0 : (c : Dev Cert.OddIdeal.nD) → Buf (Elt Ideal) ((c.tc : Thread Cert.OddIdeal.nD Cert.OddIdeal.τ).loc Cert.OddIdeal.main_v1)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v1) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v2) = v0 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1))

def preserves_Logf_LogfIdeal : Prop :=
  True

def algebraic_LogfIdeal_LogfRefIdeal [hLogfIdeal : Cert.LogfIdeal.Facts] [hLogfRefIdeal : Cert.LogfRefIdeal.Facts] : Prop :=
  ∀ (m : (ℓ : Loc Cert.LogfIdeal.nD Cert.LogfIdeal.τ Cert.LogfIdeal.sig) → Buf (Elt Ideal) ℓ) (g : Dev Cert.LogfIdeal.nD → PrngReg)
    (m' : (ℓ : Loc Cert.LogfRefIdeal.nD Cert.LogfRefIdeal.τ Cert.LogfRefIdeal.sig) → Buf (Elt Ideal) ℓ) (g' : Dev Cert.LogfRefIdeal.nD → PrngReg), Pre_LogfIdeal m →
    (∀ c : Dev Cert.LogfIdeal.nD,
      m' ((c.tc : Thread Cert.LogfRefIdeal.nD Cert.LogfRefIdeal.τ).loc Cert.LogfRefIdeal.main_arg0) = m ((c.tc : Thread Cert.LogfIdeal.nD Cert.LogfIdeal.τ).loc Cert.LogfIdeal.main_arg0)
      ∧ m' ((c.tc : Thread Cert.LogfRefIdeal.nD Cert.LogfRefIdeal.τ).loc Cert.LogfRefIdeal.main_arg1) = m ((c.tc : Thread Cert.LogfIdeal.nD Cert.LogfIdeal.τ).loc Cert.LogfIdeal.main_arg1)
      ∧ m' ((c.tc : Thread Cert.LogfRefIdeal.nD Cert.LogfRefIdeal.τ).loc Cert.LogfRefIdeal.main_arg2) = m ((c.tc : Thread Cert.LogfIdeal.nD Cert.LogfIdeal.τ).loc Cert.LogfIdeal.main_arg2)
      ∧ m' ((c.tc : Thread Cert.LogfRefIdeal.nD Cert.LogfRefIdeal.τ).loc Cert.LogfRefIdeal.main_arg3) = m ((c.tc : Thread Cert.LogfIdeal.nD Cert.LogfIdeal.τ).loc Cert.LogfIdeal.main_arg3)) →
    ∃ (v0 : (c : Dev Cert.LogfIdeal.nD) → Buf (Elt Ideal) ((c.tc : Thread Cert.LogfIdeal.nD Cert.LogfIdeal.τ).loc Cert.LogfIdeal.main_v10_0)),
      θ_run (Cert.LogfIdeal.defs (F := Ideal)) (onTc (τ := Cert.LogfIdeal.τ) (Cert.LogfIdeal.main (F := Ideal))) ⟨m, fun _ => 0, g⟩ (fun r => ∀ c : Dev Cert.LogfIdeal.nD,
          r.2.mem ((c.tc : Thread Cert.LogfIdeal.nD Cert.LogfIdeal.τ).loc Cert.LogfIdeal.main_v10_0) = v0 c
          ∧ r.2.mem ((c.tc : Thread Cert.LogfIdeal.nD Cert.LogfIdeal.τ).loc Cert.LogfIdeal.main_arg0) = m ((c.tc : Thread Cert.LogfIdeal.nD Cert.LogfIdeal.τ).loc Cert.LogfIdeal.main_arg0)
          ∧ r.2.mem ((c.tc : Thread Cert.LogfIdeal.nD Cert.LogfIdeal.τ).loc Cert.LogfIdeal.main_arg1) = m ((c.tc : Thread Cert.LogfIdeal.nD Cert.LogfIdeal.τ).loc Cert.LogfIdeal.main_arg1)
          ∧ r.2.mem ((c.tc : Thread Cert.LogfIdeal.nD Cert.LogfIdeal.τ).loc Cert.LogfIdeal.main_arg2) = m ((c.tc : Thread Cert.LogfIdeal.nD Cert.LogfIdeal.τ).loc Cert.LogfIdeal.main_arg2)
          ∧ r.2.mem ((c.tc : Thread Cert.LogfIdeal.nD Cert.LogfIdeal.τ).loc Cert.LogfIdeal.main_arg3) = m ((c.tc : Thread Cert.LogfIdeal.nD Cert.LogfIdeal.τ).loc Cert.LogfIdeal.main_arg3))
      ∧ θ_run (Cert.LogfRefIdeal.defs (F := Ideal)) (onTc (τ := Cert.LogfRefIdeal.τ) (Cert.LogfRefIdeal.main (F := Ideal))) ⟨m', fun _ => 0, g'⟩ (fun r => ∀ c : Dev Cert.LogfRefIdeal.nD,
          r.2.mem ((c.tc : Thread Cert.LogfRefIdeal.nD Cert.LogfRefIdeal.τ).loc Cert.LogfRefIdeal.main_v16) = v0 c
          ∧ r.2.mem ((c.tc : Thread Cert.LogfRefIdeal.nD Cert.LogfRefIdeal.τ).loc Cert.LogfRefIdeal.main_arg0) = m' ((c.tc : Thread Cert.LogfRefIdeal.nD Cert.LogfRefIdeal.τ).loc Cert.LogfRefIdeal.main_arg0)
          ∧ r.2.mem ((c.tc : Thread Cert.LogfRefIdeal.nD Cert.LogfRefIdeal.τ).loc Cert.LogfRefIdeal.main_arg1) = m' ((c.tc : Thread Cert.LogfRefIdeal.nD Cert.LogfRefIdeal.τ).loc Cert.LogfRefIdeal.main_arg1)
          ∧ r.2.mem ((c.tc : Thread Cert.LogfRefIdeal.nD Cert.LogfRefIdeal.τ).loc Cert.LogfRefIdeal.main_arg2) = m' ((c.tc : Thread Cert.LogfRefIdeal.nD Cert.LogfRefIdeal.τ).loc Cert.LogfRefIdeal.main_arg2)
          ∧ r.2.mem ((c.tc : Thread Cert.LogfRefIdeal.nD Cert.LogfRefIdeal.τ).loc Cert.LogfRefIdeal.main_arg3) = m' ((c.tc : Thread Cert.LogfRefIdeal.nD Cert.LogfRefIdeal.τ).loc Cert.LogfRefIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v3_0)) (v1 : (c : Dev Cert.OutprojIdeal.nD) → Buf (Elt Ideal) ((c.tc : Thread Cert.OutprojIdeal.nD Cert.OutprojIdeal.τ).loc Cert.OutprojIdeal.main_v3_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3_0) = v0 c
          ∧ r.2.mem ((c.tc : Thread Cert.OutprojIdeal.nD Cert.OutprojIdeal.τ).loc Cert.OutprojIdeal.main_v3_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v30) = v0 c
          ∧ r.2.mem ((c.tc : Thread Cert.OutprojRefIdeal.nD Cert.OutprojRefIdeal.τ).loc Cert.OutprojRefIdeal.main_v31) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v13) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v13_0)) (v1 : (c : Dev Cert.GmlpIdeal.nD) → Buf (Elt Ideal) ((c.tc : Thread Cert.GmlpIdeal.nD Cert.GmlpIdeal.τ).loc Cert.GmlpIdeal.main_v13_1)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v13_0) = v0 c
          ∧ r.2.mem ((c.tc : Thread Cert.GmlpIdeal.nD Cert.GmlpIdeal.τ).loc Cert.GmlpIdeal.main_v13_1) = v1 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v71) = v0 c
          ∧ r.2.mem ((c.tc : Thread Cert.GmlpRefIdeal.nD Cert.GmlpRefIdeal.τ).loc Cert.GmlpRefIdeal.main_v51) = v1 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)) →
    ∃ (v0 : (c : Dev Cert.GatedIdeal.nD) → Buf (Elt Ideal) ((c.tc : Thread Cert.GatedIdeal.nD Cert.GatedIdeal.τ).loc Cert.GatedIdeal.main_v5)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v5) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v6) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2))

def preserves_ConvStep_ConvStepIdeal : Prop :=
  True

def algebraic_ConvStepIdeal_ConvStepRefIdeal [hConvStepIdeal : Cert.ConvStepIdeal.Facts] [hConvStepRefIdeal : Cert.ConvStepRefIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg)
    (m' : (ℓ : Loc Cert.ConvStepRefIdeal.nD Cert.ConvStepRefIdeal.τ Cert.ConvStepRefIdeal.sig) → Buf (Elt Ideal) ℓ) (g' : Dev Cert.ConvStepRefIdeal.nD → PrngReg), Pre_ConvStepIdeal m →
    (∀ c : Dev Cert.ConvStepIdeal.nD,
      m' ((c.tc : Thread Cert.ConvStepRefIdeal.nD Cert.ConvStepRefIdeal.τ).loc Cert.ConvStepRefIdeal.main_arg0) = m ((c.tc : Thread Cert.ConvStepIdeal.nD Cert.ConvStepIdeal.τ).loc Cert.ConvStepIdeal.main_arg0)
      ∧ m' ((c.tc : Thread Cert.ConvStepRefIdeal.nD Cert.ConvStepRefIdeal.τ).loc Cert.ConvStepRefIdeal.main_arg1) = m ((c.tc : Thread Cert.ConvStepIdeal.nD Cert.ConvStepIdeal.τ).loc Cert.ConvStepIdeal.main_arg1)
      ∧ m' ((c.tc : Thread Cert.ConvStepRefIdeal.nD Cert.ConvStepRefIdeal.τ).loc Cert.ConvStepRefIdeal.main_arg2) = m ((c.tc : Thread Cert.ConvStepIdeal.nD Cert.ConvStepIdeal.τ).loc Cert.ConvStepIdeal.main_arg2)
      ∧ m' ((c.tc : Thread Cert.ConvStepRefIdeal.nD Cert.ConvStepRefIdeal.τ).loc Cert.ConvStepRefIdeal.main_arg3) = m ((c.tc : Thread Cert.ConvStepIdeal.nD Cert.ConvStepIdeal.τ).loc Cert.ConvStepIdeal.main_arg3)
      ∧ m' ((c.tc : Thread Cert.ConvStepRefIdeal.nD Cert.ConvStepRefIdeal.τ).loc Cert.ConvStepRefIdeal.main_arg4) = m ((c.tc : Thread Cert.ConvStepIdeal.nD Cert.ConvStepIdeal.τ).loc Cert.ConvStepIdeal.main_arg4)
      ∧ m' ((c.tc : Thread Cert.ConvStepRefIdeal.nD Cert.ConvStepRefIdeal.τ).loc Cert.ConvStepRefIdeal.main_arg5) = m ((c.tc : Thread Cert.ConvStepIdeal.nD Cert.ConvStepIdeal.τ).loc Cert.ConvStepIdeal.main_arg5)) →
    ∃ (v0 : (c : Dev Cert.ConvStepIdeal.nD) → Buf (Elt Ideal) ((c.tc : Thread Cert.ConvStepIdeal.nD Cert.ConvStepIdeal.τ).loc Cert.ConvStepIdeal.main_v4_1)),
      θ_run (Cert.ConvStepIdeal.defs (F := Ideal)) (onTc (τ := Cert.ConvStepIdeal.τ) (Cert.ConvStepIdeal.main (F := Ideal))) ⟨m, fun _ => 0, g⟩ (fun r => ∀ c : Dev Cert.ConvStepIdeal.nD,
          r.2.mem ((c.tc : Thread Cert.ConvStepIdeal.nD Cert.ConvStepIdeal.τ).loc Cert.ConvStepIdeal.main_v4_1) = v0 c
          ∧ r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
          ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
          ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
          ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3)
          ∧ r.2.mem ((c.tc : Thread Cert.ConvStepIdeal.nD Cert.ConvStepIdeal.τ).loc Cert.ConvStepIdeal.main_arg4) = m ((c.tc : Thread Cert.ConvStepIdeal.nD Cert.ConvStepIdeal.τ).loc Cert.ConvStepIdeal.main_arg4)
          ∧ r.2.mem ((c.tc : Thread Cert.ConvStepIdeal.nD Cert.ConvStepIdeal.τ).loc Cert.ConvStepIdeal.main_arg5) = m ((c.tc : Thread Cert.ConvStepIdeal.nD Cert.ConvStepIdeal.τ).loc Cert.ConvStepIdeal.main_arg5))
      ∧ θ_run (Cert.ConvStepRefIdeal.defs (F := Ideal)) (onTc (τ := Cert.ConvStepRefIdeal.τ) (Cert.ConvStepRefIdeal.main (F := Ideal))) ⟨m', fun _ => 0, g'⟩ (fun r => ∀ c : Dev Cert.ConvStepRefIdeal.nD,
          r.2.mem ((c.tc : Thread Cert.ConvStepRefIdeal.nD Cert.ConvStepRefIdeal.τ).loc Cert.ConvStepRefIdeal.main_v13) = v0 c
          ∧ r.2.mem ((c.tc : Thread Cert.ConvStepRefIdeal.nD Cert.ConvStepRefIdeal.τ).loc Cert.ConvStepRefIdeal.main_arg0) = m' ((c.tc : Thread Cert.ConvStepRefIdeal.nD Cert.ConvStepRefIdeal.τ).loc Cert.ConvStepRefIdeal.main_arg0)
          ∧ r.2.mem ((c.tc : Thread Cert.ConvStepRefIdeal.nD Cert.ConvStepRefIdeal.τ).loc Cert.ConvStepRefIdeal.main_arg1) = m' ((c.tc : Thread Cert.ConvStepRefIdeal.nD Cert.ConvStepRefIdeal.τ).loc Cert.ConvStepRefIdeal.main_arg1)
          ∧ r.2.mem ((c.tc : Thread Cert.ConvStepRefIdeal.nD Cert.ConvStepRefIdeal.τ).loc Cert.ConvStepRefIdeal.main_arg2) = m' ((c.tc : Thread Cert.ConvStepRefIdeal.nD Cert.ConvStepRefIdeal.τ).loc Cert.ConvStepRefIdeal.main_arg2)
          ∧ r.2.mem ((c.tc : Thread Cert.ConvStepRefIdeal.nD Cert.ConvStepRefIdeal.τ).loc Cert.ConvStepRefIdeal.main_arg3) = m' ((c.tc : Thread Cert.ConvStepRefIdeal.nD Cert.ConvStepRefIdeal.τ).loc Cert.ConvStepRefIdeal.main_arg3)
          ∧ r.2.mem ((c.tc : Thread Cert.ConvStepRefIdeal.nD Cert.ConvStepRefIdeal.τ).loc Cert.ConvStepRefIdeal.main_arg4) = m' ((c.tc : Thread Cert.ConvStepRefIdeal.nD Cert.ConvStepRefIdeal.τ).loc Cert.ConvStepRefIdeal.main_arg4)
          ∧ r.2.mem ((c.tc : Thread Cert.ConvStepRefIdeal.nD Cert.ConvStepRefIdeal.τ).loc Cert.ConvStepRefIdeal.main_arg5) = m' ((c.tc : Thread Cert.ConvStepRefIdeal.nD Cert.ConvStepRefIdeal.τ).loc Cert.ConvStepRefIdeal.main_arg5))

def Claim : Prop :=
  ∃ (hFox : Cert.Fox.Facts) (hFoxIdeal : Cert.FoxIdeal.Facts) (hFoxRefIdeal : Cert.FoxRefIdeal.Facts) (hExperts : Cert.Experts.Facts) (hExpertsIdeal : Cert.ExpertsIdeal.Facts) (hExpertsRefIdeal : Cert.ExpertsRefIdeal.Facts) (hKeys : Cert.Keys.Facts) (hKeysIdeal : Cert.KeysIdeal.Facts) (hKeysRefIdeal : Cert.KeysRefIdeal.Facts) (hValues : Cert.Values.Facts) (hValuesIdeal : Cert.ValuesIdeal.Facts) (hValuesRefIdeal : Cert.ValuesRefIdeal.Facts) (hOdd : Cert.Odd.Facts) (hOddIdeal : Cert.OddIdeal.Facts) (hOddRefIdeal : Cert.OddRefIdeal.Facts) (hLogf : Cert.Logf.Facts) (hLogfIdeal : Cert.LogfIdeal.Facts) (hLogfRefIdeal : Cert.LogfRefIdeal.Facts) (hOutproj : Cert.Outproj.Facts) (hOutprojIdeal : Cert.OutprojIdeal.Facts) (hOutprojRefIdeal : Cert.OutprojRefIdeal.Facts) (hConv : Cert.Conv.Facts) (hConvIdeal : Cert.ConvIdeal.Facts) (hConvRefIdeal : Cert.ConvRefIdeal.Facts) (hGmlp : Cert.Gmlp.Facts) (hGmlpIdeal : Cert.GmlpIdeal.Facts) (hGmlpRefIdeal : Cert.GmlpRefIdeal.Facts) (hGated : Cert.Gated.Facts) (hGatedIdeal : Cert.GatedIdeal.Facts) (hGatedRefIdeal : Cert.GatedRefIdeal.Facts) (hConvStep : Cert.ConvStep.Facts) (hConvStepIdeal : Cert.ConvStepIdeal.Facts) (hConvStepRefIdeal : Cert.ConvStepRefIdeal.Facts) (hPre_finite_scores : Cert.Pre_finite_scores.Facts) (hPre_experts_in_range : Cert.Pre_experts_in_range.Facts),
    quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_FoxRefIdeal (hFoxRefIdeal := hFoxRefIdeal)
    ∧ quiescent_FoxRefIdeal_pre_finite_scores (hFoxRefIdeal := hFoxRefIdeal) (hPre_finite_scores := hPre_finite_scores)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ quiescent_Keys (hKeys := hKeys)
    ∧ quiescent_KeysIdeal (hKeysIdeal := hKeysIdeal)
    ∧ quiescent_KeysRefIdeal (hKeysRefIdeal := hKeysRefIdeal)
    ∧ quiescent_Values (hValues := hValues)
    ∧ quiescent_ValuesIdeal (hValuesIdeal := hValuesIdeal)
    ∧ quiescent_ValuesRefIdeal (hValuesRefIdeal := hValuesRefIdeal)
    ∧ quiescent_Odd (hOdd := hOdd)
    ∧ quiescent_OddIdeal (hOddIdeal := hOddIdeal)
    ∧ quiescent_OddRefIdeal (hOddRefIdeal := hOddRefIdeal)
    ∧ quiescent_Logf (hLogf := hLogf)
    ∧ quiescent_LogfIdeal (hLogfIdeal := hLogfIdeal)
    ∧ quiescent_LogfRefIdeal (hLogfRefIdeal := hLogfRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Conv (hConv := hConv)
    ∧ quiescent_ConvIdeal (hConvIdeal := hConvIdeal)
    ∧ quiescent_ConvRefIdeal (hConvRefIdeal := hConvRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Gated (hGated := hGated)
    ∧ quiescent_GatedIdeal (hGatedIdeal := hGatedIdeal)
    ∧ quiescent_GatedRefIdeal (hGatedRefIdeal := hGatedRefIdeal)
    ∧ quiescent_ConvStep (hConvStep := hConvStep)
    ∧ quiescent_ConvStepIdeal (hConvStepIdeal := hConvStepIdeal)
    ∧ quiescent_ConvStepRefIdeal (hConvStepRefIdeal := hConvStepRefIdeal)
    ∧ preserves_Fox_FoxIdeal
    ∧ algebraic_FoxIdeal_FoxRefIdeal_pre_finite_scores (hFoxIdeal := hFoxIdeal) (hFoxRefIdeal := hFoxRefIdeal) (hPre_finite_scores := hPre_finite_scores)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Keys_KeysIdeal
    ∧ algebraic_KeysIdeal_KeysRefIdeal (hKeysIdeal := hKeysIdeal) (hKeysRefIdeal := hKeysRefIdeal)
    ∧ preserves_Values_ValuesIdeal
    ∧ algebraic_ValuesIdeal_ValuesRefIdeal (hValuesIdeal := hValuesIdeal) (hValuesRefIdeal := hValuesRefIdeal)
    ∧ preserves_Odd_OddIdeal
    ∧ algebraic_OddIdeal_OddRefIdeal (hOddIdeal := hOddIdeal) (hOddRefIdeal := hOddRefIdeal)
    ∧ preserves_Logf_LogfIdeal
    ∧ algebraic_LogfIdeal_LogfRefIdeal (hLogfIdeal := hLogfIdeal) (hLogfRefIdeal := hLogfRefIdeal)
    ∧ preserves_Outproj_OutprojIdeal
    ∧ algebraic_OutprojIdeal_OutprojRefIdeal (hOutprojIdeal := hOutprojIdeal) (hOutprojRefIdeal := hOutprojRefIdeal)
    ∧ preserves_Conv_ConvIdeal
    ∧ algebraic_ConvIdeal_ConvRefIdeal (hConvIdeal := hConvIdeal) (hConvRefIdeal := hConvRefIdeal)
    ∧ preserves_Gmlp_GmlpIdeal
    ∧ algebraic_GmlpIdeal_GmlpRefIdeal (hGmlpIdeal := hGmlpIdeal) (hGmlpRefIdeal := hGmlpRefIdeal)
    ∧ preserves_Gated_GatedIdeal
    ∧ algebraic_GatedIdeal_GatedRefIdeal (hGatedIdeal := hGatedIdeal) (hGatedRefIdeal := hGatedRefIdeal)
    ∧ preserves_ConvStep_ConvStepIdeal
    ∧ algebraic_ConvStepIdeal_ConvStepRefIdeal (hConvStepIdeal := hConvStepIdeal) (hConvStepRefIdeal := hConvStepRefIdeal)
-- ==== Pre_experts_in_range.lean ====
abbrev S26624x2048 : Shape := ⟨2, ![26624, 2048]⟩
abbrev S52 : Shape := ⟨1, ![52]⟩
abbrev S1 : Shape := ⟨1, ![1]⟩
abbrev S26624x1 : Shape := ⟨2, ![26624, 1]⟩
abbrev S2x16x2048x1024 : Shape := ⟨4, ![2, 16, 2048, 1024]⟩
abbrev S2x16x1024x2048 : Shape := ⟨4, ![2, 16, 1024, 2048]⟩
abbrev S_ : Shape := ⟨0, ![]⟩

class Facts : Prop where
  bcast_S_S52 : S_.BroadcastsInDim S52 (![] : Fin 0 → Fin S52.rank)

variable [Facts]

def fn {F : FTy → Type} [FloatOps F] (main_arg0 : FVec F S26624x2048 .bf16) (main_arg1 : IVec S52 32) (main_arg2 : IVec S1 32) (main_arg3 : FVec F S26624x1 .f32) (main_arg4 : FVec F S2x16x2048x1024 .f32) (main_arg5 : FVec F S2x16x2048x1024 .f32) (main_arg6 : FVec F S2x16x1024x2048 .f32) : IVec S52 1 :=
  let main_c : IVec S_ 32 := constantI S_ 32 0#32
  let main_v0 : IVec S52 32 := broadcastInDim S52 ![] bcast_S_S52 main_c
  let main_v1 : IVec S52 1 := cmpi .sge main_arg1 main_v0
  let main_c_0 : IVec S_ 32 := constantI S_ 32 16#32
  let main_v2 : IVec S52 32 := broadcastInDim S52 ![] bcast_S_S52 main_c_0
  let main_v3 : IVec S52 1 := cmpi .slt main_arg1 main_v2
  let main_v4 : IVec S52 1 := andi main_v1 main_v3
  main_v4
-- ==== Pre_finite_scores.lean ====
abbrev S9216x1024 : Shape := ⟨2, ![9216, 1024]⟩
abbrev S9216x8 : Shape := ⟨2, ![9216, 8]⟩
abbrev S8x9216 : Shape := ⟨2, ![8, 9216]⟩
abbrev S_ : Shape := ⟨0, ![]⟩

class Facts : Prop where
  bcast_S_S9216x1024 : S_.BroadcastsInDim S9216x1024 (![] : Fin 0 → Fin S9216x1024.rank)
  reducesTo_S9216x1024_S_d0_1 : S9216x1024.ReducesTo [0, 1] S_
  h_S_ : 0 < S_.numel
  bcast_S_S9216x8 : S_.BroadcastsInDim S9216x8 (![] : Fin 0 → Fin S9216x8.rank)
  reducesTo_S9216x8_S_d0_1 : S9216x8.ReducesTo [0, 1] S_
  bcast_S_S8x9216 : S_.BroadcastsInDim S8x9216 (![] : Fin 0 → Fin S8x9216.rank)
  reducesTo_S8x9216_S_d0_1 : S8x9216.ReducesTo [0, 1] S_

variable [Facts]

def fn_part1 {F : FTy → Type} [FloatOps F] (main_v13 : IVec S_ 1) (main_v16 : IVec S8x9216 1) : IVec S_ 1 :=
  let main_c_5 : IVec S_ 1 := constantI S_ 1 1#1
  let main_v17 : IVec S_ 1 := (fun x v => Host.reduce IntOp.andi x v reducesTo_S8x9216_S_d0_1 h_S_) main_v16 main_c_5
  let main_v18 : IVec S_ 1 := andi main_v13 main_v17
  main_v18

def fn {F : FTy → Type} [FloatOps F] (main_arg0 : FVec F S9216x1024 .f32) (main_arg1 : FVec F S9216x1024 .f32) (main_arg2 : FVec F S9216x1024 .f32) (main_arg3 : FVec F S9216x8 .f32) (main_arg4 : FVec F S8x9216 .f32) : IVec S_ 1 :=
  let main_v0 : FVec F S9216x1024 .f32 := Host.absf main_arg0
  let main_cst : FVec F S_ .f32 := constant S_ .f32 0x7F800000#32
  let main_v1 : FVec F S9216x1024 .f32 := broadcastInDim S9216x1024 ![] bcast_S_S9216x1024 main_cst
  let main_v2 : IVec S9216x1024 1 := cmpf .olt main_v0 main_v1
  let main_c : IVec S_ 1 := constantI S_ 1 1#1
  let main_v3 : IVec S_ 1 := (fun x v => Host.reduce IntOp.andi x v reducesTo_S9216x1024_S_d0_1 h_S_) main_v2 main_c
  let main_v4 : FVec F S9216x1024 .f32 := Host.absf main_arg1
  let main_cst_0 : FVec F S_ .f32 := constant S_ .f32 0x7F800000#32
  let main_v5 : FVec F S9216x1024 .f32 := broadcastInDim S9216x1024 ![] bcast_S_S9216x1024 main_cst_0
  let main_v6 : IVec S9216x1024 1 := cmpf .olt main_v4 main_v5
  let main_c_1 : IVec S_ 1 := constantI S_ 1 1#1
  let main_v7 : IVec S_ 1 := (fun x v => Host.reduce IntOp.andi x v reducesTo_S9216x1024_S_d0_1 h_S_) main_v6 main_c_1
  let main_v8 : IVec S_ 1 := andi main_v3 main_v7
  let main_v9 : FVec F S9216x8 .f32 := Host.absf main_arg3
  let main_cst_2 : FVec F S_ .f32 := constant S_ .f32 0x7F800000#32
  let main_v10 : FVec F S9216x8 .f32 := broadcastInDim S9216x8 ![] bcast_S_S9216x8 main_cst_2
  let main_v11 : IVec S9216x8 1 := cmpf .olt main_v9 main_v10
  let main_c_3 : IVec S_ 1 := constantI S_ 1 1#1
  let main_v12 : IVec S_ 1 := (fun x v => Host.reduce IntOp.andi x v reducesTo_S9216x8_S_d0_1 h_S_) main_v11 main_c_3
  let main_v13 : IVec S_ 1 := andi main_v8 main_v12
  let main_v14 : FVec F S8x9216 .f32 := Host.absf main_arg4
  let main_cst_4 : FVec F S_ .f32 := constant S_ .f32 0x7F800000#32
  let main_v15 : FVec F S8x9216 .f32 := broadcastInDim S8x9216 ![] bcast_S_S8x9216 main_cst_4
  let main_v16 : IVec S8x9216 1 := cmpf .olt main_v14 main_v15
  fn_part1 (F := F) main_v13 main_v16
-- ==== Fox.lean ====
abbrev S9216x1024 : Shape := ⟨2, ![9216, 1024]⟩
abbrev S9216x8 : Shape := ⟨2, ![9216, 8]⟩
abbrev S8x9216 : Shape := ⟨2, ![8, 9216]⟩
abbrev S8192x1024 : Shape := ⟨2, ![8192, 1024]⟩
abbrev S512x128 : Shape := ⟨2, ![512, 128]⟩
abbrev S2048x128 : Shape := ⟨2, ![2048, 128]⟩
abbrev S512x8 : Shape := ⟨2, ![512, 8]⟩
abbrev S8x2048 : Shape := ⟨2, ![8, 2048]⟩
abbrev S512 : Shape := ⟨1, ![512]⟩
abbrev S512x1 : Shape := ⟨2, ![512, 1]⟩
abbrev S512x512 : Shape := ⟨2, ![512, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x8, .f32⟩
  | .hbm, ⟨4, _⟩ => ⟨S8x9216, .f32⟩
  | .hbm, ⟨5, _⟩ => ⟨S8192x1024, .bf16⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x8, .f32⟩
  | .local _ .vmem, ⟨7, _⟩ => ⟨S512x8, .f32⟩
  | .local _ .vmem, ⟨8, _⟩ => ⟨S8x2048, .f32⟩
  | .local _ .vmem, ⟨9, _⟩ => ⟨S8x2048, .f32⟩
  | .local _ .vmem, ⟨10, _⟩ => ⟨S512x128, .bf16⟩
  | .local _ .vmem, ⟨11, _⟩ => ⟨S512x128, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v18 : BitVec 32 := Scalar.addi arg2 c1_i32
  let v19 : BitVec 32 := Scalar.subi v18 c0_i32
  let c1_i32_7 : BitVec 32 := 1#32
  let v21 : BitVec 32 := Scalar.divsi v19 c1_i32_7
  let v22 : BitVec 32 := Scalar.muli v21 c1_i32_7
  let v23 : BitVec 32 := Scalar.addi c0_i32 v22
  let c1_i32_8 : BitVec 32 := 1#32
  ⟨c0_i32, v23, c1_i32_8⟩
def k0_mult1 (i : grid0.Coords) (k0_t1 : Fin (k0_t1_loop i).trips) : BitVec 32 :=
  let c0_i32 : BitVec 32 := 0#32
  let c1_i32_8 : BitVec 32 := 1#32
  let arg9 : BitVec 32 := Scf.iv c0_i32 c1_i32_8 k0_t1
  let c512_i32_12 : BitVec 32 := 512#32
  let v30 : BitVec 32 := Scalar.muli arg9 c512_i32_12
  v30
def k0_off1 (i : grid0.Coords) (k0_t1 : Fin (k0_t1_loop i).trips) : Fin 2 → Nat :=
  let c0_i32 : BitVec 32 := 0#32
  let c1_i32_8 : BitVec 32 := 1#32
  let arg9 : BitVec 32 := Scf.iv c0_i32 c1_i32_8 k0_t1
  let c512_i32_12 : BitVec 32 := 512#32
  let v30 : BitVec 32 := Scalar.muli arg9 c512_i32_12
  let v31 : BitVec 32 := v30
  let v32 : Index := Scalar.indexCast v31
  let c0_13 : Index := 0#32
  ![v32.toNat, 0]
def k0_off2 (i : grid0.Coords) (k0_t1 : Fin (k0_t1_loop i).trips) : Fin 2 → Nat :=
  let arg1 : BitVec 32 := BitVec.ofNat 32 (i 1).val
  let v38 : Index := Scalar.indexCast arg1
  let c0_i32 : BitVec 32 := 0#32
  let c1_i32_8 : BitVec 32 := 1#32
  let arg9 : BitVec 32 := Scf.iv c0_i32 c1_i32_8 k0_t1
  let c512_i32_12 : BitVec 32 := 512#32
  let v30 : BitVec 32 := Scalar.muli arg9 c512_i32_12
  let v31 : BitVec 32 := v30
  let v39 : Index := Scalar.indexCast v31
  ![v38.toNat, v39.toNat]
@[reducible] def k0_t2_loop (i : grid0.Coords) : Scf.Loop 32 :=
  let c0_i32 : BitVec 32 := 0#32
  let arg2 : BitVec 32 := BitVec.ofNat 32 (i 2).val
  let c1_i32 : BitVec 32 := 1#32
  let v18 : BitVec 32 := Scalar.addi arg2 c1_i32
  let v19 : BitVec 32 := Scalar.subi v18 c0_i32
  let c1_i32_7 : BitVec 32 := 1#32
  let v21 : BitVec 32 := Scalar.divsi v19 c1_i32_7
  let v22 : BitVec 32 := Scalar.muli v21 c1_i32_7
  let v23 : BitVec 32 := Scalar.addi c0_i32 v22
  let v20 : BitVec 32 := Scalar.addi c0_i32 v19
  let c1_i32_9 : BitVec 32 := 1#32
  ⟨v23, v20, c1_i32_9⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v18 : BitVec 32 := Scalar.addi arg2 c1_i32
  let v19 : BitVec 32 := Scalar.subi v18 c0_i32
  let c1_i32_7 : BitVec 32 := 1#32
  let v21 : BitVec 32 := Scalar.divsi v19 c1_i32_7
  let v22 : BitVec 32 := Scalar.muli v21 c1_i32_7
  let v23 : BitVec 32 := Scalar.addi c0_i32 v22
  let c1_i32_9 : BitVec 32 := 1#32
  let arg9 : BitVec 32 := Scf.iv v23 c1_i32_9 k0_t2
  let c512_i32_12 : BitVec 32 := 512#32
  let v30 : BitVec 32 := Scalar.muli arg9 c512_i32_12
  v30
def k0_off3 (i : grid0.Coords) (k0_t2 : Fin (k0_t2_loop i).trips) : Fin 2 → Nat :=
  let c0_i32 : BitVec 32 := 0#32
  let arg2 : BitVec 32 := BitVec.ofNat 32 (i 2).val
  let c1_i32 : BitVec 32 := 1#32
  let v18 : BitVec 32 := Scalar.addi arg2 c1_i32
  let v19 : BitVec 32 := Scalar.subi v18 c0_i32
  let c1_i32_7 : BitVec 32 := 1#32
  let v21 : BitVec 32 := Scalar.divsi v19 c1_i32_7
  let v22 : BitVec 32 := Scalar.muli v21 c1_i32_7
  let v23 : BitVec 32 := Scalar.addi c0_i32 v22
  let c1_i32_9 : BitVec 32 := 1#32
  let arg9 : BitVec 32 := Scf.iv v23 c1_i32_9 k0_t2
  let c512_i32_12 : BitVec 32 := 512#32
  let v30 : BitVec 32 := Scalar.muli arg9 c512_i32_12
  let v31 : BitVec 32 := v30
  let v32 : Index := Scalar.indexCast v31
  let c0_13 : Index := 0#32
  ![v32.toNat, 0]
def k0_off4 (i : grid0.Coords) (k0_t2 : Fin (k0_t2_loop i).trips) : Fin 2 → Nat :=
  let arg1 : BitVec 32 := BitVec.ofNat 32 (i 1).val
  let v38 : Index := Scalar.indexCast arg1
  let c0_i32 : BitVec 32 := 0#32
  let arg2 : BitVec 32 := BitVec.ofNat 32 (i 2).val
  let c1_i32 : BitVec 32 := 1#32
  let v18 : BitVec 32 := Scalar.addi arg2 c1_i32
  let v19 : BitVec 32 := Scalar.subi v18 c0_i32
  let c1_i32_7 : BitVec 32 := 1#32
  let v21 : BitVec 32 := Scalar.divsi v19 c1_i32_7
  let v22 : BitVec 32 := Scalar.muli v21 c1_i32_7
  let v23 : BitVec 32 := Scalar.addi c0_i32 v22
  let c1_i32_9 : BitVec 32 := 1#32
  let arg9 : BitVec 32 := Scf.iv v23 c1_i32_9 k0_t2
  let c512_i32_12 : BitVec 32 := 512#32
  let v30 : BitVec 32 := Scalar.muli arg9 c512_i32_12
  let v31 : BitVec 32 := v30
  let v39 : Index := Scalar.indexCast v31
  ![v38.toNat, v39.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxRefIdeal.lean ====
abbrev S9216x1024 : Shape := ⟨2, ![9216, 1024]⟩
abbrev S9216x8 : Shape := ⟨2, ![9216, 8]⟩
abbrev S8x9216 : Shape := ⟨2, ![8, 9216]⟩
abbrev S8192x1024 : Shape := ⟨2, ![8192, 1024]⟩
abbrev S4x2048x8x128 : Shape := ⟨4, ![4, 2048, 8, 128]⟩
abbrev S8192x8 : Shape := ⟨2, ![8192, 8]⟩
abbrev S4x2048x8 : Shape := ⟨3, ![4, 2048, 8]⟩
abbrev S2048 : Shape := ⟨1, ![2048]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S2048x1 : Shape := ⟨2, ![2048, 1]⟩
abbrev S1x2048 : Shape := ⟨2, ![1, 2048]⟩
abbrev S2048x2048 : Shape := ⟨2, ![2048, 2048]⟩
abbrev S4x8x128x2048 : Shape := ⟨4, ![4, 8, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x8, .f32⟩
  | .hbm, ⟨4, _⟩ => ⟨S8x9216, .f32⟩
  | .hbm, ⟨5, _⟩ => ⟨S8192x1024, .f32⟩
  | .hbm, ⟨6, _⟩ => ⟨S4x2048x8x128, .f32⟩
  | .hbm, ⟨7, _⟩ => ⟨S8192x1024, .f32⟩
  | .hbm, ⟨8, _⟩ => ⟨S4x2048x8x128, .f32⟩
  | .hbm, ⟨9, _⟩ => ⟨S8192x1024, .f32⟩
  | .hbm, ⟨10, _⟩ => ⟨S4x2048x8x128, .f32⟩
  | .hbm, ⟨11, _⟩ => ⟨S8192x8, .f32⟩
  | .hbm, ⟨12, _⟩ => ⟨S4x2048x8, .f32⟩
  | .hbm, ⟨13, _⟩ => ⟨S9216x8, .f32⟩
  | .hbm, ⟨14, _⟩ => ⟨S8192x8, .f32⟩
  | .hbm, ⟨15, _⟩ => ⟨S4x2048x8, .f32⟩
  | .hbm, ⟨16, _⟩ => ⟨S2048, .i32⟩
  | .hbm, ⟨17, _⟩ => ⟨S4x8x2048x2048, .f32⟩
  | .hbm, ⟨18, _⟩ => ⟨S_, .f32⟩
  | .hbm, ⟨19, _⟩ => ⟨S4x8x2048x2048, .f32⟩
  | .hbm, ⟨20, _⟩ => ⟨S4x8x2048x2048, .f32⟩
  | .hbm, ⟨21, _⟩ => ⟨S4x8x2048, .f32⟩
  | .hbm, ⟨22, _⟩ => ⟨S4x8x2048x1, .f32⟩
  | .hbm, ⟨23, _⟩ => ⟨S4x8x2048x2048, .f32⟩
  | .hbm, ⟨24, _⟩ => ⟨S4x8x2048x2048, .f32⟩
  | .hbm, ⟨25, _⟩ => ⟨S4x8x2048, .f32⟩
  | .hbm, ⟨26, _⟩ => ⟨S4x8x1x2048, .f32⟩
  | .hbm, ⟨27, _⟩ => ⟨S4x8x2048x2048, .f32⟩
  | .hbm, ⟨28, _⟩ => ⟨S4x8x2048x2048, .f32⟩
  | .hbm, ⟨29, _⟩ => ⟨S2048x1, .i32⟩
  | .hbm, ⟨30, _⟩ => ⟨S1x2048, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S4x8x2048x2048, .i1⟩
  | .hbm, ⟨37, _⟩ => ⟨S4x8x2048x2048, .f32⟩
  | .hbm, ⟨38, _⟩ => ⟨S4x8x2048x2048, .f32⟩
  | .hbm, ⟨39, _⟩ => ⟨S_, .f32⟩
  | .hbm, ⟨40, _⟩ => ⟨S4x8x2048, .f32⟩
  | .hbm, ⟨41, _⟩ => ⟨S_, .f32⟩
  | .hbm, ⟨42, _⟩ => ⟨S4x8x2048, .f32⟩
  | .hbm, ⟨43, _⟩ => ⟨S4x8x2048, .f32⟩
  | .hbm, ⟨44, _⟩ => ⟨S4x8x2048x1, .f32⟩
  | .hbm, ⟨45, _⟩ => ⟨S4x8x2048x2048, .f32⟩
  | .hbm, ⟨46, _⟩ => ⟨S4x8x2048x2048, .f32⟩
  | .hbm, ⟨47, _⟩ => ⟨S4x8x2048x2048, .f32⟩
  | .hbm, ⟨48, _⟩ => ⟨S_, .f32⟩
  | .hbm, ⟨49, _⟩ => ⟨S4x8x2048, .f32⟩
  | .hbm, ⟨50, _⟩ => ⟨S4x8x2048x1, .f32⟩
  | .hbm, ⟨51, _⟩ => ⟨S4x8x2048x2048, .f32⟩
  | .hbm, ⟨52, _⟩ => ⟨S4x8x2048x2048, .f32⟩
  | .hbm, ⟨53, _⟩ => ⟨S4x8x128x2048, .f32⟩
  | .hbm, ⟨54, _⟩ => ⟨S4x2048x8x128, .f32⟩
  | .hbm, ⟨55, _⟩ => ⟨S8192x1024, .f32⟩
  | .hbm, ⟨56, _⟩ => ⟨S8192x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Experts.lean ====
abbrev S26624x2048 : Shape := ⟨2, ![26624, 2048]⟩
abbrev S52 : Shape := ⟨1, ![52]⟩
abbrev S1 : Shape := ⟨1, ![1]⟩
abbrev S26624x1 : Shape := ⟨2, ![26624, 1]⟩
abbrev S2x16x2048x1024 : Shape := ⟨4, ![2, 16, 2048, 1024]⟩
abbrev S2x16x1024x2048 : Shape := ⟨4, ![2, 16, 1024, 2048]⟩
abbrev S512x2048 : Shape := ⟨2, ![512, 2048]⟩
abbrev S1x1x2048x256 : Shape := ⟨4, ![1, 1, 2048, 256]⟩
abbrev S1x1x256x2048 : Shape := ⟨4, ![1, 1, 256, 2048]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 6
  | .vmem => 12
  | .smem => 2
  | _ => 0

abbrev bufTy : (tb : Table) → Fin (tcTables nBuf tb) → BufTy
  | .hbm, ⟨0, _⟩ => ⟨S26624x2048, .bf16⟩
  | .hbm, ⟨1, _⟩ => ⟨S26624x1, .f32⟩
  | .hbm, ⟨2, _⟩ => ⟨S2x16x2048x1024, .f32⟩
  | .hbm, ⟨3, _⟩ => ⟨S2x16x2048x1024, .f32⟩
  | .hbm, ⟨4, _⟩ => ⟨S2x16x1024x2048, .f32⟩
  | .hbm, ⟨5, _⟩ => ⟨S26624x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x256x2048, .f32⟩
  | .local _ .vmem, ⟨7, _⟩ => ⟨S1x1x256x2048, .f32⟩
  | .local _ .vmem, ⟨8, _⟩ => ⟨S512x1, .f32⟩
  | .local _ .vmem, ⟨9, _⟩ => ⟨S512x1, .f32⟩
  | .local _ .vmem, ⟨10, _⟩ => ⟨S512x2048, .f32⟩
  | .local _ .vmem, ⟨11, _⟩ => ⟨S512x2048, .f32⟩
  | .local _ .smem, ⟨0, _⟩ => ⟨S52, .i32⟩
  | .local _ .smem, ⟨1, _⟩ => ⟨S1, .i32⟩
  | _, _ => ⟨S26624x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![52, 4], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_21 : BitVec 32 := 0#32
  let v32 : BitVec 1 := Scalar.cmpi .eq arg1 c0_i32_21
  let v33 : BitVec 32 := Scalar.extui v32
  let c0_i32_22 : BitVec 32 := 0#32
  let v34 : BitVec 1 := Scalar.cmpi .ne v33 c0_i32_22
  v34

def k0_cond3 (i : grid0.Coords) : BitVec 1 :=
  let arg1 : BitVec 32 := BitVec.ofNat 32 (i 1).val
  let c0_i32_23 : BitVec 32 := 0#32
  let v35 : BitVec 1 := Scalar.cmpi .sgt arg1 c0_i32_23
  let v36 : BitVec 32 := Scalar.extui v35
  let c0_i32_24 : BitVec 32 := 0#32
  let v37 : BitVec 1 := Scalar.cmpi .ne v36 c0_i32_24
  v37

def k0_cond4 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_25 : BitVec 32 := 0#32
  let v40 : BitVec 1 := Scalar.cmpi .ne v39 c0_i32_25
  v40

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S52.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S52) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg1.toNat]

def cc0_transform_2 (k0_off1_inb : ∀ i : grid0.Coords, ∀ a, (k0_off1 i) a + S1.size a ≤ S52.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S52) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg1.toNat]

def cc0_transform_3 (k0_off1_inb : ∀ i : grid0.Coords, ∀ a, (k0_off1 i) a + S1.size a ≤ S52.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S52) ![v0.toNat] S1.size (k0_off1_inb i)) numel1_S1
  let c0_i32 : BitVec 32 := 0#32
  let c0_i32_0 : BitVec 32 := 0#32
  let c0_i32_1 : BitVec 32 := 0#32
  ![c0_i32.toNat, v1.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertsRefIdeal.lean ====
abbrev S26624x2048 : Shape := ⟨2, ![26624, 2048]⟩
abbrev S52 : Shape := ⟨1, ![52]⟩
abbrev S1 : Shape := ⟨1, ![1]⟩
abbrev S26624x1 : Shape := ⟨2, ![26624, 1]⟩
abbrev S2x16x2048x1024 : Shape := ⟨4, ![2, 16, 2048, 1024]⟩
abbrev S2x16x1024x2048 : Shape := ⟨4, ![2, 16, 1024, 2048]⟩
abbrev S26624 : Shape := ⟨1, ![26624]⟩
abbrev S_ : Shape := ⟨0, ![]⟩
abbrev S52x512 : Shape := ⟨2, ![52, 512]⟩
abbrev S16 : Shape := ⟨1, ![16]⟩
abbrev S1x16 : Shape := ⟨2, ![1, 16]⟩
abbrev S26624x16 : Shape := ⟨2, ![26624, 16]⟩
abbrev S1x16x2048x1024 : Shape := ⟨4, ![1, 16, 2048, 1024]⟩
abbrev S16x2048x1024 : Shape := ⟨3, ![16, 2048, 1024]⟩
abbrev S16x1024x26624 : Shape := ⟨3, ![16, 1024, 26624]⟩
abbrev S16x26624x1024 : Shape := ⟨3, ![16, 26624, 1024]⟩
abbrev S1x16x1024x2048 : Shape := ⟨4, ![1, 16, 1024, 2048]⟩
abbrev S16x1024x2048 : Shape := ⟨3, ![16, 1024, 2048]⟩
abbrev S16x26624x2048 : Shape := ⟨3, ![16, 26624, 2048]⟩
abbrev S16x26624 : Shape := ⟨2, ![16, 26624]⟩
abbrev S16x26624x1 : Shape := ⟨3, ![16, 26624, 1]⟩

abbrev nBuf : Space → Nat
  | .hbm => 73
  | .vmem => 0
  | .smem => 0
  | _ => 0

abbrev bufTy : (tb : Table) → Fin (tcTables nBuf tb) → BufTy
  | .hbm, ⟨0, _⟩ => ⟨S26624x2048, .bf16⟩
  | .hbm, ⟨1, _⟩ => ⟨S52, .i32⟩
  | .hbm, ⟨2, _⟩ => ⟨S1, .i32⟩
  | .hbm, ⟨3, _⟩ => ⟨S26624x1, .f32⟩
  | .hbm, ⟨4, _⟩ => ⟨S2x16x2048x1024, .f32⟩
  | .hbm, ⟨5, _⟩ => ⟨S2x16x2048x1024, .f32⟩
  | .hbm, ⟨6, _⟩ => ⟨S2x16x1024x2048, .f32⟩
  | .hbm, ⟨7, _⟩ => ⟨S26624x2048, .f32⟩
  | .hbm, ⟨8, _⟩ => ⟨S26624, .i32⟩
  | .hbm, ⟨9, _⟩ => ⟨S_, .i32⟩
  | .hbm, ⟨10, _⟩ => ⟨S_, .i32⟩
  | .hbm, ⟨11, _⟩ => ⟨S26624, .i32⟩
  | .hbm, ⟨12, _⟩ => ⟨S26624, .i32⟩
  | .hbm, ⟨13, _⟩ => ⟨S26624, .i32⟩
  | .hbm, ⟨14, _⟩ => ⟨S_, .i32⟩
  | .hbm, ⟨15, _⟩ => ⟨S26624, .i32⟩
  | .hbm, ⟨16, _⟩ => ⟨S26624, .i1⟩
  | .hbm, ⟨17, _⟩ => ⟨S26624, .i32⟩
  | .hbm, ⟨18, _⟩ => ⟨S26624, .i32⟩
  | .hbm, ⟨19, _⟩ => ⟨S_, .i32⟩
  | .hbm, ⟨20, _⟩ => ⟨S26624, .i32⟩
  | .hbm, ⟨21, _⟩ => ⟨S26624, .i1⟩
  | .hbm, ⟨22, _⟩ => ⟨S26624, .i1⟩
  | .hbm, ⟨23, _⟩ => ⟨S_, .i32⟩
  | .hbm, ⟨24, _⟩ => ⟨S26624, .i32⟩
  | .hbm, ⟨25, _⟩ => ⟨S26624, .i32⟩
  | .hbm, ⟨26, _⟩ => ⟨S26624, .i32⟩
  | .hbm, ⟨27, _⟩ => ⟨S52x512, .i32⟩
  | .hbm, ⟨28, _⟩ => ⟨S26624, .i32⟩
  | .hbm, ⟨29, _⟩ => ⟨S26624x1, .i32⟩
  | .hbm, ⟨30, _⟩ => ⟨S16, .i32⟩
  | .hbm, ⟨31, _⟩ => ⟨S1x16, .i32⟩
  | .hbm, ⟨32, _⟩ => ⟨S26624x16, .i32⟩
  | .hbm, ⟨33, _⟩ => ⟨S26624x16, .i32⟩
  | .hbm, ⟨34, _⟩ => ⟨S26624x16, .i1⟩
  | .hbm, ⟨35, _⟩ => ⟨S_, .i32⟩
  | .hbm, ⟨36, _⟩ => ⟨S26624, .i32⟩
  | .hbm, ⟨37, _⟩ => ⟨S26624, .i1⟩
  | .hbm, ⟨38, _⟩ => ⟨S26624x1, .i1⟩
  | .hbm, ⟨39, _⟩ => ⟨S26624x16, .i1⟩
  | .hbm, ⟨40, _⟩ => ⟨S26624x16, .i1⟩
  | .hbm, ⟨41, _⟩ => ⟨S_, .f32⟩
  | .hbm, ⟨42, _⟩ => ⟨S_, .f32⟩
  | .hbm, ⟨43, _⟩ => ⟨S26624x16, .f32⟩
  | .hbm, ⟨44, _⟩ => ⟨S26624x16, .f32⟩
  | .hbm, ⟨45, _⟩ => ⟨S26624x16, .f32⟩
  | .hbm, ⟨46, _⟩ => ⟨S1x16x2048x1024, .f32⟩
  | .hbm, ⟨47, _⟩ => ⟨S16x2048x1024, .f32⟩
  | .hbm, ⟨48, _⟩ => ⟨S16x1024x26624, .f32⟩
  | .hbm, ⟨49, _⟩ => ⟨S16x26624x1024, .f32⟩
  | .hbm, ⟨50, _⟩ => ⟨S16x26624x1024, .f32⟩
  | .hbm, ⟨51, _⟩ => ⟨S16x26624x1024, .f32⟩
  | .hbm, ⟨52, _⟩ => ⟨S_, .f32⟩
  | .hbm, ⟨53, _⟩ => ⟨S16x26624x1024, .f32⟩
  | .hbm, ⟨54, _⟩ => ⟨S16x26624x1024, .f32⟩
  | .hbm, ⟨55, _⟩ => ⟨S_, .f32⟩
  | .hbm, ⟨56, _⟩ => ⟨S16x26624x1024, .f32⟩
  | .hbm, ⟨57, _⟩ => ⟨S16x26624x1024, .f32⟩
  | .hbm, ⟨58, _⟩ => ⟨S16x26624x1024, .f32⟩
  | .hbm, ⟨59, _⟩ => ⟨S1x16x2048x1024, .f32⟩
  | .hbm, ⟨60, _⟩ => ⟨S16x2048x1024, .f32⟩
  | .hbm, ⟨61, _⟩ => ⟨S16x1024x26624, .f32⟩
  | .hbm, ⟨62, _⟩ => ⟨S16x26624x1024, .f32⟩
  | .hbm, ⟨63, _⟩ => ⟨S16x26624x1024, .f32⟩
  | .hbm, ⟨64, _⟩ => ⟨S1x16x1024x2048, .f32⟩
  | .hbm, ⟨65, _⟩ => ⟨S16x1024x2048, .f32⟩
  | .hbm, ⟨66, _⟩ => ⟨S16x26624x2048, .f32⟩
  | .hbm, ⟨67, _⟩ => ⟨S16x26624, .f32⟩
  | .hbm, ⟨68, _⟩ => ⟨S16x26624x1, .f32⟩
  | .hbm, ⟨69, _⟩ => ⟨S16x26624x2048, .f32⟩
  | .hbm, ⟨70, _⟩ => ⟨S16x26624x2048, .f32⟩
  | .hbm, ⟨71, _⟩ => ⟨S_, .f32⟩
  | .hbm, ⟨72, _⟩ => ⟨S26624x2048, .f32⟩
  | _, _ => ⟨S26624x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_0 : Ref sig .tc := ⟨.hbm, 71, rfl⟩
abbrev main_v35 : Ref sig .tc := ⟨.hbm, 72, rfl⟩

abbrev nD : Nat := 1
abbrev τ : Topo := Topo.v7x

variable {F : FTy → Type} [FloatOps F]
-- ==== Keys.lean ====
abbrev S4x2048x2048 : Shape := ⟨3, ![4, 2048, 2048]⟩
abbrev S128x8x2048 : Shape := ⟨3, ![128, 8, 2048]⟩
abbrev S1x2048x5128 : Shape := ⟨3, ![1, 2048, 5128]⟩
abbrev S8192x2048 : Shape := ⟨2, ![8192, 2048]⟩
abbrev S1024x2048 : Shape := ⟨2, ![1024, 2048]⟩
abbrev S9216x2048 : Shape := ⟨2, ![9216, 2048]⟩
abbrev S2048x5128 : Shape := ⟨2, ![2048, 5128]⟩
abbrev S9216x1024 : Shape := ⟨2, ![9216, 1024]⟩
abbrev S2048x512 : Shape := ⟨2, ![2048, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048x5128, .f32⟩
  | .hbm, ⟨3, _⟩ => ⟨S8192x2048, .f32⟩
  | .hbm, ⟨4, _⟩ => ⟨S1024x2048, .f32⟩
  | .hbm, ⟨5, _⟩ => ⟨S9216x2048, .f32⟩
  | .hbm, ⟨6, _⟩ => ⟨S9216x2048, .bf16⟩
  | .hbm, ⟨7, _⟩ => ⟨S2048x5128, .f32⟩
  | .hbm, ⟨8, _⟩ => ⟨S9216x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeysRefIdeal.lean ====
abbrev S4x2048x2048 : Shape := ⟨3, ![4, 2048, 2048]⟩
abbrev S128x8x2048 : Shape := ⟨3, ![128, 8, 2048]⟩
abbrev S1x2048x5128 : Shape := ⟨3, ![1, 2048, 5128]⟩
abbrev S1x2048x1024 : Shape := ⟨3, ![1, 2048, 1024]⟩
abbrev S2048x1024 : Shape := ⟨2, ![2048, 1024]⟩
abbrev S4x2048x1024 : Shape := ⟨3, ![4, 2048, 1024]⟩
abbrev S128x8x1024 : Shape := ⟨3, ![128, 8, 1024]⟩
abbrev S8192x1024 : Shape := ⟨2, ![8192, 1024]⟩
abbrev S1024x1024 : Shape := ⟨2, ![1024, 1024]⟩
abbrev S9216x1024 : Shape := ⟨2, ![9216, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048x5128, .f32⟩
  | .hbm, ⟨3, _⟩ => ⟨S1x2048x1024, .f32⟩
  | .hbm, ⟨4, _⟩ => ⟨S2048x1024, .f32⟩
  | .hbm, ⟨5, _⟩ => ⟨S4x2048x1024, .f32⟩
  | .hbm, ⟨6, _⟩ => ⟨S128x8x1024, .f32⟩
  | .hbm, ⟨7, _⟩ => ⟨S8192x1024, .f32⟩
  | .hbm, ⟨8, _⟩ => ⟨S1024x1024, .f32⟩
  | .hbm, ⟨9, _⟩ => ⟨S9216x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Values.lean ====
abbrev S4x2048x2048 : Shape := ⟨3, ![4, 2048, 2048]⟩
abbrev S128x8x2048 : Shape := ⟨3, ![128, 8, 2048]⟩
abbrev S1x2048x5128 : Shape := ⟨3, ![1, 2048, 5128]⟩
abbrev S8192x2048 : Shape := ⟨2, ![8192, 2048]⟩
abbrev S1024x2048 : Shape := ⟨2, ![1024, 2048]⟩
abbrev S9216x2048 : Shape := ⟨2, ![9216, 2048]⟩
abbrev S2048x5128 : Shape := ⟨2, ![2048, 5128]⟩
abbrev S9216x1024 : Shape := ⟨2, ![9216, 1024]⟩
abbrev S2048x512 : Shape := ⟨2, ![2048, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048x5128, .f32⟩
  | .hbm, ⟨3, _⟩ => ⟨S8192x2048, .f32⟩
  | .hbm, ⟨4, _⟩ => ⟨S1024x2048, .f32⟩
  | .hbm, ⟨5, _⟩ => ⟨S9216x2048, .f32⟩
  | .hbm, ⟨6, _⟩ => ⟨S9216x2048, .bf16⟩
  | .hbm, ⟨7, _⟩ => ⟨S2048x5128, .f32⟩
  | .hbm, ⟨8, _⟩ => ⟨S9216x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesRefIdeal.lean ====
abbrev S4x2048x2048 : Shape := ⟨3, ![4, 2048, 2048]⟩
abbrev S128x8x2048 : Shape := ⟨3, ![128, 8, 2048]⟩
abbrev S1x2048x5128 : Shape := ⟨3, ![1, 2048, 5128]⟩
abbrev S1x2048x1024 : Shape := ⟨3, ![1, 2048, 1024]⟩
abbrev S2048x1024 : Shape := ⟨2, ![2048, 1024]⟩
abbrev S4x2048x1024 : Shape := ⟨3, ![4, 2048, 1024]⟩
abbrev S128x8x1024 : Shape := ⟨3, ![128, 8, 1024]⟩
abbrev S8192x1024 : Shape := ⟨2, ![8192, 1024]⟩
abbrev S1024x1024 : Shape := ⟨2, ![1024, 1024]⟩
abbrev S9216x1024 : Shape := ⟨2, ![9216, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048x5128, .f32⟩
  | .hbm, ⟨3, _⟩ => ⟨S1x2048x1024, .f32⟩
  | .hbm, ⟨4, _⟩ => ⟨S2048x1024, .f32⟩
  | .hbm, ⟨5, _⟩ => ⟨S4x2048x1024, .f32⟩
  | .hbm, ⟨6, _⟩ => ⟨S128x8x1024, .f32⟩
  | .hbm, ⟨7, _⟩ => ⟨S8192x1024, .f32⟩
  | .hbm, ⟨8, _⟩ => ⟨S1024x1024, .f32⟩
  | .hbm, ⟨9, _⟩ => ⟨S9216x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Odd.lean ====
abbrev S9216x2048 : Shape := ⟨2, ![9216, 2048]⟩
abbrev S1x2048x6144 : Shape := ⟨3, ![1, 2048, 6144]⟩
abbrev S2048x6144 : Shape := ⟨2, ![2048, 6144]⟩
abbrev S9216x6144 : Shape := ⟨2, ![9216, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S9216x2048, .bf16⟩
  | .hbm, ⟨1, _⟩ => ⟨S1x2048x6144, .f32⟩
  | .hbm, ⟨2, _⟩ => ⟨S2048x6144, .f32⟩
  | .hbm, ⟨3, _⟩ => ⟨S9216x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddRefIdeal.lean ====
abbrev S9216x2048 : Shape := ⟨2, ![9216, 2048]⟩
abbrev S1x2048x6144 : Shape := ⟨3, ![1, 2048, 6144]⟩
abbrev S2048x6144 : Shape := ⟨2, ![2048, 6144]⟩
abbrev S9216x6144 : Shape := ⟨2, ![9216, 6144]⟩

abbrev nBuf : Space → Nat
  | .hbm => 5
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x6144, .f32⟩
  | .hbm, ⟨2, _⟩ => ⟨S9216x2048, .f32⟩
  | .hbm, ⟨3, _⟩ => ⟨S2048x6144, .f32⟩
  | .hbm, ⟨4, _⟩ => ⟨S9216x6144, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Logf.lean ====
abbrev S4x2048x2048 : Shape := ⟨3, ![4, 2048, 2048]⟩
abbrev S128x8x2048 : Shape := ⟨3, ![128, 8, 2048]⟩
abbrev S1x2048x5128 : Shape := ⟨3, ![1, 2048, 5128]⟩
abbrev S1x8 : Shape := ⟨2, ![1, 8]⟩
abbrev S8192x2048 : Shape := ⟨2, ![8192, 2048]⟩
abbrev S1024x2048 : Shape := ⟨2, ![1024, 2048]⟩
abbrev S9216x2048 : Shape := ⟨2, ![9216, 2048]⟩
abbrev S2048x5128 : Shape := ⟨2, ![2048, 5128]⟩
abbrev S2048x8 : Shape := ⟨2, ![2048, 8]⟩
abbrev S8 : Shape := ⟨1, ![8]⟩
abbrev S8x2048 : Shape := ⟨2, ![8, 2048]⟩
abbrev S8x1 : Shape := ⟨2, ![8, 1]⟩
abbrev S9216x8 : Shape := ⟨2, ![9216, 8]⟩
abbrev S8x9216 : Shape := ⟨2, ![8, 9216]⟩
abbrev S512x2048 : Shape := ⟨2, ![512, 2048]⟩
abbrev S512x8 : Shape := ⟨2, ![512, 8]⟩
abbrev S8x512 : Shape := ⟨2, ![8, 512]⟩
abbrev S512x512 : Shape := ⟨2, ![512, 512]⟩

abbrev nBuf : Space → Nat
  | .hbm => 18
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048x5128, .f32⟩
  | .hbm, ⟨3, _⟩ => ⟨S1x8, .f32⟩
  | .hbm, ⟨4, _⟩ => ⟨S8192x2048, .f32⟩
  | .hbm, ⟨5, _⟩ => ⟨S1024x2048, .f32⟩
  | .hbm, ⟨6, _⟩ => ⟨S9216x2048, .f32⟩
  | .hbm, ⟨7, _⟩ => ⟨S9216x2048, .bf16⟩
  | .hbm, ⟨8, _⟩ => ⟨S2048x5128, .f32⟩
  | .hbm, ⟨9, _⟩ => ⟨S2048x8, .f32⟩
  | .hbm, ⟨10, _⟩ => ⟨S8, .f32⟩
  | .hbm, ⟨11, _⟩ => ⟨S8x2048, .f32⟩
  | .hbm, ⟨12, _⟩ => ⟨S1x8, .f32⟩
  | .hbm, ⟨13, _⟩ => ⟨S8x1, .f32⟩
  | .hbm, ⟨14, _⟩ => ⟨S9216x8, .f32⟩
  | .hbm, ⟨15, _⟩ => ⟨S8x9216, .f32⟩
  | .hbm, ⟨16, _⟩ => ⟨S9216x8, .f32⟩
  | .hbm, ⟨17, _⟩ => ⟨S8x9216, .f32⟩
  | .local _ .vmem, ⟨0, _⟩ => ⟨S512x2048, .bf16⟩
  | .local _ .vmem, ⟨1, _⟩ => ⟨S512x2048, .bf16⟩
  | .local _ .vmem, ⟨2, _⟩ => ⟨S2048x8, .f32⟩
  | .local _ .vmem, ⟨3, _⟩ => ⟨S8x2048, .f32⟩
  | .local _ .vmem, ⟨4, _⟩ => ⟨S1x8, .f32⟩
  | .local _ .vmem, ⟨5, _⟩ => ⟨S8x1, .f32⟩
  | .local _ .vmem, ⟨6, _⟩ => ⟨S512x8, .f32⟩
  | .local _ .vmem, ⟨7, _⟩ => ⟨S512x8, .f32⟩
  | .local _ .vmem, ⟨8, _⟩ => ⟨S8x512, .f32⟩
  | .local _ .vmem, ⟨9, _⟩ => ⟨S8x512, .f32⟩
  | .local _ .vmem, ⟨10, _⟩ => ⟨S512x8, .f32⟩
  | .local _ .vmem, ⟨11, _⟩ => ⟨S512x8, .f32⟩
  | .local _ .vmem, ⟨12, _⟩ => ⟨S8x512, .f32⟩
  | .local _ .vmem, ⟨13, _⟩ => ⟨S8x512, .f32⟩
  | .local _ .vmem, ⟨14, _⟩ => ⟨S1x8, .f32⟩
  | .local _ .vmem, ⟨15, _⟩ => ⟨S8x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LogfRefIdeal.lean ====
abbrev S4x2048x2048 : Shape := ⟨3, ![4, 2048, 2048]⟩
abbrev S128x8x2048 : Shape := ⟨3, ![128, 8, 2048]⟩
abbrev S1x2048x5128 : Shape := ⟨3, ![1, 2048, 5128]⟩
abbrev S1x8 : Shape := ⟨2, ![1, 8]⟩
abbrev S1x2048x8 : Shape := ⟨3, ![1, 2048, 8]⟩
abbrev S2048x8 : Shape := ⟨2, ![2048, 8]⟩
abbrev S4x2048x8 : Shape := ⟨3, ![4, 2048, 8]⟩
abbrev S8 : Shape := ⟨1, ![8]⟩
abbrev S1x1x8 : Shape := ⟨3, ![1, 1, 8]⟩
abbrev S_ : Shape := ⟨0, ![]⟩
abbrev S128x8x8 : Shape := ⟨3, ![128, 8, 8]⟩
abbrev S8192x8 : Shape := ⟨2, ![8192, 8]⟩
abbrev S1024x8 : Shape := ⟨2, ![1024, 8]⟩
abbrev S9216x8 : Shape := ⟨2, ![9216, 8]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048x5128, .f32⟩
  | .hbm, ⟨3, _⟩ => ⟨S1x8, .f32⟩
  | .hbm, ⟨4, _⟩ => ⟨S1x2048x8, .f32⟩
  | .hbm, ⟨5, _⟩ => ⟨S2048x8, .f32⟩
  | .hbm, ⟨6, _⟩ => ⟨S4x2048x8, .f32⟩
  | .hbm, ⟨7, _⟩ => ⟨S8, .f32⟩
  | .hbm, ⟨8, _⟩ => ⟨S1x1x8, .f32⟩
  | .hbm, ⟨9, _⟩ => ⟨S4x2048x8, .f32⟩
  | .hbm, ⟨10, _⟩ => ⟨S4x2048x8, .f32⟩
  | .hbm, ⟨11, _⟩ => ⟨S4x2048x8, .f32⟩
  | .hbm, ⟨12, _⟩ => ⟨S_, .f32⟩
  | .hbm, ⟨13, _⟩ => ⟨S4x2048x8, .f32⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S4x2048x8, .i1⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S4x2048x8, .f32⟩
  | .hbm, ⟨23, _⟩ => ⟨S4x2048x8, .f32⟩
  | .hbm, ⟨24, _⟩ => ⟨S4x2048x8, .f32⟩
  | .hbm, ⟨25, _⟩ => ⟨S4x2048x8, .f32⟩
  | .hbm, ⟨26, _⟩ => ⟨S4x2048x8, .f32⟩
  | .hbm, ⟨27, _⟩ => ⟨S128x8x8, .f32⟩
  | .hbm, ⟨28, _⟩ => ⟨S8, .f32⟩
  | .hbm, ⟨29, _⟩ => ⟨S1x1x8, .f32⟩
  | .hbm, ⟨30, _⟩ => ⟨S128x8x8, .f32⟩
  | .hbm, ⟨31, _⟩ => ⟨S128x8x8, .f32⟩
  | .hbm, ⟨32, _⟩ => ⟨S128x8x8, .f32⟩
  | .hbm, ⟨33, _⟩ => ⟨S_, .f32⟩
  | .hbm, ⟨34, _⟩ => ⟨S128x8x8, .f32⟩
  | .hbm, ⟨35, _⟩ => ⟨S128x8x8, .f32⟩
  | .hbm, ⟨36, _⟩ => ⟨S128x8x8, .f32⟩
  | .hbm, ⟨37, _⟩ => ⟨S128x8x8, .f32⟩
  | .hbm, ⟨38, _⟩ => ⟨S128x8x8, .i1⟩
  | .hbm, ⟨39, _⟩ => ⟨S128x8x8, .f32⟩
  | .hbm, ⟨40, _⟩ => ⟨S128x8x8, .f32⟩
  | .hbm, ⟨41, _⟩ => ⟨S128x8x8, .f32⟩
  | .hbm, ⟨42, _⟩ => ⟨S128x8x8, .f32⟩
  | .hbm, ⟨43, _⟩ => ⟨S128x8x8, .f32⟩
  | .hbm, ⟨44, _⟩ => ⟨S128x8x8, .f32⟩
  | .hbm, ⟨45, _⟩ => ⟨S128x8x8, .f32⟩
  | .hbm, ⟨46, _⟩ => ⟨S128x8x8, .f32⟩
  | .hbm, ⟨47, _⟩ => ⟨S128x8x8, .f32⟩
  | .hbm, ⟨48, _⟩ => ⟨S8192x8, .f32⟩
  | .hbm, ⟨49, _⟩ => ⟨S1024x8, .f32⟩
  | .hbm, ⟨50, _⟩ => ⟨S9216x8, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩

abbrev nD : Nat := 1
abbrev τ : Topo := Topo.v7x

variable {F : FTy → Type} [FloatOps F]
-- ==== Outproj.lean ====
abbrev S9216x1024 : Shape := ⟨2, ![9216, 1024]⟩
abbrev S2048x2048 : Shape := ⟨2, ![2048, 2048]⟩
abbrev S9216x2048 : Shape := ⟨2, ![9216, 2048]⟩
abbrev S2048 : Shape := ⟨1, ![2048]⟩
abbrev S1x2048 : Shape := ⟨2, ![1, 2048]⟩
abbrev S256x1024 : Shape := ⟨2, ![256, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S2048x2048, .f32⟩
  | .hbm, ⟨3, _⟩ => ⟨S9216x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S9216x2048, .f32⟩
  | .hbm, ⟨10, _⟩ => ⟨S9216x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojRefIdeal.lean ====
abbrev S9216x1024 : Shape := ⟨2, ![9216, 1024]⟩
abbrev S2048x2048 : Shape := ⟨2, ![2048, 2048]⟩
abbrev S9216x2048 : Shape := ⟨2, ![9216, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S2048x2048, .f32⟩
  | .hbm, ⟨3, _⟩ => ⟨S9216x2048, .f32⟩
  | .hbm, ⟨4, _⟩ => ⟨S2048, .f32⟩
  | .hbm, ⟨5, _⟩ => ⟨S2048, .f32⟩
  | .hbm, ⟨6, _⟩ => ⟨S9216x1024, .f32⟩
  | .hbm, ⟨7, _⟩ => ⟨S9216x1024, .f32⟩
  | .hbm, ⟨8, _⟩ => ⟨S9216x2048, .f32⟩
  | .hbm, ⟨9, _⟩ => ⟨S_, .f32⟩
  | .hbm, ⟨10, _⟩ => ⟨S9216x2048, .f32⟩
  | .hbm, ⟨11, _⟩ => ⟨S9216x2048, .f32⟩
  | .hbm, ⟨12, _⟩ => ⟨S9216x2048, .f32⟩
  | .hbm, ⟨13, _⟩ => ⟨S9216x2048, .f32⟩
  | .hbm, ⟨14, _⟩ => ⟨S_, .f32⟩
  | .hbm, ⟨15, _⟩ => ⟨S9216, .f32⟩
  | .hbm, ⟨16, _⟩ => ⟨S9216x1, .f32⟩
  | .hbm, ⟨17, _⟩ => ⟨S_, .f32⟩
  | .hbm, ⟨18, _⟩ => ⟨S9216x1, .f32⟩
  | .hbm, ⟨19, _⟩ => ⟨S9216x1, .f32⟩
  | .hbm, ⟨20, _⟩ => ⟨S9216x2048, .f32⟩
  | .hbm, ⟨21, _⟩ => ⟨S9216x2048, .f32⟩
  | .hbm, ⟨22, _⟩ => ⟨S9216x2048, .f32⟩
  | .hbm, ⟨23, _⟩ => ⟨S_, .f32⟩
  | .hbm, ⟨24, _⟩ => ⟨S9216, .f32⟩
  | .hbm, ⟨25, _⟩ => ⟨S9216x1, .f32⟩
  | .hbm, ⟨26, _⟩ => ⟨S_, .f32⟩
  | .hbm, ⟨27, _⟩ => ⟨S9216x1, .f32⟩
  | .hbm, ⟨28, _⟩ => ⟨S9216x1, .f32⟩
  | .hbm, ⟨29, _⟩ => ⟨S9216x2048, .f32⟩
  | .hbm, ⟨30, _⟩ => ⟨S9216x2048, .f32⟩
  | .hbm, ⟨31, _⟩ => ⟨S_, .f32⟩
  | .hbm, ⟨32, _⟩ => ⟨S9216x1, .f32⟩
  | .hbm, ⟨33, _⟩ => ⟨S9216x1, .f32⟩
  | .hbm, ⟨34, _⟩ => ⟨S9216x1, .f32⟩
  | .hbm, ⟨35, _⟩ => ⟨S9216x2048, .f32⟩
  | .hbm, ⟨36, _⟩ => ⟨S9216x2048, .f32⟩
  | .hbm, ⟨37, _⟩ => ⟨S1x2048, .f32⟩
  | .hbm, ⟨38, _⟩ => ⟨S9216x2048, .f32⟩
  | .hbm, ⟨39, _⟩ => ⟨S9216x2048, .f32⟩
  | .hbm, ⟨40, _⟩ => ⟨S1x2048, .f32⟩
  | .hbm, ⟨41, _⟩ => ⟨S9216x2048, .f32⟩
  | .hbm, ⟨42, _⟩ => ⟨S9216x2048, .f32⟩
  | .hbm, ⟨43, _⟩ => ⟨S9216x2048, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Conv.lean ====
abbrev S9216x2048 : Shape := ⟨2, ![9216, 2048]⟩
abbrev S31x1024 : Shape := ⟨2, ![31, 1024]⟩
abbrev S1024 : Shape := ⟨1, ![1024]⟩
abbrev S1x1024 : Shape := ⟨2, ![1, 1024]⟩
abbrev S8192x1024 : Shape := ⟨2, ![8192, 1024]⟩
abbrev S4x30x1024 : Shape := ⟨3, ![4, 30, 1024]⟩
abbrev S256x2048 : Shape := ⟨2, ![256, 2048]⟩
abbrev S256x1024 : Shape := ⟨2, ![256, 1024]⟩
abbrev S1x30x1024 : Shape := ⟨3, ![1, 30, 1024]⟩
abbrev S288x1024 : Shape := ⟨2, ![288, 1024]⟩
abbrev S32x1024 : Shape := ⟨2, ![32, 1024]⟩
abbrev S256 : Shape := ⟨1, ![256]⟩
abbrev S256x1 : Shape := ⟨2, ![256, 1]⟩
abbrev S30x1024 : Shape := ⟨2, ![30, 1024]⟩

abbrev nBuf : Space → Nat
  | .hbm => 10
  | .vmem => 11
  | .smem => 0
  | _ => 0

abbrev bufTy : (tb : Table) → Fin (tcTables nBuf tb) → BufTy
  | .hbm, ⟨0, _⟩ => ⟨S9216x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .bf16⟩
  | .hbm, ⟨9, _⟩ => ⟨S4x30x1024, .f32⟩
  | .local _ .vmem, ⟨0, _⟩ => ⟨S256x2048, .f32⟩
  | .local _ .vmem, ⟨1, _⟩ => ⟨S256x2048, .f32⟩
  | .local _ .vmem, ⟨2, _⟩ => ⟨S31x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S1x30x1024, .f32⟩
  | .local _ .vmem, ⟨9, _⟩ => ⟨S1x30x1024, .f32⟩
  | .local _ .vmem, ⟨10, _⟩ => ⟨S288x1024, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v211 : BitVec 1 := Scalar.cmpi .eq arg1 c7_i32
  let v212 : BitVec 32 := Scalar.extui v211
  let c0_i32_117 : BitVec 32 := 0#32
  let v213 : BitVec 1 := Scalar.cmpi .ne v212 c0_i32_117
  v213

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x30x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvRefIdeal.lean ====
abbrev S9216x2048 : Shape := ⟨2, ![9216, 2048]⟩
abbrev S31x1024 : Shape := ⟨2, ![31, 1024]⟩
abbrev S1024 : Shape := ⟨1, ![1024]⟩
abbrev S8192x2048 : Shape := ⟨2, ![8192, 2048]⟩
abbrev S4x2048x2048 : Shape := ⟨3, ![4, 2048, 2048]⟩
abbrev S4x2048x1024 : Shape := ⟨3, ![4, 2048, 1024]⟩
abbrev S_ : Shape := ⟨0, ![]⟩
abbrev S4x30x1024 : Shape := ⟨3, ![4, 30, 1024]⟩
abbrev S4x2078x1024 : Shape := ⟨3, ![4, 2078, 1024]⟩

abbrev nBuf : Space → Nat
  | .hbm => 22
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8192x2048, .f32⟩
  | .hbm, ⟨6, _⟩ => ⟨S4x2048x2048, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x30x1024, .f32⟩
  | .hbm, ⟨20, _⟩ => ⟨S4x2078x1024, .f32⟩
  | .hbm, ⟨21, _⟩ => ⟨S4x30x1024, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Gmlp.lean ====
abbrev S9216x6144 : Shape := ⟨2, ![9216, 6144]⟩
abbrev S1x8x128x128 : Shape := ⟨4, ![1, 8, 128, 128]⟩
abbrev S1x8x128 : Shape := ⟨3, ![1, 8, 128]⟩
abbrev S1024 : Shape := ⟨1, ![1024]⟩
abbrev S8x128x128 : Shape := ⟨3, ![8, 128, 128]⟩
abbrev S8x128 : Shape := ⟨2, ![8, 128]⟩
abbrev S8x8x8 : Shape := ⟨3, ![8, 8, 8]⟩
abbrev S1x8x1x8x1x8 : Shape := ⟨6, ![1, 8, 1, 8, 1, 8]⟩
abbrev S1x8x16x8x16x8 : Shape := ⟨6, ![1, 8, 16, 8, 16, 8]⟩
abbrev S8x8 : Shape := ⟨2, ![8, 8]⟩
abbrev S1x8x1x8 : Shape := ⟨4, ![1, 8, 1, 8]⟩
abbrev S1x8x16x8 : Shape := ⟨4, ![1, 8, 16, 8]⟩
abbrev S128x8 : Shape := ⟨2, ![128, 8]⟩
abbrev S1x1024 : Shape := ⟨2, ![1, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 20
  | .vmem => 12
  | .smem => 0
  | _ => 0

abbrev bufTy : (tb : Table) → Fin (tcTables nBuf tb) → BufTy
  | .hbm, ⟨0, _⟩ => ⟨S9216x6144, .f32⟩
  | .hbm, ⟨1, _⟩ => ⟨S1x8x128x128, .f32⟩
  | .hbm, ⟨2, _⟩ => ⟨S1x8x128, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S8x8x8, .f32⟩
  | .hbm, ⟨8, _⟩ => ⟨S1x8x1x8x1x8, .f32⟩
  | .hbm, ⟨9, _⟩ => ⟨S1x8x16x8x16x8, .f32⟩
  | .hbm, ⟨10, _⟩ => ⟨S8x128x128, .f32⟩
  | .hbm, ⟨11, _⟩ => ⟨S8x8, .f32⟩
  | .hbm, ⟨12, _⟩ => ⟨S1x8x1x8, .f32⟩
  | .hbm, ⟨13, _⟩ => ⟨S1x8x16x8, .f32⟩
  | .hbm, ⟨14, _⟩ => ⟨S8x128, .f32⟩
  | .hbm, ⟨15, _⟩ => ⟨S128x8, .f32⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S8x128x128, .f32⟩
  | .local _ .vmem, ⟨5, _⟩ => ⟨S128x8, .f32⟩
  | .local _ .vmem, ⟨6, _⟩ => ⟨S1x1024, .f32⟩
  | .local _ .vmem, ⟨7, _⟩ => ⟨S1x1024, .f32⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | _, _ => ⟨S9216x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c5_i32 : BitVec 32 := 5#32
  let c0_i32 : BitVec 32 := 0#32
  ![v0.toNat, c5_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpRefIdeal.lean ====
abbrev S9216x6144 : Shape := ⟨2, ![9216, 6144]⟩
abbrev S1x8x128x128 : Shape := ⟨4, ![1, 8, 128, 128]⟩
abbrev S1x8x128 : Shape := ⟨3, ![1, 8, 128]⟩
abbrev S1024 : Shape := ⟨1, ![1024]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩
abbrev S8x8 : Shape := ⟨2, ![8, 8]⟩
abbrev S1x8x8 : Shape := ⟨3, ![1, 8, 8]⟩
abbrev S1x8x8x8 : Shape := ⟨4, ![1, 8, 8, 8]⟩
abbrev S8x8x8 : Shape := ⟨3, ![8, 8, 8]⟩
abbrev S128x8x8x128 : Shape := ⟨4, ![128, 8, 8, 128]⟩
abbrev S8x128x128x8 : Shape := ⟨4, ![8, 128, 128, 8]⟩
abbrev S8x8x1 : Shape := ⟨3, ![8, 8, 1]⟩
abbrev S1x8x8x1 : Shape := ⟨4, ![1, 8, 8, 1]⟩

abbrev nBuf : Space → Nat
  | .hbm => 103
  | .vmem => 0
  | .smem => 0
  | _ => 0

abbrev bufTy : (tb : Table) → Fin (tcTables nBuf tb) → BufTy
  | .hbm, ⟨0, _⟩ => ⟨S9216x6144, .f32⟩
  | .hbm, ⟨1, _⟩ => ⟨S1x8x128x128, .f32⟩
  | .hbm, ⟨2, _⟩ => ⟨S1x8x128, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S_, .f32⟩
  | .hbm, ⟨51, _⟩ => ⟨S1024, .f32⟩
  | .hbm, ⟨52, _⟩ => ⟨S1024x1, .f32⟩
  | .hbm, ⟨53, _⟩ => ⟨S_, .f32⟩
  | .hbm, ⟨54, _⟩ => ⟨S1024x1, .f32⟩
  | .hbm, ⟨55, _⟩ => ⟨S1024x1, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024x1, .f32⟩
  | .hbm, ⟨60, _⟩ => ⟨S1024x1, .f32⟩
  | .hbm, ⟨61, _⟩ => ⟨S1024x1, .f32⟩
  | .hbm, ⟨62, _⟩ => ⟨S1024x1024, .f32⟩
  | .hbm, ⟨63, _⟩ => ⟨S1024x1024, .f32⟩
  | .hbm, ⟨64, _⟩ => ⟨S1x1024, .f32⟩
  | .hbm, ⟨65, _⟩ => ⟨S1024x1024, .f32⟩
  | .hbm, ⟨66, _⟩ => ⟨S1024x1024, .f32⟩
  | .hbm, ⟨67, _⟩ => ⟨S1x1024, .f32⟩
  | .hbm, ⟨68, _⟩ => ⟨S1024x1024, .f32⟩
  | .hbm, ⟨69, _⟩ => ⟨S1024x1024, .f32⟩
  | .hbm, ⟨70, _⟩ => ⟨S_, .i1⟩
  | .hbm, ⟨71, _⟩ => ⟨S8x8, .i1⟩
  | .hbm, ⟨72, _⟩ => ⟨S8x8, .i32⟩
  | .hbm, ⟨73, _⟩ => ⟨S_, .i32⟩
  | .hbm, ⟨74, _⟩ => ⟨S8x8, .i32⟩
  | .hbm, ⟨75, _⟩ => ⟨S8x8, .i32⟩
  | .hbm, ⟨76, _⟩ => ⟨S8x8, .i32⟩
  | .hbm, ⟨77, _⟩ => ⟨S8x8, .i1⟩
  | .hbm, ⟨78, _⟩ => ⟨S_, .i1⟩
  | .hbm, ⟨79, _⟩ => ⟨S8x8, .i1⟩
  | .hbm, ⟨80, _⟩ => ⟨S8x8, .i1⟩
  | .hbm, ⟨81, _⟩ => ⟨S1x8x8, .i1⟩
  | .hbm, ⟨82, _⟩ => ⟨S1x8x8x8, .f32⟩
  | .hbm, ⟨83, _⟩ => ⟨S8x8x8, .f32⟩
  | .hbm, ⟨84, _⟩ => ⟨S_, .f32⟩
  | .hbm, ⟨85, _⟩ => ⟨S_, .f32⟩
  | .hbm, ⟨86, _⟩ => ⟨S8x8x8, .i1⟩
  | .hbm, ⟨87, _⟩ => ⟨S8x8x8, .f32⟩
  | .hbm, ⟨88, _⟩ => ⟨S8x8x8, .f32⟩
  | .hbm, ⟨89, _⟩ => ⟨S128x8x8x128, .f32⟩
  | .hbm, ⟨90, _⟩ => ⟨S8x128x128x8, .f32⟩
  | .hbm, ⟨91, _⟩ => ⟨S128x8x8x128, .f32⟩
  | .hbm, ⟨92, _⟩ => ⟨S1x8x8, .f32⟩
  | .hbm, ⟨93, _⟩ => ⟨S8x8, .f32⟩
  | .hbm, ⟨94, _⟩ => ⟨S8x8, .f32⟩
  | .hbm, ⟨95, _⟩ => ⟨S8x8x1, .f32⟩
  | .hbm, ⟨96, _⟩ => ⟨S1x8x8x1, .f32⟩
  | .hbm, ⟨97, _⟩ => ⟨S128x8x8x128, .f32⟩
  | .hbm, ⟨98, _⟩ => ⟨S128x8x8x128, .f32⟩
  | .hbm, ⟨99, _⟩ => ⟨S128x8x8x128, .f32⟩
  | .hbm, ⟨100, _⟩ => ⟨S128x8x8x128, .f32⟩
  | .hbm, ⟨101, _⟩ => ⟨S1024x1024, .f32⟩
  | .hbm, ⟨102, _⟩ => ⟨S1024x1024, .bf16⟩
  | _, _ => ⟨S9216x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c : Ref sig .tc := ⟨.hbm, 70, rfl⟩
abbrev main_v52 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_0 : Ref sig .tc := ⟨.hbm, 78, rfl⟩
abbrev main_call0_v5 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== Gated.lean ====
abbrev S4x2048x2048 : Shape := ⟨3, ![4, 2048, 2048]⟩
abbrev S128x8x2048 : Shape := ⟨3, ![128, 8, 2048]⟩
abbrev S1x2048x5128 : Shape := ⟨3, ![1, 2048, 5128]⟩
abbrev S8192x2048 : Shape := ⟨2, ![8192, 2048]⟩
abbrev S1024x2048 : Shape := ⟨2, ![1024, 2048]⟩
abbrev S9216x2048 : Shape := ⟨2, ![9216, 2048]⟩
abbrev S2048x5128 : Shape := ⟨2, ![2048, 5128]⟩
abbrev S2048x512 : Shape := ⟨2, ![2048, 512]⟩
abbrev S1024x512 : Shape := ⟨2, ![1024, 512]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048x5128, .f32⟩
  | .hbm, ⟨3, _⟩ => ⟨S8192x2048, .f32⟩
  | .hbm, ⟨4, _⟩ => ⟨S1024x2048, .f32⟩
  | .hbm, ⟨5, _⟩ => ⟨S9216x2048, .f32⟩
  | .hbm, ⟨6, _⟩ => ⟨S9216x2048, .bf16⟩
  | .hbm, ⟨7, _⟩ => ⟨S2048x5128, .f32⟩
  | .hbm, ⟨8, _⟩ => ⟨S9216x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatedRefIdeal.lean ====
abbrev S4x2048x2048 : Shape := ⟨3, ![4, 2048, 2048]⟩
abbrev S128x8x2048 : Shape := ⟨3, ![128, 8, 2048]⟩
abbrev S1x2048x5128 : Shape := ⟨3, ![1, 2048, 5128]⟩
abbrev S1x2048x2048 : Shape := ⟨3, ![1, 2048, 2048]⟩
abbrev S2048x2048 : Shape := ⟨2, ![2048, 2048]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048x5128, .f32⟩
  | .hbm, ⟨3, _⟩ => ⟨S1x2048x2048, .f32⟩
  | .hbm, ⟨4, _⟩ => ⟨S2048x2048, .f32⟩
  | .hbm, ⟨5, _⟩ => ⟨S4x2048x2048, .f32⟩
  | .hbm, ⟨6, _⟩ => ⟨S128x8x2048, .f32⟩
  | .hbm, ⟨7, _⟩ => ⟨S8192x2048, .f32⟩
  | .hbm, ⟨8, _⟩ => ⟨S1024x2048, .f32⟩
  | .hbm, ⟨9, _⟩ => ⟨S9216x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvStep.lean ====
abbrev S9216x2048 : Shape := ⟨2, ![9216, 2048]⟩
abbrev S1x128x30x1024 : Shape := ⟨4, ![1, 128, 30, 1024]⟩
abbrev S31x1024 : Shape := ⟨2, ![31, 1024]⟩
abbrev S1024 : Shape := ⟨1, ![1024]⟩
abbrev S128x30x1024 : Shape := ⟨3, ![128, 30, 1024]⟩
abbrev S1x1024 : Shape := ⟨2, ![1, 1024]⟩
abbrev S1024x1024 : Shape := ⟨2, ![1024, 1024]⟩
abbrev S64x2048 : Shape := ⟨2, ![64, 2048]⟩
abbrev S8x30x1024 : Shape := ⟨3, ![8, 30, 1024]⟩
abbrev S64x1024 : Shape := ⟨2, ![64, 1024]⟩
abbrev S8x38x1024 : Shape := ⟨3, ![8, 38, 1024]⟩
abbrev S8x8x1024 : Shape := ⟨3, ![8, 8, 1024]⟩
abbrev S1x1x1024 : Shape := ⟨3, ![1, 1, 1024]⟩
abbrev S64 : Shape := ⟨1, ![64]⟩
abbrev S64x1 : Shape := ⟨2, ![64, 1]⟩

abbrev nBuf : Space → Nat
  | .hbm => 12
  | .vmem => 13
  | .smem => 0
  | _ => 0

abbrev bufTy : (tb : Table) → Fin (tcTables nBuf tb) → BufTy
  | .hbm, ⟨0, _⟩ => ⟨S9216x2048, .f32⟩
  | .hbm, ⟨1, _⟩ => ⟨S1x128x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S128x30x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S128x30x1024, .f32⟩
  | .local _ .vmem, ⟨0, _⟩ => ⟨S64x2048, .f32⟩
  | .local _ .vmem, ⟨1, _⟩ => ⟨S64x2048, .f32⟩
  | .local _ .vmem, ⟨2, _⟩ => ⟨S8x30x1024, .f32⟩
  | .local _ .vmem, ⟨3, _⟩ => ⟨S8x30x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S64x1024, .bf16⟩
  | .local _ .vmem, ⟨9, _⟩ => ⟨S64x1024, .bf16⟩
  | .local _ .vmem, ⟨10, _⟩ => ⟨S8x30x1024, .f32⟩
  | .local _ .vmem, ⟨11, _⟩ => ⟨S8x30x1024, .f32⟩
  | .local _ .vmem, ⟨12, _⟩ => ⟨S8x38x1024, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x30x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x30x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvStepRefIdeal.lean ====
abbrev S9216x2048 : Shape := ⟨2, ![9216, 2048]⟩
abbrev S1x128x30x1024 : Shape := ⟨4, ![1, 128, 30, 1024]⟩
abbrev S31x1024 : Shape := ⟨2, ![31, 1024]⟩
abbrev S1024 : Shape := ⟨1, ![1024]⟩
abbrev S1024x2048 : Shape := ⟨2, ![1024, 2048]⟩
abbrev S128x8x2048 : Shape := ⟨3, ![128, 8, 2048]⟩
abbrev S128x8x1024 : Shape := ⟨3, ![128, 8, 1024]⟩
abbrev S_ : Shape := ⟨0, ![]⟩
abbrev S128x30x1024 : Shape := ⟨3, ![128, 30, 1024]⟩
abbrev S128x38x1024 : Shape := ⟨3, ![128, 38, 1024]⟩

abbrev nBuf : Space → Nat
  | .hbm => 22
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S1x128x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S128x8x2048, .f32⟩
  | .hbm, ⟨8, _⟩ => ⟨S128x8x1024, .f32⟩
  | .hbm, ⟨9, _⟩ => ⟨S128x8x1024, .f32⟩
  | .hbm, ⟨10, _⟩ => ⟨S128x8x1024, .f32⟩
  | .hbm, ⟨11, _⟩ => ⟨S128x8x1024, .f32⟩
  | .hbm, ⟨12, _⟩ => ⟨S_, .f32⟩
  | .hbm, ⟨13, _⟩ => ⟨S128x8x1024, .f32⟩
  | .hbm, ⟨14, _⟩ => ⟨S128x8x1024, .f32⟩
  | .hbm, ⟨15, _⟩ => ⟨S_, .f32⟩
  | .hbm, ⟨16, _⟩ => ⟨S128x8x1024, .f32⟩
  | .hbm, ⟨17, _⟩ => ⟨S128x8x1024, .f32⟩
  | .hbm, ⟨18, _⟩ => ⟨S128x8x1024, .f32⟩
  | .hbm, ⟨19, _⟩ => ⟨S128x30x1024, .f32⟩
  | .hbm, ⟨20, _⟩ => ⟨S128x38x1024, .f32⟩
  | .hbm, ⟨21, _⟩ => ⟨S128x30x1024, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Rows.lean ====
/- The layer's input rows: the prompt's four sequences of 2048 positions, then the sample's 128 of 8, one row per token. -/
module

public import Idealize.ShloMosaic.Lib.Pipeline.ValueKit
public import Idealize.ShloMosaic.Lib.Pointwise
public import Idealize.ShloMosaic.PureOps.Ideal
public import Idealize.ShloMosaic.Lib.Pipeline.Value

@[expose] public section

noncomputable section
namespace Cert.Rows
open Idealize.ShloMosaic

/-- Entry `d` of token `n`'s row, read from an array of prompt sequences and one of sample sequences. -/
def row {w : ℕ} (x0 : (⟨3, ![4, 2048, w]⟩ : Shape).Idx → EReal) (x1 : (⟨3, ![128, 8, w]⟩ : Shape).Idx → EReal) (n : Fin 9216) (d : Fin w) : EReal :=
  if h : n.val < 8192 then x0 (ix3 ⟨n.val / 2048, by omega⟩ ⟨n.val % 2048, by omega⟩ d)
  else x1 (ix3 ⟨(n.val - 8192) / 8, by have := n.isLt; omega⟩ ⟨n.val % 8, by omega⟩ d)

/-- The prompt's and the sample's arrays, each flattened to one row per token and joined, hold the tokens' rows. -/
theorem concat_rows {w : ℕ} (x0 : (⟨3, ![4, 2048, w]⟩ : Shape).Idx → EReal) (x1 : (⟨3, ![128, 8, w]⟩ : Shape).Idx → EReal)
    (h0 : (⟨3, ![4, 2048, w]⟩ : Shape).ShapeCasts ⟨2, ![8192, w]⟩) (h1 : (⟨3, ![128, 8, w]⟩ : Shape).ShapeCasts ⟨2, ![1024, w]⟩)
    (h : Shape.Concatenates [⟨2, ![8192, w]⟩, ⟨2, ![1024, w]⟩] (⟨2, ![9216, w]⟩ : Shape) 0) (n : Fin 9216) (d : Fin w) :
    concatenate (⟨2, ![9216, w]⟩ : Shape) 0 [⟨⟨2, ![8192, w]⟩, shapeCast _ x0 h0⟩, ⟨⟨2, ![1024, w]⟩, shapeCast _ x1 h1⟩] h (ix2 n d) = row x0 x1 n d := by
  have hn := n.isLt
  unfold row
  split
  · next hlt =>
    refine (concatenate_pair_apply_left 0 _ _ h (ix2 n d) rfl (ix2 ⟨n.val, hlt⟩ d) (fun b => by match b with | ⟨0, _⟩ => rfl | ⟨1, _⟩ => rfl)).trans ?_
    refine shapeCast_apply x0 h0 _ _ ?_
    rw [Shape.rowMajor_val_three, Shape.rowMajor_val_two]
    show (n.val / 2048 * 2048 + n.val % 2048) * w + d.val = n.val * w + d.val
    rw [Nat.div_add_mod' n.val 2048]
  · next hge =>
    refine (concatenate_pair_apply_right 0 _ _ h (ix2 n d) rfl rfl (ix2 ⟨n.val - 8192, by omega⟩ d)
      (fun b hb => by match b with | ⟨0, _⟩ => exact absurd rfl hb | ⟨1, _⟩ => rfl) (by show n.val - 8192 + 8192 = n.val; omega)).trans ?_
    refine shapeCast_apply x1 h1 _ _ ?_
    rw [Shape.rowMajor_val_three, Shape.rowMajor_val_two]
    show ((n.val - 8192) / 8 * 8 + n.val % 8) * w + d.val = (n.val - 8192) * w + d.val
    rw [show (n.val - 8192) / 8 * 8 + n.val % 8 = n.val - 8192 by omega]

/-- Dropping a leading axis of extent one keeps the entries. -/
theorem squeeze_apply {a b : ℕ} {α : Type} (x : (⟨3, ![1, a, b]⟩ : Shape).Idx → α) (h : (⟨3, ![1, a, b]⟩ : Shape).ShapeCasts ⟨2, ![a, b]⟩)
    (d : Fin a) (e : Fin b) : shapeCast (⟨2, ![a, b]⟩ : Shape) x h (ix2 d e) = x (ix3 0 d e) := by
  refine shapeCast_apply x h _ _ ?_
  rw [Shape.rowMajor_val_three, Shape.rowMajor_val_two]
  show (0 * a + d.val) * b + e.val = d.val * b + e.val
  rw [Nat.zero_mul, Nat.zero_add]

/-- Adding a leading axis of extent one keeps the entries. -/
theorem unsqueeze_apply {a : ℕ} {α : Type} (x : (⟨1, ![a]⟩ : Shape).Idx → α) (h : (⟨1, ![a]⟩ : Shape).ShapeCasts ⟨2, ![1, a]⟩)
    (d : Fin a) : shapeCast (⟨2, ![1, a]⟩ : Shape) x h (ix2 0 d) = x (ix1 d) := by
  refine shapeCast_apply x h _ _ ?_
  rw [Shape.rowMajor_val_two, Shape.rowMajor_val_one]
  show d.val = 0 * a + d.val
  rw [Nat.zero_mul, Nat.zero_add]

/-- A function applied along the last axis of a token's row: the token's row of the two arrays the function makes. -/
theorem row_map {w v : ℕ} (f : (Fin w → EReal) → Fin v → EReal) (x0 : (⟨3, ![4, 2048, w]⟩ : Shape).Idx → EReal) (x1 : (⟨3, ![128, 8, w]⟩ : Shape).Idx → EReal)
    (y0 : (⟨3, ![4, 2048, v]⟩ : Shape).Idx → EReal) (y1 : (⟨3, ![128, 8, v]⟩ : Shape).Idx → EReal)
    (h0 : ∀ b p e, y0 (ix3 b p e) = f (fun d => x0 (ix3 b p d)) e) (h1 : ∀ b p e, y1 (ix3 b p e) = f (fun d => x1 (ix3 b p d)) e)
    (n : Fin 9216) (e : Fin v) : row y0 y1 n e = f (row x0 x1 n) e := by
  by_cases h : n.val < 8192
  · rw [show row x0 x1 n = fun d => x0 (ix3 ⟨n.val / 2048, by omega⟩ ⟨n.val % 2048, by omega⟩ d) from funext fun d => dif_pos h, ← h0]
    exact dif_pos h
  · rw [show row x0 x1 n = fun d => x1 (ix3 ⟨(n.val - 8192) / 8, by have := n.isLt; omega⟩ ⟨n.val % 8, by omega⟩ d) from funext fun d => dif_neg h, ← h1]
    exact dif_neg h

/-- A gated linear unit's entry: `a` times the logistic function of `g`. -/
def gated (a g : EReal) : EReal := a * Ideal.div (Ideal.ofBits .f32 0x3F800000#32) (Ideal.ofBits .f32 0x3F800000#32 + Ideal.exp (-g))

end Cert.Rows
end
-- ==== Proof.KeysValue.lean ====
/- The keys' projection: each grid point multiplies a block of 1024 rows by the column block of the weights that the first
   point of its column kept in scratch. -/
module

public import proofs.«01_k».proof.Defs
public import proofs.«01_k».proof.Proof.Gen.KeysIdeal.Value
public import proofs.«01_k».proof.Proof.Gen.KeysRefIdeal.Read
public import proofs.«01_k».proof.Proof.Rows
public import Idealize.ShloMosaic.Lib.Claim
public import Idealize.ShloMosaic.Lib.Pipeline.Covers

@[expose] public section

set_option maxRecDepth 16384
noncomputable section
namespace Cert.KeysValue
open Cert.KeysIdeal Cert.KeysIdeal.Gen Idealize.ShloMosaic Idealize.ShloMosaic.TcCoe Idealize.SL.Sem
open Cert.Rows (row)

theorem pay1_apply (w : Vec Ideal S2048x512 .f32) (d : Fin 2048) (e : Fin 512) : k0_pay1 w (ix2 d e) = w (ix2 d e) := by
  pointwise [k0_pay1]

theorem pay2_apply (x : Vec Ideal S1024x2048 .bf16) (w : Vec Ideal S2048x512 .bf16) (r : Fin 1024) (e : Fin 512) :
    k0_pay2 x w (ix2 r e) = ∑ d : Fin 2048, x (ix2 r d) * w (ix2 d e) := by
  pointwise [k0_pay2]

section outs
variable (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S1024x512 .f32) (harg4 : arg4.IsWhole) (arg5 : Memref sig .tc .vmem S2048x512 .bf16) (harg5 : arg5.IsWhole)
  (x0 : Vec Ideal S1024x2048 .bf16) (x1 : Vec Ideal S2048x512 .f32) (xs0 : Vec Ideal S2048x512 .bf16)

theorem out_A (hc0 : cond0_0 i) : out0_A_2 c i arg2 harg2 arg3 harg3 arg4 harg4 arg5 harg5 hc0 x0 x1 = k0_pay2 x0 (k0_pay1 x1) := by
  frame_out
  try simp only [View.read_rep]

theorem sout_A (hc0 : cond0_0 i) : sout0_A_0 c i arg2 harg2 arg3 harg3 arg4 harg4 arg5 harg5 hc0 x0 x1 = k0_pay1 x1 := by
  frame_out
  try simp only [View.read_rep]

theorem out_B (hc0 : ¬cond0_0 i) : out0_B_2 c i arg2 harg2 arg3 harg3 arg4 harg4 arg5 harg5 hc0 x0 x1 xs0 = k0_pay2 x0 xs0 := by
  frame_out
  try simp only [View.read_rep]

end outs

variable (m : (ℓ : Loc nD τ sig) → Buf (Elt Ideal) ℓ)

theorem idx : ∀ t : Fin cfg0.N, win0_0.index t = ![t.val % 9, 0] ∧ win0_1.index t = ![0, 6 + t.val / 9] ∧ win0_2.index t = ![t.val % 9, t.val / 9] :=
  (by decide +kernel : ∀ t : Fin grid0.N, _)

/-- The prompt's input, the sample's input and the layer's weights, as a device holds them. -/
abbrev x0 (c : Dev nD) : FVec Ideal S4x2048x2048 .f32 := m ((c : Thread nD τ).loc main_arg0)
abbrev x1 (c : Dev nD) : FVec Ideal S128x8x2048 .f32 := m ((c : Thread nD τ).loc main_arg1)
abbrev x2 (c : Dev nD) : FVec Ideal S1x2048x5128 .f32 := m ((c : Thread nD τ).loc main_arg2)

/-- The rows the call is given are the tokens' rows. -/
theorem V3_apply (c : Dev nD) (n : Fin 9216) (d : Fin 2048) : (V m c main_v3 : FVec Ideal S9216x2048 .bf16) (ix2 n d) = row (x0 m c) (x1 m c) n d := by
  have e : (V m c main_v3 : FVec Ideal S9216x2048 .bf16) = truncf .bf16 (concatenate S9216x2048 0 [⟨S8192x2048, shapeCast S8192x2048 (x0 m c) shapeCasts_S4x2048x2048_S8192x2048⟩, ⟨S1024x2048, shapeCast S1024x2048 (x1 m c) shapeCasts_S128x8x2048_S1024x2048⟩] concatenates_S8192x2048_S1024x2048_S9216x2048_d0 : FVec Ideal S9216x2048 .f32) bitsLt_bf16_f32 := by
    show StableHlo.after hostOps0 _ _ = _
    after_results_simp <;> rfl
  rw [e]
  exact Rows.concat_rows (x0 m c) (x1 m c) shapeCasts_S4x2048x2048_S8192x2048 shapeCasts_S128x8x2048_S1024x2048 concatenates_S8192x2048_S1024x2048_S9216x2048_d0 n d

/-- The weights the call is given are the layer's. -/
theorem V4_apply (c : Dev nD) (d : Fin 2048) (e : Fin 5128) : (V m c main_v4 : FVec Ideal S2048x5128 .f32) (ix2 d e) = x2 m c (ix3 0 d e) := by
  have h : (V m c main_v4 : FVec Ideal S2048x5128 .f32) = shapeCast S2048x5128 (x2 m c) shapeCasts_S1x2048x5128_S2048x5128 := by
    show StableHlo.after hostOps0 _ _ = _
    after_results_simp <;> rfl
  rw [h]
  exact Rows.squeeze_apply (x2 m c) _ d e

theorem x0_apply (c : Dev nD) (t : Fin cfg0.N) (r : Fin 1024) (d : Fin 2048) (n : Fin 9216) (hn : n.val = t.val % 9 * 1024 + r.val) :
    (iblk m c 0 t : FVec Ideal S1024x2048 .bf16) (ix2 r d) = row (x0 m c) (x1 m c) n d := by
  rw [← V3_apply]
  blk_ext [iblk, V, idx t]

theorem w_apply (c : Dev nD) (t : Fin cfg0.N) (d : Fin 2048) (e : Fin 512) (k : Fin 5128) (hk : k.val = 3072 + 512 * (t.val / 9) + e.val) :
    (X0_1 m c t : FVec Ideal S2048x512 .f32) (ix2 d e) = x2 m c (ix3 0 d k) := by
  rw [← V4_apply]
  unfold X0_1 Pipeline.Window.fill
  rw [dif_pos (moved0_1 t _)]
  blk_ext [iblk, V, idx t]

/-- The scratch holds, after every point, the point's own column block of the weights. -/
theorem scratch (c : Dev nD) : ∀ (n : ℕ) (hn : n < cfg0.N) (d : Fin 2048) (e : Fin 512) (k : Fin 5128), k.val = 3072 + 512 * (n / 9) + e.val →
    (outsAt0 m c n hn).2 (ix2 d e) = x2 m c (ix3 0 d k) := by
  intro n
  induction n with
  | zero =>
    intro hn d e k hk
    rw [outsAt0_A m c ⟨0, hn⟩ rfl]
    dsimp only
    rw [sout_A]
    exact (pay1_apply _ d e).trans (w_apply m c ⟨0, hn⟩ d e k hk)
  | succ n ih =>
    intro hn d e k hk
    by_cases h0 : (n + 1) % 9 = 0
    · rw [outsAt0_A m c ⟨n + 1, hn⟩ h0]
      dsimp only
      rw [sout_A]
      exact (pay1_apply _ d e).trans (w_apply m c ⟨n + 1, hn⟩ d e k hk)
    · rw [outsAt0_B m c ⟨n + 1, hn⟩ h0]
      dsimp only
      unfold sout0_B_0
      exact ih (Nat.lt_of_succ_lt hn) d e k (by omega)

/-- The block a point leaves: its rows times its column block. -/
theorem block (c : Dev nD) (t : Fin cfg0.N) (r : Fin 1024) (e : Fin 512) (n : Fin 9216) (hn : n.val = t.val % 9 * 1024 + r.val)
    (k : Fin 5128) (hk : k.val = 3072 + 512 * (t.val / 9) + e.val) :
    (outsAt0 m c t.val t.isLt).1 (ix2 r e) = ∑ d : Fin 2048, row (x0 m c) (x1 m c) n d * x2 m c (ix3 0 d k) := by
  by_cases h0 : t.val % 9 = 0
  · rw [congrArg Prod.fst (outsAt0_A m c t h0), out_A]
    refine (pay2_apply _ _ r e).trans ?_
    refine Finset.sum_congr rfl fun d _ => ?_
    rw [pay1_apply, x0_apply m c t r d n hn, w_apply m c t d e k hk]
  · rw [congrArg Prod.fst (outsAt0_B m c t h0), out_B]
    refine (pay2_apply _ _ r e).trans ?_
    refine Finset.sum_congr rfl fun d _ => ?_
    rw [x0_apply m c t r d n hn, scratch m c (t.val - 1) _ d e k (by omega)]

section ref
open Cert.KeysRefIdeal.Read

/-- The reference's result at a token: its row against a column of the weights. -/
theorem ref_apply (x0 : FVec Ideal S4x2048x2048 .f32) (x1 : FVec Ideal S128x8x2048 .f32) (x2 : FVec Ideal S1x2048x5128 .f32) (n : Fin 9216) (e : Fin 1024)
    (k : Fin 5128) (hk : k.val = 3072 + e.val) :
    val_main_v6 (F := Ideal) x0 x1 x2 (ix2 n e) = ∑ d : Fin 2048, row x0 x1 n d * x2 (ix3 0 d k) := by
  have hw : ∀ d : Fin 2048, val_main_v1 (F := Ideal) x2 (ix2 d e) = x2 (ix3 0 d k) := fun d => by
    refine (Rows.squeeze_apply (val_main_v0 (F := Ideal) x2) _ d e).trans ?_
    rw [val_main_v0_apply]
    exact congrArg x2 (funext fun a => Fin.ext (by match a with | ⟨0, _⟩ => rfl | ⟨1, _⟩ => rfl | ⟨2, _⟩ => exact hk.symm))
  refine (Rows.concat_rows (val_main_v2 (F := Ideal) x0 x2) (val_main_v3 (F := Ideal) x1 x2) _ _ _ n e).trans ?_
  refine (Rows.row_map (fun r e => ∑ d : Fin 2048, r d * val_main_v1 (F := Ideal) x2 (ix2 d e)) x0 x1 _ _ (fun b p e => ?_) (fun b p e => ?_) n e).trans ?_
  · rw [val_main_v2_apply]
    exact Finset.sum_congr rfl fun d _ => congrArg₂ (· * ·) (congrArg x0 (funext fun a => Fin.ext (by match a with | ⟨0, _⟩ => rfl | ⟨1, _⟩ => rfl | ⟨2, _⟩ => rfl)))
      (congrArg (val_main_v1 (F := Ideal) x2) (funext fun a => Fin.ext (by match a with | ⟨0, _⟩ => rfl | ⟨1, _⟩ => rfl)))
  · rw [val_main_v3_apply]
    exact Finset.sum_congr rfl fun d _ => congrArg₂ (· * ·) (congrArg x1 (funext fun a => Fin.ext (by match a with | ⟨0, _⟩ => rfl | ⟨1, _⟩ => rfl | ⟨2, _⟩ => rfl)))
      (congrArg (val_main_v1 (F := Ideal) x2) (funext fun a => Fin.ext (by match a with | ⟨0, _⟩ => rfl | ⟨1, _⟩ => rfl)))
  · exact Finset.sum_congr rfl fun d _ => by rw [hw d]

end ref

theorem final_eq (c : Dev nD) :
    (dats m 0 c).arrAt 2 cfg0.N = Cert.KeysRefIdeal.Read.val_main_v6 (F := Ideal) (x0 m c) (x1 m c) (x2 m c) := by
  refine (dats m 0 c).arrAt_eq_of_covers 2 _ (by decide +kernel) fun t _ y => ?_
  have ht : t.val < 18 := Nat.lt_of_lt_of_eq t.isLt N_0
  have hr : (y 0).val < 1024 := (y 0).isLt
  have he : (y 1).val < 512 := (y 1).isLt
  let r : Fin 1024 := ⟨(y 0).val, hr⟩
  let e : Fin 512 := ⟨(y 1).val, he⟩
  let n : Fin 9216 := ⟨t.val % 9 * 1024 + (y 0).val, by omega⟩
  let f : Fin 1024 := ⟨t.val / 9 * 512 + (y 1).val, by omega⟩
  let k : Fin 5128 := ⟨3072 + 512 * (t.val / 9) + (y 1).val, by omega⟩
  have hy : y = ix2 r e := by funext a; match a with | ⟨0, _⟩ => rfl | ⟨1, _⟩ => rfl
  blk_simp
  have hi : (win0_2.blk t).view.emb y = ix2 n f := by
    funext a
    match a with
    | ⟨0, _⟩ => apply Fin.ext; blk_simp [idx t]; rfl
    | ⟨1, _⟩ => apply Fin.ext; blk_simp [idx t]; rfl
  rw [hi, ref_apply (x0 m c) (x1 m c) (x2 m c) n f k (by show 3072 + 512 * (t.val / 9) + (y 1).val = 3072 + (t.val / 9 * 512 + (y 1).val); omega), after0_2]
  exact (congrArg (outsAt0 m c t.val t.isLt).1 hy).trans (block m c t r e n rfl k rfl)

attribute [local instance] Cert.KeysIdeal.Gen.facts Cert.KeysRefIdeal.Gen.facts

/-- The keys the call leaves are the reference's. -/
theorem algebraic : Cert.algebraic_KeysIdeal_KeysRefIdeal := by
  intro m g m' g' _ hag
  refine ⟨fun c => Cert.KeysRefIdeal.Read.val_main_v6 (F := Ideal) (x0 m c) (x1 m c) (x2 m c),
    (θ_run _ _ _).mono (fun r hr c => ⟨(hr c).1.trans (final_eq m c), (hr c).2⟩) (Cert.KeysIdeal.Value.run_blocks m g),
    (θ_run _ _ _).mono (fun r hr c => ⟨(hr c).1.trans ?_, (hr c).2⟩) (Cert.KeysRefIdeal.Value.run m' g')⟩
  obtain ⟨a0, a1, a2⟩ := hag c
  rw [a0, a1, a2]
  exact Cert.KeysRefIdeal.Read.val_main_v6_eq _ _ _

end Cert.KeysValue
end
-- ==== Proof.ValuesValue.lean ====
/- The values' projection: each grid point multiplies a block of 1024 rows by the column block of the weights that the first
   point of its column kept in scratch. -/
module

public import proofs.«01_k».proof.Defs
public import proofs.«01_k».proof.Proof.Gen.ValuesIdeal.Value
public import proofs.«01_k».proof.Proof.Gen.ValuesRefIdeal.Read
public import proofs.«01_k».proof.Proof.Rows
public import Idealize.ShloMosaic.Lib.Claim
public import Idealize.ShloMosaic.Lib.Pipeline.Covers

@[expose] public section

set_option maxRecDepth 16384
noncomputable section
namespace Cert.ValuesValue
open Cert.ValuesIdeal Cert.ValuesIdeal.Gen Idealize.ShloMosaic Idealize.ShloMosaic.TcCoe Idealize.SL.Sem
open Cert.Rows (row)

theorem pay1_apply (w : Vec Ideal S2048x512 .f32) (d : Fin 2048) (e : Fin 512) : k0_pay1 w (ix2 d e) = w (ix2 d e) := by
  pointwise [k0_pay1]

theorem pay2_apply (x : Vec Ideal S1024x2048 .bf16) (w : Vec Ideal S2048x512 .bf16) (r : Fin 1024) (e : Fin 512) :
    k0_pay2 x w (ix2 r e) = ∑ d : Fin 2048, x (ix2 r d) * w (ix2 d e) := by
  pointwise [k0_pay2]

section outs
variable (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S1024x512 .f32) (harg4 : arg4.IsWhole) (arg5 : Memref sig .tc .vmem S2048x512 .bf16) (harg5 : arg5.IsWhole)
  (x0 : Vec Ideal S1024x2048 .bf16) (x1 : Vec Ideal S2048x512 .f32) (xs0 : Vec Ideal S2048x512 .bf16)

theorem out_A (hc0 : cond0_0 i) : out0_A_2 c i arg2 harg2 arg3 harg3 arg4 harg4 arg5 harg5 hc0 x0 x1 = k0_pay2 x0 (k0_pay1 x1) := by
  frame_out
  try simp only [View.read_rep]

theorem sout_A (hc0 : cond0_0 i) : sout0_A_0 c i arg2 harg2 arg3 harg3 arg4 harg4 arg5 harg5 hc0 x0 x1 = k0_pay1 x1 := by
  frame_out
  try simp only [View.read_rep]

theorem out_B (hc0 : ¬cond0_0 i) : out0_B_2 c i arg2 harg2 arg3 harg3 arg4 harg4 arg5 harg5 hc0 x0 x1 xs0 = k0_pay2 x0 xs0 := by
  frame_out
  try simp only [View.read_rep]

end outs

variable (m : (ℓ : Loc nD τ sig) → Buf (Elt Ideal) ℓ)

theorem idx : ∀ t : Fin cfg0.N, win0_0.index t = ![t.val % 9, 0] ∧ win0_1.index t = ![0, 8 + t.val / 9] ∧ win0_2.index t = ![t.val % 9, t.val / 9] :=
  (by decide +kernel : ∀ t : Fin grid0.N, _)

/-- The prompt's input, the sample's input and the layer's weights, as a device holds them. -/
abbrev x0 (c : Dev nD) : FVec Ideal S4x2048x2048 .f32 := m ((c : Thread nD τ).loc main_arg0)
abbrev x1 (c : Dev nD) : FVec Ideal S128x8x2048 .f32 := m ((c : Thread nD τ).loc main_arg1)
abbrev x2 (c : Dev nD) : FVec Ideal S1x2048x5128 .f32 := m ((c : Thread nD τ).loc main_arg2)

/-- The rows the call is given are the tokens' rows. -/
theorem V3_apply (c : Dev nD) (n : Fin 9216) (d : Fin 2048) : (V m c main_v3 : FVec Ideal S9216x2048 .bf16) (ix2 n d) = row (x0 m c) (x1 m c) n d := by
  have e : (V m c main_v3 : FVec Ideal S9216x2048 .bf16) = truncf .bf16 (concatenate S9216x2048 0 [⟨S8192x2048, shapeCast S8192x2048 (x0 m c) shapeCasts_S4x2048x2048_S8192x2048⟩, ⟨S1024x2048, shapeCast S1024x2048 (x1 m c) shapeCasts_S128x8x2048_S1024x2048⟩] concatenates_S8192x2048_S1024x2048_S9216x2048_d0 : FVec Ideal S9216x2048 .f32) bitsLt_bf16_f32 := by
    show StableHlo.after hostOps0 _ _ = _
    after_results_simp <;> rfl
  rw [e]
  exact Rows.concat_rows (x0 m c) (x1 m c) shapeCasts_S4x2048x2048_S8192x2048 shapeCasts_S128x8x2048_S1024x2048 concatenates_S8192x2048_S1024x2048_S9216x2048_d0 n d

/-- The weights the call is given are the layer's. -/
theorem V4_apply (c : Dev nD) (d : Fin 2048) (e : Fin 5128) : (V m c main_v4 : FVec Ideal S2048x5128 .f32) (ix2 d e) = x2 m c (ix3 0 d e) := by
  have h : (V m c main_v4 : FVec Ideal S2048x5128 .f32) = shapeCast S2048x5128 (x2 m c) shapeCasts_S1x2048x5128_S2048x5128 := by
    show StableHlo.after hostOps0 _ _ = _
    after_results_simp <;> rfl
  rw [h]
  exact Rows.squeeze_apply (x2 m c) _ d e

theorem x0_apply (c : Dev nD) (t : Fin cfg0.N) (r : Fin 1024) (d : Fin 2048) (n : Fin 9216) (hn : n.val = t.val % 9 * 1024 + r.val) :
    (iblk m c 0 t : FVec Ideal S1024x2048 .bf16) (ix2 r d) = row (x0 m c) (x1 m c) n d := by
  rw [← V3_apply]
  blk_ext [iblk, V, idx t]

theorem w_apply (c : Dev nD) (t : Fin cfg0.N) (d : Fin 2048) (e : Fin 512) (k : Fin 5128) (hk : k.val = 4096 + 512 * (t.val / 9) + e.val) :
    (X0_1 m c t : FVec Ideal S2048x512 .f32) (ix2 d e) = x2 m c (ix3 0 d k) := by
  rw [← V4_apply]
  unfold X0_1 Pipeline.Window.fill
  rw [dif_pos (moved0_1 t _)]
  blk_ext [iblk, V, idx t]

/-- The scratch holds, after every point, the point's own column block of the weights. -/
theorem scratch (c : Dev nD) : ∀ (n : ℕ) (hn : n < cfg0.N) (d : Fin 2048) (e : Fin 512) (k : Fin 5128), k.val = 4096 + 512 * (n / 9) + e.val →
    (outsAt0 m c n hn).2 (ix2 d e) = x2 m c (ix3 0 d k) := by
  intro n
  induction n with
  | zero =>
    intro hn d e k hk
    rw [outsAt0_A m c ⟨0, hn⟩ rfl]
    dsimp only
    rw [sout_A]
    exact (pay1_apply _ d e).trans (w_apply m c ⟨0, hn⟩ d e k hk)
  | succ n ih =>
    intro hn d e k hk
    by_cases h0 : (n + 1) % 9 = 0
    · rw [outsAt0_A m c ⟨n + 1, hn⟩ h0]
      dsimp only
      rw [sout_A]
      exact (pay1_apply _ d e).trans (w_apply m c ⟨n + 1, hn⟩ d e k hk)
    · rw [outsAt0_B m c ⟨n + 1, hn⟩ h0]
      dsimp only
      unfold sout0_B_0
      exact ih (Nat.lt_of_succ_lt hn) d e k (by omega)

/-- The block a point leaves: its rows times its column block. -/
theorem block (c : Dev nD) (t : Fin cfg0.N) (r : Fin 1024) (e : Fin 512) (n : Fin 9216) (hn : n.val = t.val % 9 * 1024 + r.val)
    (k : Fin 5128) (hk : k.val = 4096 + 512 * (t.val / 9) + e.val) :
    (outsAt0 m c t.val t.isLt).1 (ix2 r e) = ∑ d : Fin 2048, row (x0 m c) (x1 m c) n d * x2 m c (ix3 0 d k) := by
  by_cases h0 : t.val % 9 = 0
  · rw [congrArg Prod.fst (outsAt0_A m c t h0), out_A]
    refine (pay2_apply _ _ r e).trans ?_
    refine Finset.sum_congr rfl fun d _ => ?_
    rw [pay1_apply, x0_apply m c t r d n hn, w_apply m c t d e k hk]
  · rw [congrArg Prod.fst (outsAt0_B m c t h0), out_B]
    refine (pay2_apply _ _ r e).trans ?_
    refine Finset.sum_congr rfl fun d _ => ?_
    rw [x0_apply m c t r d n hn, scratch m c (t.val - 1) _ d e k (by omega)]

section ref
open Cert.ValuesRefIdeal.Read

/-- The reference's result at a token: its row against a column of the weights. -/
theorem ref_apply (x0 : FVec Ideal S4x2048x2048 .f32) (x1 : FVec Ideal S128x8x2048 .f32) (x2 : FVec Ideal S1x2048x5128 .f32) (n : Fin 9216) (e : Fin 1024)
    (k : Fin 5128) (hk : k.val = 4096 + e.val) :
    val_main_v6 (F := Ideal) x0 x1 x2 (ix2 n e) = ∑ d : Fin 2048, row x0 x1 n d * x2 (ix3 0 d k) := by
  have hw : ∀ d : Fin 2048, val_main_v1 (F := Ideal) x2 (ix2 d e) = x2 (ix3 0 d k) := fun d => by
    refine (Rows.squeeze_apply (val_main_v0 (F := Ideal) x2) _ d e).trans ?_
    rw [val_main_v0_apply]
    exact congrArg x2 (funext fun a => Fin.ext (by match a with | ⟨0, _⟩ => rfl | ⟨1, _⟩ => rfl | ⟨2, _⟩ => exact hk.symm))
  refine (Rows.concat_rows (val_main_v2 (F := Ideal) x0 x2) (val_main_v3 (F := Ideal) x1 x2) _ _ _ n e).trans ?_
  refine (Rows.row_map (fun r e => ∑ d : Fin 2048, r d * val_main_v1 (F := Ideal) x2 (ix2 d e)) x0 x1 _ _ (fun b p e => ?_) (fun b p e => ?_) n e).trans ?_
  · rw [val_main_v2_apply]
    exact Finset.sum_congr rfl fun d _ => congrArg₂ (· * ·) (congrArg x0 (funext fun a => Fin.ext (by match a with | ⟨0, _⟩ => rfl | ⟨1, _⟩ => rfl | ⟨2, _⟩ => rfl)))
      (congrArg (val_main_v1 (F := Ideal) x2) (funext fun a => Fin.ext (by match a with | ⟨0, _⟩ => rfl | ⟨1, _⟩ => rfl)))
  · rw [val_main_v3_apply]
    exact Finset.sum_congr rfl fun d _ => congrArg₂ (· * ·) (congrArg x1 (funext fun a => Fin.ext (by match a with | ⟨0, _⟩ => rfl | ⟨1, _⟩ => rfl | ⟨2, _⟩ => rfl)))
      (congrArg (val_main_v1 (F := Ideal) x2) (funext fun a => Fin.ext (by match a with | ⟨0, _⟩ => rfl | ⟨1, _⟩ => rfl)))
  · exact Finset.sum_congr rfl fun d _ => by rw [hw d]

end ref

theorem final_eq (c : Dev nD) :
    (dats m 0 c).arrAt 2 cfg0.N = Cert.ValuesRefIdeal.Read.val_main_v6 (F := Ideal) (x0 m c) (x1 m c) (x2 m c) := by
  refine (dats m 0 c).arrAt_eq_of_covers 2 _ (by decide +kernel) fun t _ y => ?_
  have ht : t.val < 18 := Nat.lt_of_lt_of_eq t.isLt N_0
  have hr : (y 0).val < 1024 := (y 0).isLt
  have he : (y 1).val < 512 := (y 1).isLt
  let r : Fin 1024 := ⟨(y 0).val, hr⟩
  let e : Fin 512 := ⟨(y 1).val, he⟩
  let n : Fin 9216 := ⟨t.val % 9 * 1024 + (y 0).val, by omega⟩
  let f : Fin 1024 := ⟨t.val / 9 * 512 + (y 1).val, by omega⟩
  let k : Fin 5128 := ⟨4096 + 512 * (t.val / 9) + (y 1).val, by omega⟩
  have hy : y = ix2 r e := by funext a; match a with | ⟨0, _⟩ => rfl | ⟨1, _⟩ => rfl
  blk_simp
  have hi : (win0_2.blk t).view.emb y = ix2 n f := by
    funext a
    match a with
    | ⟨0, _⟩ => apply Fin.ext; blk_simp [idx t]; rfl
    | ⟨1, _⟩ => apply Fin.ext; blk_simp [idx t]; rfl
  rw [hi, ref_apply (x0 m c) (x1 m c) (x2 m c) n f k (by show 4096 + 512 * (t.val / 9) + (y 1).val = 4096 + (t.val / 9 * 512 + (y 1).val); omega), after0_2]
  exact (congrArg (outsAt0 m c t.val t.isLt).1 hy).trans (block m c t r e n rfl k rfl)

attribute [local instance] Cert.ValuesIdeal.Gen.facts Cert.ValuesRefIdeal.Gen.facts

/-- The values the call leaves are the reference's. -/
theorem algebraic : Cert.algebraic_ValuesIdeal_ValuesRefIdeal := by
  intro m g m' g' _ hag
  refine ⟨fun c => Cert.ValuesRefIdeal.Read.val_main_v6 (F := Ideal) (x0 m c) (x1 m c) (x2 m c),
    (θ_run _ _ _).mono (fun r hr c => ⟨(hr c).1.trans (final_eq m c), (hr c).2⟩) (Cert.ValuesIdeal.Value.run_blocks m g),
    (θ_run _ _ _).mono (fun r hr c => ⟨(hr c).1.trans ?_, (hr c).2⟩) (Cert.ValuesRefIdeal.Value.run m' g')⟩
  obtain ⟨a0, a1, a2⟩ := hag c
  rw [a0, a1, a2]
  exact Cert.ValuesRefIdeal.Read.val_main_v6_eq _ _ _

end Cert.ValuesValue
end
-- ==== Proof.OddValue.lean ====
/- The odd layer's input projection: each grid point multiplies a block of 1024 rows by the column block of the weights that the first
   point of its column kept in scratch. -/
module

public import proofs.«01_k».proof.Defs
public import proofs.«01_k».proof.Proof.Gen.OddIdeal.Value
public import proofs.«01_k».proof.Proof.Gen.OddRefIdeal.Read
public import proofs.«01_k».proof.Proof.Rows
public import Idealize.ShloMosaic.Lib.Claim
public import Idealize.ShloMosaic.Lib.Pipeline.Covers

@[expose] public section

set_option maxRecDepth 16384
noncomputable section
namespace Cert.OddValue
open Cert.OddIdeal Cert.OddIdeal.Gen Idealize.ShloMosaic Idealize.ShloMosaic.TcCoe Idealize.SL.Sem
open Cert.Rows (row)

theorem pay1_apply (w : Vec Ideal S2048x512 .f32) (d : Fin 2048) (e : Fin 512) : k0_pay1 w (ix2 d e) = w (ix2 d e) := by
  pointwise [k0_pay1]

theorem pay2_apply (x : Vec Ideal S1024x2048 .bf16) (w : Vec Ideal S2048x512 .bf16) (r : Fin 1024) (e : Fin 512) :
    k0_pay2 x w (ix2 r e) = ∑ d : Fin 2048, x (ix2 r d) * w (ix2 d e) := by
  pointwise [k0_pay2]

section outs
variable (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S1024x512 .f32) (harg4 : arg4.IsWhole) (arg5 : Memref sig .tc .vmem S2048x512 .bf16) (harg5 : arg5.IsWhole)
  (x0 : Vec Ideal S1024x2048 .bf16) (x1 : Vec Ideal S2048x512 .f32) (xs0 : Vec Ideal S2048x512 .bf16)

theorem out_A (hc0 : cond0_0 i) : out0_A_2 c i arg2 harg2 arg3 harg3 arg4 harg4 arg5 harg5 hc0 x0 x1 = k0_pay2 x0 (k0_pay1 x1) := by
  frame_out
  try simp only [View.read_rep]

theorem sout_A (hc0 : cond0_0 i) : sout0_A_0 c i arg2 harg2 arg3 harg3 arg4 harg4 arg5 harg5 hc0 x0 x1 = k0_pay1 x1 := by
  frame_out
  try simp only [View.read_rep]

theorem out_B (hc0 : ¬cond0_0 i) : out0_B_2 c i arg2 harg2 arg3 harg3 arg4 harg4 arg5 harg5 hc0 x0 x1 xs0 = k0_pay2 x0 xs0 := by
  frame_out
  try simp only [View.read_rep]

end outs

variable (m : (ℓ : Loc nD τ sig) → Buf (Elt Ideal) ℓ)

theorem idx : ∀ t : Fin cfg0.N, win0_0.index t = ![t.val % 9, 0] ∧ win0_1.index t = ![0, t.val / 9] ∧ win0_2.index t = ![t.val % 9, t.val / 9] :=
  (by decide +kernel : ∀ t : Fin grid0.N, _)

/-- The input rows and the layer's weights, as a device holds them. -/
abbrev x0 (c : Dev nD) : FVec Ideal S9216x2048 .bf16 := m ((c : Thread nD τ).loc main_arg0)
abbrev x1 (c : Dev nD) : FVec Ideal S1x2048x6144 .f32 := m ((c : Thread nD τ).loc main_arg1)

/-- The rows the call is given are the operand's. -/
theorem Va_eq (c : Dev nD) : (V m c main_arg0 : FVec Ideal S9216x2048 .bf16) = x0 m c := by
  show StableHlo.after hostOps0 _ _ = _
  after_results_simp <;> rfl

/-- The weights the call is given are the layer's. -/
theorem Vw_apply (c : Dev nD) (d : Fin 2048) (e : Fin 6144) : (V m c main_v0 : FVec Ideal S2048x6144 .f32) (ix2 d e) = x1 m c (ix3 0 d e) := by
  have h : (V m c main_v0 : FVec Ideal S2048x6144 .f32) = shapeCast S2048x6144 (x1 m c) shapeCasts_S1x2048x6144_S2048x6144 := by
    show StableHlo.after hostOps0 _ _ = _
    after_results_simp <;> rfl
  rw [h]
  exact Rows.squeeze_apply (x1 m c) _ d e

theorem x0_apply (c : Dev nD) (t : Fin cfg0.N) (r : Fin 1024) (d : Fin 2048) (n : Fin 9216) (hn : n.val = t.val % 9 * 1024 + r.val) :
    (iblk m c 0 t : FVec Ideal S1024x2048 .bf16) (ix2 r d) = x0 m c (ix2 n d) := by
  rw [← Va_eq]
  blk_ext [iblk, V, idx t]

theorem w_apply (c : Dev nD) (t : Fin cfg0.N) (d : Fin 2048) (e : Fin 512) (k : Fin 6144) (hk : k.val = 512 * (t.val / 9) + e.val) :
    (iblk m c 1 t : FVec Ideal S2048x512 .f32) (ix2 d e) = x1 m c (ix3 0 d k) := by
  rw [← Vw_apply]
  blk_ext [iblk, V, idx t]

/-- The scratch holds, after every point, the point's own column block of the weights. -/
theorem scratch (c : Dev nD) : ∀ (n : ℕ) (hn : n < cfg0.N) (d : Fin 2048) (e : Fin 512) (k : Fin 6144), k.val = 512 * (n / 9) + e.val →
    (outsAt0 m c n hn).2 (ix2 d e) = x1 m c (ix3 0 d k) := by
  intro n
  induction n with
  | zero =>
    intro hn d e k hk
    rw [outsAt0_A m c ⟨0, hn⟩ rfl]
    dsimp only
    rw [sout_A]
    exact (pay1_apply _ d e).trans (w_apply m c ⟨0, hn⟩ d e k hk)
  | succ n ih =>
    intro hn d e k hk
    by_cases h0 : (n + 1) % 9 = 0
    · rw [outsAt0_A m c ⟨n + 1, hn⟩ h0]
      dsimp only
      rw [sout_A]
      exact (pay1_apply _ d e).trans (w_apply m c ⟨n + 1, hn⟩ d e k hk)
    · rw [outsAt0_B m c ⟨n + 1, hn⟩ h0]
      dsimp only
      unfold sout0_B_0
      exact ih (Nat.lt_of_succ_lt hn) d e k (by omega)

/-- The block a point leaves: its rows times its column block. -/
theorem block (c : Dev nD) (t : Fin cfg0.N) (r : Fin 1024) (e : Fin 512) (n : Fin 9216) (hn : n.val = t.val % 9 * 1024 + r.val)
    (k : Fin 6144) (hk : k.val = 512 * (t.val / 9) + e.val) :
    (outsAt0 m c t.val t.isLt).1 (ix2 r e) = ∑ d : Fin 2048, x0 m c (ix2 n d) * x1 m c (ix3 0 d k) := by
  by_cases h0 : t.val % 9 = 0
  · rw [congrArg Prod.fst (outsAt0_A m c t h0), out_A]
    refine (pay2_apply _ _ r e).trans ?_
    refine Finset.sum_congr rfl fun d _ => ?_
    rw [pay1_apply, x0_apply m c t r d n hn, w_apply m c t d e k hk]
  · rw [congrArg Prod.fst (outsAt0_B m c t h0), out_B]
    refine (pay2_apply _ _ r e).trans ?_
    refine Finset.sum_congr rfl fun d _ => ?_
    rw [x0_apply m c t r d n hn, scratch m c (t.val - 1) _ d e k (by omega)]

section ref
open Cert.OddRefIdeal.Read

/-- The reference's result at a row: the row against a column of the weights. -/
theorem ref_apply (x0 : FVec Ideal S9216x2048 .bf16) (x1 : FVec Ideal S1x2048x6144 .f32) (n : Fin 9216) (k : Fin 6144) :
    val_main_v2 (F := Ideal) x0 x1 (ix2 n k) = ∑ d : Fin 2048, x0 (ix2 n d) * x1 (ix3 0 d k) := by
  rw [val_main_v2_apply]
  refine Finset.sum_congr rfl fun d _ => congrArg₂ (· * ·) (congrArg x0 (funext fun a => Fin.ext (by match a with | ⟨0, _⟩ => rfl | ⟨1, _⟩ => rfl))) ?_
  refine (congrArg (val_main_v1 (F := Ideal) x1) (funext fun a => Fin.ext (by match a with | ⟨0, _⟩ => rfl | ⟨1, _⟩ => rfl))).trans (Rows.squeeze_apply x1 _ d k)

end ref

theorem final_eq (c : Dev nD) :
    (dats m 0 c).arrAt 2 cfg0.N = Cert.OddRefIdeal.Read.val_main_v2 (F := Ideal) (x0 m c) (x1 m c) := by
  refine (dats m 0 c).arrAt_eq_of_covers 2 _ (by decide +kernel) fun t _ y => ?_
  have ht : t.val < 108 := Nat.lt_of_lt_of_eq t.isLt N_0
  have hr : (y 0).val < 1024 := (y 0).isLt
  have he : (y 1).val < 512 := (y 1).isLt
  let r : Fin 1024 := ⟨(y 0).val, hr⟩
  let e : Fin 512 := ⟨(y 1).val, he⟩
  let n : Fin 9216 := ⟨t.val % 9 * 1024 + (y 0).val, by omega⟩
  let k : Fin 6144 := ⟨t.val / 9 * 512 + (y 1).val, by omega⟩
  have hy : y = ix2 r e := by funext a; match a with | ⟨0, _⟩ => rfl | ⟨1, _⟩ => rfl
  blk_simp
  have hi : (win0_2.blk t).view.emb y = ix2 n k := by
    funext a
    match a with
    | ⟨0, _⟩ => apply Fin.ext; blk_simp [idx t]; rfl
    | ⟨1, _⟩ => apply Fin.ext; blk_simp [idx t]; rfl
  rw [hi, ref_apply (x0 m c) (x1 m c) n k, after0_2]
  exact (congrArg (outsAt0 m c t.val t.isLt).1 hy).trans (block m c t r e n rfl k (by show t.val / 9 * 512 + (y 1).val = 512 * (t.val / 9) + (y 1).val; omega))

attribute [local instance] Cert.OddIdeal.Gen.facts Cert.OddRefIdeal.Gen.facts

/-- The products the call leaves are the reference's. -/
theorem algebraic : Cert.algebraic_OddIdeal_OddRefIdeal := by
  intro m g m' g' _ hag
  refine ⟨fun c => Cert.OddRefIdeal.Read.val_main_v2 (F := Ideal) (x0 m c) (x1 m c),
    (θ_run _ _ _).mono (fun r hr c => ⟨(hr c).1.trans (final_eq m c), (hr c).2⟩) (Cert.OddIdeal.Value.run_blocks m g),
    (θ_run _ _ _).mono (fun r hr c => ⟨(hr c).1.trans ?_, (hr c).2⟩) (Cert.OddRefIdeal.Value.run m' g')⟩
  obtain ⟨a0, a1⟩ := hag c
  rw [a0, a1]
  exact Cert.OddRefIdeal.Read.val_main_v2_eq _ _

end Cert.OddValue
end
-- ==== Proof.LogfValue.lean ====
/- The forget gate's logarithm: each grid point projects a block of 512 rows on the eight heads and takes the logarithm of the
   logistic function. -/
module

public import proofs.«01_k».proof.Defs
public import proofs.«01_k».proof.Proof.Gen.LogfIdeal.Value
public import proofs.«01_k».proof.Proof.Gen.LogfRefIdeal.Read
public import proofs.«01_k».proof.Proof.Rows
public import Idealize.ShloMosaic.Lib.Claim
public import Idealize.ShloMosaic.Lib.Pipeline.Covers

@[expose] public section

set_option maxRecDepth 16384
noncomputable section
namespace Cert.LogfValue
open Cert.LogfIdeal Cert.LogfIdeal.Gen Idealize.ShloMosaic Idealize.ShloMosaic.TcCoe Idealize.SL.Sem
open Cert.Rows (row)

/-- The logarithm of the logistic function. -/
def logsig (z : EReal) : EReal := -(max (-z) 0 + Ideal.log1p (Ideal.exp (-max z (-z))))

theorem abs_eq (z : EReal) : (FloatOps.absf (F := Ideal) (φ := .f32) z : EReal) = max z (-z) := rfl

theorem pay4_apply (x : Vec Ideal S512x2048 .bf16) (w : Vec Ideal S2048x8 .f32) (b : Vec Ideal S1x8 .f32) (r : Fin 512) (h : Fin 8) :
    k0_pay4 x w b (ix2 r h) = logsig (∑ d : Fin 2048, x (ix2 r d) * w (ix2 d h) + b (ix2 0 h)) := by
  have e : k0_pay4 x w b (ix2 r h) = 0 - (max (0 - (∑ d : Fin 2048, x (ix2 r d) * w (ix2 d h) + b (ix2 0 h))) 0 +
        Ideal.log1p (Ideal.exp (0 - FloatOps.absf (F := Ideal) (φ := .f32) (∑ d : Fin 2048, x (ix2 r d) * w (ix2 d h) + b (ix2 0 h))))) := by
    pointwise [k0_pay4, k0_pay3]
  rw [e, abs_eq, zero_sub, zero_sub, zero_sub]
  rfl

section outs
variable (c : Dev nD) (i : grid0.Coords) (arg1 : Memref sig .tc .vmem S512x2048 .bf16) (harg1 : arg1.IsWhole) (arg2 : Memref sig .tc .vmem S2048x8 .f32) (harg2 : arg2.IsWhole) (arg3 : Memref sig .tc .vmem S8x2048 .f32) (harg3 : arg3.IsWhole) (arg4 : Memref sig .tc .vmem S1x8 .f32) (harg4 : arg4.IsWhole) (arg5 : Memref sig .tc .vmem S8x1 .f32) (harg5 : arg5.IsWhole) (arg6 : Memref sig .tc .vmem S512x8 .f32) (harg6 : arg6.IsWhole) (arg7 : Memref sig .tc .vmem S8x512 .f32) (harg7 : arg7.IsWhole) (arg8 : Memref sig .tc .vmem S512x8 .f32) (harg8 : arg8.IsWhole) (arg9 : Memref sig .tc .vmem S8x512 .f32) (harg9 : arg9.IsWhole) (arg10 : Memref sig .tc .vmem S1x8 .f32) (harg10 : arg10.IsWhole) (arg11 : Memref sig .tc .vmem S8x1 .f32) (harg11 : arg11.IsWhole)
  (x0 : Vec Ideal S512x2048 .bf16) (x1 : Vec Ideal S2048x8 .f32) (x2 : Vec Ideal S8x2048 .f32) (x3 : Vec Ideal S1x8 .f32) (x4 : Vec Ideal S8x1 .f32) (xs0 : Vec Ideal S1x8 .f32) (xs1 : Vec Ideal S8x1 .f32)

theorem out_A (hc0 : cond0_0 i) : out0_A_5 c i arg1 harg1 arg2 harg2 arg3 harg3 arg4 harg4 arg5 harg5 arg6 harg6 arg7 harg7 arg8 harg8 arg9 harg9 arg10 harg10 arg11 harg11 hc0 x0 x1 x2 x3 x4 = k0_pay4 x0 x1 x3 := by
  frame_out
  try simp only [View.read_rep]

theorem out_B (hc0 : ¬cond0_0 i) : out0_B_5 c i arg1 harg1 arg2 harg2 arg3 harg3 arg4 harg4 arg5 harg5 arg6 harg6 arg7 harg7 arg8 harg8 arg9 harg9 arg10 harg10 arg11 harg11 hc0 x0 x1 x2 x3 x4 xs0 xs1 = k0_pay4 x0 x1 x3 := by
  frame_out
  try simp only [View.read_rep]

end outs

variable (m : (ℓ : Loc nD τ sig) → Buf (Elt Ideal) ℓ)

theorem idx : ∀ t : Fin cfg0.N, win0_0.index t = ![t.val, 0] ∧ win0_1.index t = ![0, 0] ∧ win0_3.index t = ![0, 0] ∧ win0_5.index t = ![t.val, 0] :=
  (by decide +kernel : ∀ t : Fin grid0.N, _)

/-- The prompt's input, the sample's input, the layer's weights and the gate's shift, as a device holds them. -/
abbrev x0 (c : Dev nD) : FVec Ideal S4x2048x2048 .f32 := m ((c : Thread nD τ).loc main_arg0)
abbrev x1 (c : Dev nD) : FVec Ideal S128x8x2048 .f32 := m ((c : Thread nD τ).loc main_arg1)
abbrev x2 (c : Dev nD) : FVec Ideal S1x2048x5128 .f32 := m ((c : Thread nD τ).loc main_arg2)
abbrev x3 (c : Dev nD) : FVec Ideal S1x8 .f32 := m ((c : Thread nD τ).loc main_arg3)

/-- The rows the call is given are the tokens' rows. -/
theorem V3_apply (c : Dev nD) (n : Fin 9216) (d : Fin 2048) : (V m c main_v3 : FVec Ideal S9216x2048 .bf16) (ix2 n d) = row (x0 m c) (x1 m c) n d := by
  have e : (V m c main_v3 : FVec Ideal S9216x2048 .bf16) = truncf .bf16 (concatenate S9216x2048 0 [⟨S8192x2048, shapeCast S8192x2048 (x0 m c) shapeCasts_S4x2048x2048_S8192x2048⟩, ⟨S1024x2048, shapeCast S1024x2048 (x1 m c) shapeCasts_S128x8x2048_S1024x2048⟩] concatenates_S8192x2048_S1024x2048_S9216x2048_d0 : FVec Ideal S9216x2048 .f32) bitsLt_bf16_f32 := by
    show StableHlo.after hostOps0 _ _ = _
    after_results_simp <;> rfl
  rw [e]
  exact Rows.concat_rows (x0 m c) (x1 m c) shapeCasts_S4x2048x2048_S8192x2048 shapeCasts_S128x8x2048_S1024x2048 concatenates_S8192x2048_S1024x2048_S9216x2048_d0 n d

/-- The weights the call is given are the layer's gate columns. -/
theorem V5_apply (c : Dev nD) (d : Fin 2048) (e : Fin 8) (k : Fin 5128) (hk : k.val = 5120 + e.val) :
    (V m c main_v5 : FVec Ideal S2048x8 .f32) (ix2 d e) = x2 m c (ix3 0 d k) := by
  have h : (V m c main_v5 : FVec Ideal S2048x8 .f32) = extractStridedSlice S2048x8 ![0, 5120] (shapeCast S2048x5128 (x2 m c) shapeCasts_S1x2048x5128_S2048x5128) slices_S2048x5128_S2048x8_0_5120 := by
    show StableHlo.after hostOps0 _ _ = _
    after_results_simp <;> rfl
  rw [h]
  refine Eq.trans ?_ (Rows.squeeze_apply (x2 m c) shapeCasts_S1x2048x5128_S2048x5128 d k)
  exact congrArg (shapeCast S2048x5128 (x2 m c) shapeCasts_S1x2048x5128_S2048x5128) (funext fun a => Fin.ext (by match a with | ⟨0, _⟩ => exact Nat.zero_add _ | ⟨1, _⟩ => exact hk.symm))

/-- The shift the call is given is the layer's. -/
theorem V8_apply (c : Dev nD) (e : Fin 8) : (V m c main_v8 : FVec Ideal S1x8 .f32) (ix2 0 e) = x3 m c (ix2 0 e) := by
  have h : (V m c main_v8 : FVec Ideal S1x8 .f32) = shapeCast S1x8 (shapeCast S8 (x3 m c) shapeCasts_S1x8_S8) shapeCasts_S8_S1x8 := by
    show StableHlo.after hostOps0 _ _ = _
    after_results_simp <;> rfl
  rw [h]
  refine (Rows.unsqueeze_apply (shapeCast S8 (x3 m c) shapeCasts_S1x8_S8) _ e).trans ?_
  refine shapeCast_apply (x3 m c) _ _ _ ?_
  rw [Shape.rowMajor_val_two, Shape.rowMajor_val_one]
  show 0 * 8 + e.val = e.val
  rw [Nat.zero_mul, Nat.zero_add]

section blocks
variable (c : Dev nD) (t : Fin cfg0.N)

theorem x0_apply (r : Fin 512) (d : Fin 2048) (n : Fin 9216) (hn : n.val = t.val * 512 + r.val) :
    (iblk m c 0 t : FVec Ideal S512x2048 .bf16) (ix2 r d) = row (x0 m c) (x1 m c) n d := by
  rw [← V3_apply]
  blk_ext [iblk, V, idx t]

theorem w_apply (d : Fin 2048) (e : Fin 8) (k : Fin 5128) (hk : k.val = 5120 + e.val) :
    (iblk m c 1 t : FVec Ideal S2048x8 .f32) (ix2 d e) = x2 m c (ix3 0 d k) := by
  rw [← V5_apply m c d e k hk]
  blk_ext [iblk, V, idx t]

theorem b_apply (e : Fin 8) : (iblk m c 3 t : FVec Ideal S1x8 .f32) (ix2 0 e) = x3 m c (ix2 0 e) := by
  rw [← V8_apply]
  blk_ext [iblk, V, idx t]

/-- The block a point leaves: the gates of its rows. -/
theorem block (r : Fin 512) (e : Fin 8) (n : Fin 9216) (hn : n.val = t.val * 512 + r.val) (k : Fin 5128) (hk : k.val = 5120 + e.val) :
    (outsAt0 m c t.val t.isLt).1 (ix2 r e) = logsig (∑ d : Fin 2048, row (x0 m c) (x1 m c) n d * x2 m c (ix3 0 d k) + x3 m c (ix2 0 e)) := by
  have h : (outsAt0 m c t.val t.isLt).1 = k0_pay4 (iblk m c 0 t) (iblk m c 1 t) (iblk m c 3 t) := by
    by_cases h0 : t.val % 4 = 0
    · rw [congrArg Prod.fst (outsAt0_A m c t h0), out_A]
    · rw [congrArg Prod.fst (outsAt0_B m c t h0), out_B]
  rw [h]
  refine (pay4_apply _ _ _ r e).trans ?_
  rw [b_apply]
  refine congrArg (fun s => logsig (s + x3 m c (ix2 0 e))) (Finset.sum_congr rfl fun d _ => ?_)
  rw [x0_apply m c t r d n hn, w_apply m c t d e k hk]

end blocks

section ref
open Cert.LogfRefIdeal.Read

/-- What the library's logarithm of the logistic function does to an entry. -/
theorem logsig_eq (z : EReal) : (-(if (-z) ≠ (-z) then -z else max (-z) 0 + Ideal.log1p (Ideal.exp (-(FloatOps.absf (F := Ideal) (φ := .f32) (-z) : EReal)))) : EReal) = logsig z := by
  rw [if_neg (fun h => h rfl), abs_eq, neg_neg, max_comm (-z) z]
  rfl

theorem v7_apply (x0 : FVec Ideal S4x2048x2048 .f32) (x2 : FVec Ideal S1x2048x5128 .f32) (x3 : FVec Ideal S1x8 .f32) (i : Cert.LogfRefIdeal.S4x2048x8.Idx) :
    val_main_v7 (F := Ideal) x0 x2 x3 i = logsig (val_main_v6 (F := Ideal) x0 x2 x3 i) := by
  refine Eq.trans ?_ (logsig_eq _)
  pointwise [val_main_v7, val_main_call0_v1, val_main_call0_call0_v4, val_main_call0_call0_v6, val_main_call0_call0_v11, val_main_call0_call0_v1, val_main_call0_call0_v10, val_main_call0_call0_v9, val_main_call0_call0_v8, val_main_call0_call0_v7, val_main_call0_call0_v5, val_main_call0_call0_v3, val_main_call0_call0_v2, val_main_call0_call0_v0, val_main_call0_call0_cst, val_main_call0_v0]

theorem v13_apply (x1 : FVec Ideal S128x8x2048 .f32) (x2 : FVec Ideal S1x2048x5128 .f32) (x3 : FVec Ideal S1x8 .f32) (i : Cert.LogfRefIdeal.S128x8x8.Idx) :
    val_main_v13 (F := Ideal) x1 x2 x3 i = logsig (val_main_v12 (F := Ideal) x1 x2 x3 i) := by
  refine Eq.trans ?_ (logsig_eq _)
  pointwise [val_main_v13, val_main_call1_v1, val_main_call1_call0_v4, val_main_call1_call0_v6, val_main_call1_call0_v11, val_main_call1_call0_v1, val_main_call1_call0_v10, val_main_call1_call0_v9, val_main_call1_call0_v8, val_main_call1_call0_v7, val_main_call1_call0_v5, val_main_call1_call0_v3, val_main_call1_call0_v2, val_main_call1_call0_v0, val_main_call1_call0_cst, val_main_call1_v0]

/-- The reference's result at a token: the gates of its row. -/
theorem ref_apply (x0 : FVec Ideal S4x2048x2048 .f32) (x1 : FVec Ideal S128x8x2048 .f32) (x2 : FVec Ideal S1x2048x5128 .f32) (x3 : FVec Ideal S1x8 .f32) (n : Fin 9216) (e : Fin 8)
    (k : Fin 5128) (hk : k.val = 5120 + e.val) :
    val_main_v16 (F := Ideal) x0 x1 x2 x3 (ix2 n e) = logsig (∑ d : Fin 2048, row x0 x1 n d * x2 (ix3 0 d k) + x3 (ix2 0 e)) := by
  have hw : ∀ d : Fin 2048, val_main_v1 (F := Ideal) x2 (ix2 d e) = x2 (ix3 0 d k) := fun d => by
    refine (Rows.squeeze_apply (val_main_v0 (F := Ideal) x2) _ d e).trans ?_
    rw [val_main_v0_apply]
    exact congrArg x2 (funext fun a => Fin.ext (by match a with | ⟨0, _⟩ => rfl | ⟨1, _⟩ => rfl | ⟨2, _⟩ => exact hk.symm))
  refine (Rows.concat_rows (val_main_v7 (F := Ideal) x0 x2 x3) (val_main_v13 (F := Ideal) x1 x2 x3) _ _ _ n e).trans ?_
  refine (Rows.row_map (fun r e => logsig (∑ d : Fin 2048, r d * val_main_v1 (F := Ideal) x2 (ix2 d e) + x3 (ix2 0 e))) x0 x1 _ _ (fun b p e => ?_) (fun b p e => ?_) n e).trans ?_
  · rw [v7_apply, val_main_v6_apply, val_main_v2_apply, val_main_v5_apply, val_main_v4_apply, val_main_v3_apply]
    exact congrArg logsig (congrArg₂ (· + ·) (Finset.sum_congr rfl fun d _ => congrArg₂ (· * ·) (congrArg x0 (funext fun a => Fin.ext (by match a with | ⟨0, _⟩ => rfl | ⟨1, _⟩ => rfl | ⟨2, _⟩ => rfl)))
      (congrArg (val_main_v1 (F := Ideal) x2) (funext fun a => Fin.ext (by match a with | ⟨0, _⟩ => rfl | ⟨1, _⟩ => rfl))))
      (congrArg x3 (funext fun a => by match a with | ⟨0, _⟩ => exact Subsingleton.elim (α := Fin 1) _ _ | ⟨1, _⟩ => apply Fin.ext; simp [idx_main_v3, idx_main_v4, idx_main_v5])))
  · rw [v13_apply, val_main_v12_apply, val_main_v8_apply, val_main_v11_apply, val_main_v10_apply, val_main_v9_apply]
    exact congrArg logsig (congrArg₂ (· + ·) (Finset.sum_congr rfl fun d _ => congrArg₂ (· * ·) (congrArg x1 (funext fun a => Fin.ext (by match a with | ⟨0, _⟩ => rfl | ⟨1, _⟩ => rfl | ⟨2, _⟩ => rfl)))
      (congrArg (val_main_v1 (F := Ideal) x2) (funext fun a => Fin.ext (by match a with | ⟨0, _⟩ => rfl | ⟨1, _⟩ => rfl))))
      (congrArg x3 (funext fun a => by match a with | ⟨0, _⟩ => exact Subsingleton.elim (α := Fin 1) _ _ | ⟨1, _⟩ => apply Fin.ext; simp [idx_main_v9, idx_main_v10, idx_main_v11])))
  · exact congrArg (fun s => logsig (s + x3 (ix2 0 e))) (Finset.sum_congr rfl fun d _ => by rw [hw d])

end ref

theorem final_eq (c : Dev nD) :
    (dats m 0 c).arrAt 5 cfg0.N = Cert.LogfRefIdeal.Read.val_main_v16 (F := Ideal) (x0 m c) (x1 m c) (x2 m c) (x3 m c) := by
  refine (dats m 0 c).arrAt_eq_of_covers 5 _ (by decide +kernel) fun t _ y => ?_
  have ht : t.val < 18 := Nat.lt_of_lt_of_eq t.isLt N_0
  have hr : (y 0).val < 512 := (y 0).isLt
  have he : (y 1).val < 8 := (y 1).isLt
  let r : Fin 512 := ⟨(y 0).val, hr⟩
  let e : Fin 8 := ⟨(y 1).val, he⟩
  let n : Fin 9216 := ⟨t.val * 512 + (y 0).val, by omega⟩
  let k : Fin 5128 := ⟨5120 + (y 1).val, by omega⟩
  have hy : y = ix2 r e := by funext a; match a with | ⟨0, _⟩ => rfl | ⟨1, _⟩ => rfl
  blk_simp
  have hi : (win0_5.blk t).view.emb y = ix2 n e := by
    funext a
    match a with
    | ⟨0, _⟩ => apply Fin.ext; blk_simp [idx t]; rfl
    | ⟨1, _⟩ => apply Fin.ext; blk_simp [idx t]; rfl
  rw [hi, ref_apply (x0 m c) (x1 m c) (x2 m c) (x3 m c) n e k rfl, after0_5]
  exact (congrArg (outsAt0 m c t.val t.isLt).1 hy).trans (block m c t r e n rfl k rfl)

attribute [local instance] Cert.LogfIdeal.Gen.facts Cert.LogfRefIdeal.Gen.facts

/-- The gates the call leaves are the reference's. -/
theorem algebraic : Cert.algebraic_LogfIdeal_LogfRefIdeal := by
  intro m g m' g' _ hag
  refine ⟨fun c => Cert.LogfRefIdeal.Read.val_main_v16 (F := Ideal) (x0 m c) (x1 m c) (x2 m c) (x3 m c),
    (θ_run _ _ _).mono (fun r hr c => ⟨(hr c).1.trans (final_eq m c), (hr c).2.2.2.2⟩) (Cert.LogfIdeal.Value.run_blocks m g),
    (θ_run _ _ _).mono (fun r hr c => ⟨(hr c).1.trans ?_, (hr c).2⟩) (Cert.LogfRefIdeal.Value.run m' g')⟩
  obtain ⟨h0, h1, h2, h3⟩ := hag c
  refine (Cert.LogfRefIdeal.Read.val_main_v16_eq m' c).trans ?_
  rw [h0, h1, h2, h3]

end Cert.LogfValue
end
-- ==== Proof.LayerNorm.lean ====
/- The layer norm of one row, as the kernels and the references both compute it. -/
module

public import Idealize.ShloMosaic.Lib.Pointwise
public import Idealize.ShloMosaic.PureOps.Ideal

@[expose] public section

noncomputable section
namespace Cert.LayerNorm
open Idealize.ShloMosaic

/-- Entry `e` of a row `z` less its mean, over the root of its variance (with `eps`), scaled by `g` and shifted by `b`; `cnt` is the row's length. -/
def lnorm {w : ℕ} (cnt eps : EReal) (z : Fin w → EReal) (g b : EReal) (e : Fin w) : EReal :=
  (z e - Ideal.div (∑ k, z k) cnt) * Ideal.rsqrt (Ideal.div (∑ x, (z x - Ideal.div (∑ k, z k) cnt) * (z x - Ideal.div (∑ k, z k) cnt)) cnt + eps) * g + b

end Cert.LayerNorm
end
-- ==== Proof.OutprojValue.lean ====
/- The output projection: each grid point takes 256 rows of the two halves by the weights, adds the scaled residual and normalises. -/
module

public import proofs.«01_k».proof.Defs
public import proofs.«01_k».proof.Proof.Gen.OutprojIdeal.Value
public import proofs.«01_k».proof.Proof.Gen.OutprojRefIdeal.Read
public import proofs.«01_k».proof.Proof.Rows
public import proofs.«01_k».proof.Proof.LayerNorm
public import Idealize.ShloMosaic.Lib.Claim
public import Idealize.ShloMosaic.Lib.Pipeline.Covers

@[expose] public section

set_option maxRecDepth 16384
noncomputable section
namespace Cert.OutprojValue
open Cert.OutprojIdeal Cert.OutprojIdeal.Gen Idealize.ShloMosaic Idealize.ShloMosaic.TcCoe Idealize.SL.Sem

open Cert.LayerNorm (lnorm)

/-- The literals of the program: the residual's factor 4 ^ (1/4), the row's length and the layer norm's epsilon. -/
abbrev alpha : EReal := Ideal.ofBits .f32 0x3FB504F3#32
abbrev cnt : EReal := Ideal.ofBits .f32 0x45000000#32
abbrev eps : EReal := Ideal.ofBits .f32 0x3727C5AC#32

theorem pay2_apply (v0 : Vec Ideal S256x1024 .bf16) (v1 : Vec Ideal S1024x2048 .bf16) (v4 : Vec Ideal S256x1024 .bf16) (v5 : Vec Ideal S1024x2048 .bf16)
    (v9 : Vec Ideal S256x2048 .f32) (v13 : Vec Ideal S1x2048 .f32) (v15 : Vec Ideal S1x2048 .f32) (r : Fin 256) (e : Fin 2048) :
    k0_pay2 v0 v1 v4 v5 v9 v13 v15 (ix2 r e)
      = lnorm cnt eps (fun x => alpha * v9 (ix2 r x) + (∑ d, v0 (ix2 r d) * v1 (ix2 d x) + ∑ d, v4 (ix2 r d) * v5 (ix2 d x))) (v13 (ix2 0 e)) (v15 (ix2 0 e)) e := by
  unfold lnorm alpha cnt eps
  pointwise [k0_pay2]

section ref
open Cert.OutprojRefIdeal.Read
variable (x0 x1 : FVec Ideal S9216x1024 .bf16) (x2 : FVec Ideal S2048x2048 .f32) (x3 : FVec Ideal S9216x2048 .f32) (x4 x5 : FVec Ideal S2048 .f32)

theorem v30_apply (n : Fin 9216) (e : Fin 2048) :
    val_main_v30 (F := Ideal) x0 x1 x2 x3 x4 x5 (ix2 n e) = lnorm cnt eps (fun k => val_main_v6 (F := Ideal) x0 x1 x2 x3 (ix2 n k)) (x4 (ix1 e)) (x5 (ix1 e)) e := by
  unfold lnorm cnt eps
  pointwise [val_main_v30, val_main_v27, val_main_v24, val_main_v19, val_main_v18, val_main_v10, val_main_v8, val_main_v7, val_main_v9, val_main_v23, val_main_v22, val_main_v21, val_main_v17, val_main_v15, val_main_v14, val_main_v13, val_main_v12, val_main_v11, val_main_v16, val_main_v20, val_main_v26, val_main_v25, val_main_v29, val_main_v28, val_main_cst_0,val_main_cst_1,val_main_cst_2,val_main_cst_3,val_main_cst_4]

theorem v6_apply (n : Fin 9216) (e : Fin 2048) :
    val_main_v6 (F := Ideal) x0 x1 x2 x3 (ix2 n e) = alpha * x3 (ix2 n e)
      + (∑ d : Fin 1024, x0 (ix2 n d) * x2 (ix2 ⟨d.val, by omega⟩ e) + ∑ d : Fin 1024, x1 (ix2 n d) * x2 (ix2 ⟨1024 + d.val, by omega⟩ e)) := by
  have h : val_main_v6 (F := Ideal) x0 x1 x2 x3 (ix2 n e) = alpha * x3 (ix2 n e) + val_main_v5 (F := Ideal) x0 x1 x2 (ix2 n e) := by
    unfold alpha
    pointwise [val_main_v6, val_main_v4, val_main_v3, val_main_cst]
  rw [h, val_main_v5_apply]
  refine congrArg (alpha * x3 (ix2 n e) + ·) ((Fin.sum_univ_add (a := 1024) (b := 1024) _).trans ?_)
  refine congrArg₂ (· + ·) (Finset.sum_congr rfl fun d _ => congrArg₂ (· * ·) ?_ (congrArg x2 (funext fun a => Fin.ext (by match a with | ⟨0, _⟩ => rfl | ⟨1, _⟩ => rfl))))
    (Finset.sum_congr rfl fun d _ => congrArg₂ (· * ·) ?_ (congrArg x2 (funext fun a => Fin.ext (by match a with | ⟨0, _⟩ => rfl | ⟨1, _⟩ => rfl))))
  · unfold val_main_v2
    exact concatenate_pair_apply_left (t := S9216x2048) (s₁ := S9216x1024) (s₂ := S9216x1024) 1 (val_main_v0 (F := Ideal) x0) (val_main_v1 (F := Ideal) x1) _
      (lidx_main_v5 (ix2 n e) (Fin.castAdd 1024 d)) rfl (ix2 n d) (fun b => by match b with | ⟨0, _⟩ => rfl | ⟨1, _⟩ => rfl)
  · unfold val_main_v2
    exact concatenate_pair_apply_right (t := S9216x2048) (s₁ := S9216x1024) (s₂ := S9216x1024) 1 (val_main_v0 (F := Ideal) x0) (val_main_v1 (F := Ideal) x1) _
      (lidx_main_v5 (ix2 n e) (Fin.natAdd 1024 d)) rfl rfl (ix2 n d)
      (fun b hb => by match b with | ⟨0, _⟩ => rfl | ⟨1, _⟩ => exact absurd rfl hb) (by show d.val + 1024 = 1024 + d.val; omega)

theorem v31_apply (n : Fin 9216) (e : Fin 2048) :
    val_main_v31 (F := Ideal) x0 x1 x2 x3 x4 x5 (ix2 n e) = val_main_v30 (F := Ideal) x0 x1 x2 x3 x4 x5 (ix2 n e) := rfl

end ref

theorem out6_eq (x0 : Vec Ideal S256x1024 .bf16) (x1 : Vec Ideal S256x1024 .bf16) (x2 : Vec Ideal S2048x2048 .bf16) (x3 : Vec Ideal S256x2048 .f32) (x4 : Vec Ideal S1x2048 .f32) (x5 : Vec Ideal S1x2048 .f32)
    (r : Fin 256) (e : Fin 2048) : out0_6 x0 x1 x2 x3 x4 x5 (ix2 r e)
      = lnorm cnt eps (fun x => alpha * x3 (ix2 r x) + (∑ d : Fin 1024, x0 (ix2 r d) * x2 (ix2 ⟨d.val, by omega⟩ x) + ∑ d : Fin 1024, x1 (ix2 r d) * x2 (ix2 ⟨1024 + d.val, by omega⟩ x))) (x4 (ix2 0 e)) (x5 (ix2 0 e)) e := by
  have h : out0_6 x0 x1 x2 x3 x4 x5 = k0_pay3 x0 x1 x2 x3 x4 x5 := by
    frame_out
  rw [h]
  unfold k0_pay3
  rw [pay2_apply]
  have e1 : ∀ (d : Fin 1024) (k : Fin 2048), (View.ld x2 r0_1 : Vec Ideal S1024x2048 .bf16) (ix2 d k) = x2 (ix2 ⟨d.val, by omega⟩ k) := fun d k => by
    pointwise
  have e2 : ∀ (d : Fin 1024) (k : Fin 2048), (View.ld x2 r0_2 : Vec Ideal S1024x2048 .bf16) (ix2 d k) = x2 (ix2 ⟨1024 + d.val, by omega⟩ k) := fun d k => by
    pointwise
  rw [show View.ld x0 r0_0 = x0 from View.ld_unit_lit _ x0 (by decide), show View.ld x1 r0_0 = x1 from View.ld_unit_lit _ x1 (by decide), show View.ld x3 r0_3 = x3 from View.ld_unit_lit _ x3 (by decide), show View.ld x4 r0_4 = x4 from View.ld_unit_lit _ x4 (by decide), show View.ld x5 r0_4 = x5 from View.ld_unit_lit _ x5 (by decide)]
  simp only [e1, e2]

theorem out7_eq (x0 : Vec Ideal S256x1024 .bf16) (x1 : Vec Ideal S256x1024 .bf16) (x2 : Vec Ideal S2048x2048 .bf16) (x3 : Vec Ideal S256x2048 .f32) (x4 : Vec Ideal S1x2048 .f32) (x5 : Vec Ideal S1x2048 .f32)
    (i : S256x2048.Idx) : out0_7 x0 x1 x2 x3 x4 x5 i = out0_6 x0 x1 x2 x3 x4 x5 i := by
  have h : out0_6 x0 x1 x2 x3 x4 x5 = k0_pay3 x0 x1 x2 x3 x4 x5 := by
    frame_out
  have h7 : out0_7 x0 x1 x2 x3 x4 x5 = k0_pay1 (k0_pay3 x0 x1 x2 x3 x4 x5) := by
    frame_out
  rw [h, h7]
  rfl

variable (m : (ℓ : Loc nD τ sig) → Buf (Elt Ideal) ℓ)

/-- The halves, the weights, the residual, and the layer norm's scale and shift, as a device holds them. -/
abbrev a0 (c : Dev nD) : FVec Ideal S9216x1024 .bf16 := m ((c : Thread nD τ).loc main_arg0)
abbrev a1 (c : Dev nD) : FVec Ideal S9216x1024 .bf16 := m ((c : Thread nD τ).loc main_arg1)
abbrev a2 (c : Dev nD) : FVec Ideal S2048x2048 .f32 := m ((c : Thread nD τ).loc main_arg2)
abbrev a3 (c : Dev nD) : FVec Ideal S9216x2048 .f32 := m ((c : Thread nD τ).loc main_arg3)
abbrev a4 (c : Dev nD) : FVec Ideal S2048 .f32 := m ((c : Thread nD τ).loc main_arg4)
abbrev a5 (c : Dev nD) : FVec Ideal S2048 .f32 := m ((c : Thread nD τ).loc main_arg5)

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![0, 0] ∧ win0_6.index t = ![t.val, 0] ∧ win0_7.index t = ![t.val, 0] :=
  (by decide +kernel : ∀ t : Fin grid0.N, _)

theorem Va0 (c : Dev nD) : (V m c main_arg0 : FVec Ideal S9216x1024 .bf16) = a0 m c := by
  show StableHlo.after hostOps0 _ _ = _
  after_results_simp <;> rfl
theorem Va1 (c : Dev nD) : (V m c main_arg1 : FVec Ideal S9216x1024 .bf16) = a1 m c := by
  show StableHlo.after hostOps0 _ _ = _
  after_results_simp <;> rfl
theorem Va2 (c : Dev nD) : (V m c main_v0 : FVec Ideal S2048x2048 .bf16) = a2 m c := by
  show StableHlo.after hostOps0 _ _ = _
  after_results_simp <;> rfl
theorem Va3 (c : Dev nD) : (V m c main_arg3 : FVec Ideal S9216x2048 .f32) = a3 m c := by
  show StableHlo.after hostOps0 _ _ = _
  after_results_simp <;> rfl
theorem Va4 (c : Dev nD) (e : Fin 2048) : (V m c main_v1 : FVec Ideal S1x2048 .f32) (ix2 0 e) = a4 m c (ix1 e) := by
  have h : (V m c main_v1 : FVec Ideal S1x2048 .f32) = shapeCast S1x2048 (a4 m c) shapeCasts_S2048_S1x2048 := by
    show StableHlo.after hostOps0 _ _ = _
    after_results_simp <;> rfl
  rw [h]
  exact Rows.unsqueeze_apply (a4 m c) _ e
theorem Va5 (c : Dev nD) (e : Fin 2048) : (V m c main_v2 : FVec Ideal S1x2048 .f32) (ix2 0 e) = a5 m c (ix1 e) := by
  have h : (V m c main_v2 : FVec Ideal S1x2048 .f32) = shapeCast S1x2048 (a5 m c) shapeCasts_S2048_S1x2048 := by
    show StableHlo.after hostOps0 _ _ = _
    after_results_simp <;> rfl
  rw [h]
  exact Rows.unsqueeze_apply (a5 m c) _ e

section blocks
variable (c : Dev nD) (t : Fin cfg0.N) (r : Fin 256) (n : Fin 9216) (hn : n.val = t.val * 256 + r.val)

theorem b0 (d : Fin 1024) (hn : n.val = t.val * 256 + r.val) : (iblk m c 0 t : FVec Ideal S256x1024 .bf16) (ix2 r d) = a0 m c (ix2 n d) := by
  rw [← Va0]; blk_ext [iblk, V, idx t]
theorem b1 (d : Fin 1024) (hn : n.val = t.val * 256 + r.val) : (iblk m c 1 t : FVec Ideal S256x1024 .bf16) (ix2 r d) = a1 m c (ix2 n d) := by
  rw [← Va1]; blk_ext [iblk, V, idx t]
theorem b2 (d : Fin 2048) (e : Fin 2048) : (iblk m c 2 t : FVec Ideal S2048x2048 .bf16) (ix2 d e) = a2 m c (ix2 d e) := by
  rw [← Va2]; blk_ext [iblk, V, idx t]
theorem b3 (e : Fin 2048) (hn : n.val = t.val * 256 + r.val) : (iblk m c 3 t : FVec Ideal S256x2048 .f32) (ix2 r e) = a3 m c (ix2 n e) := by
  rw [← Va3]; blk_ext [iblk, V, idx t]
theorem b4 (e : Fin 2048) : (iblk m c 4 t : FVec Ideal S1x2048 .f32) (ix2 0 e) = a4 m c (ix1 e) := by
  rw [← Va4]; blk_ext [iblk, V, idx t]
theorem b5 (e : Fin 2048) : (iblk m c 5 t : FVec Ideal S1x2048 .f32) (ix2 0 e) = a5 m c (ix1 e) := by
  rw [← Va5]; blk_ext [iblk, V, idx t]

/-- The block a point leaves is the reference's rows. -/
theorem block (e : Fin 2048) (hn : n.val = t.val * 256 + r.val) :
    out0_6 (iblk m c 0 t) (iblk m c 1 t) (iblk m c 2 t) (iblk m c 3 t) (iblk m c 4 t) (iblk m c 5 t) (ix2 r e)
      = Cert.OutprojRefIdeal.Read.val_main_v30 (F := Ideal) (a0 m c) (a1 m c) (a2 m c) (a3 m c) (a4 m c) (a5 m c) (ix2 n e) := by
  rw [out6_eq, v30_apply, b4, b5]
  congr 1
  funext k
  rw [v6_apply, b3 m c t r n k hn]
  simp only [b0 m c t r n _ hn, b1 m c t r n _ hn, b2]

end blocks

theorem final6 (c : Dev nD) :
    (dats m 0 c).arrAt 6 cfg0.N = Cert.OutprojRefIdeal.Read.val_main_v30 (F := Ideal) (a0 m c) (a1 m c) (a2 m c) (a3 m c) (a4 m c) (a5 m c) := by
  refine (dats m 0 c).arrAt_eq_of_covers 6 _ (by decide +kernel) fun t _ y => ?_
  have ht : t.val < 36 := Nat.lt_of_lt_of_eq t.isLt N_0
  have hr : (y 0).val < 256 := (y 0).isLt
  let r : Fin 256 := ⟨(y 0).val, hr⟩
  let e : Fin 2048 := ⟨(y 1).val, (y 1).isLt⟩
  let n : Fin 9216 := ⟨t.val * 256 + (y 0).val, by omega⟩
  have hy : y = ix2 r e := by funext a; match a with | ⟨0, _⟩ => rfl | ⟨1, _⟩ => rfl
  blk_simp
  have hi : (win0_6.blk t).view.emb y = ix2 n e := by
    funext a
    match a with
    | ⟨0, _⟩ => apply Fin.ext; blk_simp [idx t]; rfl
    | ⟨1, _⟩ => apply Fin.ext; blk_simp [idx t]; rfl
  rw [hi, after0_6]
  exact (congrArg _ hy).trans (block m c t r n e rfl)

theorem final7 (c : Dev nD) :
    (dats m 0 c).arrAt 7 cfg0.N = Cert.OutprojRefIdeal.Read.val_main_v31 (F := Ideal) (a0 m c) (a1 m c) (a2 m c) (a3 m c) (a4 m c) (a5 m c) := by
  refine (dats m 0 c).arrAt_eq_of_covers 7 _ (by decide +kernel) fun t _ y => ?_
  have ht : t.val < 36 := Nat.lt_of_lt_of_eq t.isLt N_0
  have hr : (y 0).val < 256 := (y 0).isLt
  let r : Fin 256 := ⟨(y 0).val, hr⟩
  let e : Fin 2048 := ⟨(y 1).val, (y 1).isLt⟩
  let n : Fin 9216 := ⟨t.val * 256 + (y 0).val, by omega⟩
  have hy : y = ix2 r e := by funext a; match a with | ⟨0, _⟩ => rfl | ⟨1, _⟩ => rfl
  blk_simp
  have hi : (win0_7.blk t).view.emb y = ix2 n e := by
    funext a
    match a with
    | ⟨0, _⟩ => apply Fin.ext; blk_simp [idx t]; rfl
    | ⟨1, _⟩ => apply Fin.ext; blk_simp [idx t]; rfl
  rw [hi, after0_7, v31_apply]
  exact (out7_eq _ _ _ _ _ _ y).trans ((congrArg _ hy).trans (block m c t r n e rfl))

attribute [local instance] Cert.OutprojIdeal.Gen.facts Cert.OutprojRefIdeal.Gen.facts

/-- The two arrays the call leaves are the reference's. -/
theorem algebraic : Cert.algebraic_OutprojIdeal_OutprojRefIdeal := by
  intro m g m' g' _ hag
  refine ⟨fun c => Cert.OutprojRefIdeal.Read.val_main_v30 (F := Ideal) (a0 m c) (a1 m c) (a2 m c) (a3 m c) (a4 m c) (a5 m c),
    fun c => Cert.OutprojRefIdeal.Read.val_main_v31 (F := Ideal) (a0 m c) (a1 m c) (a2 m c) (a3 m c) (a4 m c) (a5 m c),
    (θ_run _ _ _).mono (fun r hr c => ⟨(hr c).1.trans (final6 m c), (hr c).2.1.trans (final7 m c), (hr c).2.2⟩) (Cert.OutprojIdeal.Value.run_blocks m g),
    (θ_run _ _ _).mono (fun r hr c => ⟨(hr c).1.trans ?_, (hr c).2.1.trans ?_, (hr c).2.2⟩) (Cert.OutprojRefIdeal.Value.run m' g')⟩
  · obtain ⟨h0, h1, h2, h3, h4, h5⟩ := hag c
    refine (Cert.OutprojRefIdeal.Read.val_main_v30_eq m' c).trans ?_
    rw [h0, h1, h2, h3, h4, h5]
  · obtain ⟨h0, h1, h2, h3, h4, h5⟩ := hag c
    refine (Cert.OutprojRefIdeal.Read.val_main_v31_eq m' c).trans ?_
    rw [h0, h1, h2, h3, h4, h5]

end Cert.OutprojValue
end
-- ==== Proof.ConvValue.lean ====
/- The prompt's convolution: the state each sequence is left with is the gated rows of its last thirty positions. -/
module

public import proofs.«01_k».proof.Defs
public import proofs.«01_k».proof.Proof.Gen.ConvIdeal.Value
public import proofs.«01_k».proof.Proof.Gen.ConvRefIdeal.Read
public import proofs.«01_k».proof.Proof.Rows
public import Idealize.ShloMosaic.Lib.Claim
public import Idealize.ShloMosaic.Lib.Pipeline.Covers

@[expose] public section

set_option maxRecDepth 16384
noncomputable section
namespace Cert.ConvValue
open Cert.ConvIdeal Cert.ConvIdeal.Gen Idealize.ShloMosaic Idealize.ShloMosaic.TcCoe Idealize.SL.Sem
open Cert.Rows (gated)

theorem pay2_apply (x : Vec Ideal S30x1024 .f32) (b : Fin 1) (j : Fin 30) (e : Fin 1024) : k0_pay2 x (ix3 b j e) = x (ix2 j e) := by
  unfold k0_pay2
  refine shapeCast_apply _ _ (ix3 b j e) (ix2 j e) ?_
  rw [Shape.rowMajor_val_three, Shape.rowMajor_val_two]
  show j.val * 1024 + e.val = (b.val * 30 + j.val) * 1024 + e.val
  have := b.isLt
  omega

theorem pay5_apply (a g : Vec Ideal S256x1024 .f32) (r : Fin 256) (e : Fin 1024) :
    k0_pay5 a g (ix2 r e) = gated (a (ix2 r e)) (g (ix2 r e)) := by
  unfold k0_pay5
  refine (shapeCast_apply _ _ (ix2 r e) (ix2 r e) rfl).trans ?_
  have e0 : a (ix2 r e) * Ideal.div (Ideal.ofBits .f32 0x3F800000#32) (Ideal.ofBits .f32 0x3F800000#32 + Ideal.exp (0 - g (ix2 r e))) = gated (a (ix2 r e)) (g (ix2 r e)) := by
    rw [zero_sub]; rfl
  refine Eq.trans ?_ e0
  pointwise

/-- At a sequence's last point the state is the gated rows of the point's last thirty positions. -/
theorem out_last (c : Dev nD) (i : grid0.Coords) (arg2 : Memref sig .tc .vmem S256x2048 .f32) (harg2 : arg2.IsWhole) (arg3 : Memref sig .tc .vmem S31x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S1x30x1024 .f32) (harg8 : arg8.IsWhole) (arg9 : Memref sig .tc .vmem S288x1024 .f32) (harg9 : arg9.IsWhole) (hc0 : ¬cond0_0 i) (hc1 : cond0_1 i) (hc2 : cond0_2 i)
    (x0 : Vec Ideal S256x2048 .f32) (x1 : Vec Ideal S31x1024 .f32) (x2 : Vec Ideal S1x1024 .f32) (x3 : Vec Ideal S1x1024 .f32) (x4 : Vec Ideal S1x1024 .f32) (xs0 : Vec Ideal S288x1024 .f32)
    (b : Fin 1) (j : Fin 30) (e : Fin 1024) (r : Fin 256) (hr : r.val = 226 + j.val) :
    out0_C_6 c i arg2 harg2 arg3 harg3 arg4 harg4 arg5 harg5 arg6 harg6 arg7 harg7 arg8 harg8 arg9 harg9 hc0 hc1 hc2 x0 x1 x2 x3 x4 xs0 (ix3 b j e) = gated (x0 (ix2 r ⟨e.val, by omega⟩)) (x0 (ix2 r ⟨1024 + e.val, by omega⟩)) := by
  frame_out
  rw [pay2_apply, View.readCov_eq_canon']
  refine (congrArg (View.canon _) (?_ : _ = (Rect.unit (s := S288x1024) ![32, 0] S256x1024.size inb_S288x1024_S256x1024_32_0).emb (ix2 r e))).trans
    ((View.canon_cons_emb _ _ _ _).trans ((pay5_apply _ _ r e).trans (congrArg₂ gated ?_ ?_)))
  · funext a
    match a with
    | ⟨0, _⟩ => apply Fin.ext; show 258 + 1 * j.val = 32 + 1 * r.val; omega
    | ⟨1, _⟩ => rfl
  · pointwise
  · pointwise

variable (m : (ℓ : Loc nD τ sig) → Buf (Elt Ideal) ℓ)

theorem idx : ∀ t : Fin cfg0.N, win0_0.index t = ![t.val, 0] ∧ win0_6.index t = ![t.val / 8, 0, 0] :=
  (by decide +kernel : ∀ t : Fin grid0.N, _)

/-- The gated pair, as a device holds it. -/
abbrev a0 (c : Dev nD) : FVec Ideal S9216x2048 .f32 := m ((c : Thread nD τ).loc main_arg0)

theorem Va0 (c : Dev nD) : (V m c main_arg0 : FVec Ideal S9216x2048 .f32) = a0 m c := by
  show StableHlo.after hostOps0 _ _ = _
  after_results_simp <;> rfl

section blocks
variable (c : Dev nD) (t : Fin cfg0.N)

theorem b0 (r : Fin 256) (d : Fin 2048) (n : Fin 9216) (hn : n.val = t.val * 256 + r.val) : (iblk m c 0 t : FVec Ideal S256x2048 .f32) (ix2 r d) = a0 m c (ix2 n d) := by
  rw [← Va0]; blk_ext [iblk, V, idx t]

/-- What a sequence's last point leaves of its state. -/
theorem state_last (h : t.val % 8 = 7) (b : Fin 1) (j : Fin 30) (e : Fin 1024) (r : Fin 256) (hr : r.val = 226 + j.val) :
    (outsAt0 m c t.val t.isLt).2.1 (ix3 b j e) = gated ((iblk m c 0 t : FVec Ideal S256x2048 .f32) (ix2 r ⟨e.val, by omega⟩)) ((iblk m c 0 t : FVec Ideal S256x2048 .f32) (ix2 r ⟨1024 + e.val, by omega⟩)) := by
  rw [outsAt0_C m c t (by omega) (by omega) h]
  dsimp only
  rw [out_last (hr := hr)]

end blocks

section ref
open Cert.ConvRefIdeal.Read
variable (x0 : FVec Ideal S9216x2048 .f32)

/-- The gated row of a sequence's position. -/
theorem v10_apply (q : Fin 4) (p : Fin 2048) (e : Fin 1024) (n : Fin 9216) (hn : n.val = q.val * 2048 + p.val) :
    val_main_v10 (F := Ideal) x0 (ix3 q p e) = gated (x0 (ix2 n ⟨e.val, by omega⟩)) (x0 (ix2 n ⟨1024 + e.val, by omega⟩)) := by
  have h : val_main_v10 (F := Ideal) x0 (ix3 q p e) = gated (val_main_v2 (F := Ideal) x0 (ix3 q p e)) (val_main_v3 (F := Ideal) x0 (ix3 q p e)) := by
    unfold gated
    pointwise [val_main_v10, val_main_v9, val_main_v8, val_main_v7, val_main_v6, val_main_v5, val_main_v4, val_main_cst, val_main_cst_0]
  have hp := p.isLt
  have hq := q.isLt
  have he := e.isLt
  rw [h, val_main_v2_apply, val_main_v3_apply, val_main_v1_apply, val_main_v1_apply, val_main_v0_apply, val_main_v0_apply]
  refine congrArg₂ gated (congrArg x0 (funext fun a => Fin.ext ?_)) (congrArg x0 (funext fun a => Fin.ext ?_))
  · match a with
    | ⟨0, _⟩ => show ((q.val * 2048 + p.val) * 2048 + e.val) / 2048 = n.val; omega
    | ⟨1, _⟩ => show ((q.val * 2048 + p.val) * 2048 + e.val) % 2048 = e.val; omega
  · match a with
    | ⟨0, _⟩ => show ((q.val * 2048 + p.val) * 2048 + (1024 + e.val)) / 2048 = n.val; omega
    | ⟨1, _⟩ => show ((q.val * 2048 + p.val) * 2048 + (1024 + e.val)) % 2048 = 1024 + e.val; omega

/-- The reference's state is its last thirty gated rows. -/
theorem ref_last (q : Fin 4) (j : Fin 30) (p : Fin 2048) (hp : p.val = 2018 + j.val) (e : Fin 1024) :
    val_main_v13 (F := Ideal) x0 (ix3 q j e) = val_main_v10 (F := Ideal) x0 (ix3 q p e) := by
  rw [val_main_v13_apply]
  unfold val_main_v12
  exact concatenate_pair_apply_right (t := Cert.ConvRefIdeal.S4x2078x1024) (s₁ := Cert.ConvRefIdeal.S4x30x1024) (s₂ := Cert.ConvRefIdeal.S4x2048x1024) 1 (val_main_v11 (F := Ideal)) (val_main_v10 (F := Ideal) x0) _
    (idx_main_v13 (ix3 q j e)) rfl rfl (ix3 q p e)
    (fun b hb => by match b with | ⟨0, _⟩ => rfl | ⟨1, _⟩ => exact absurd rfl hb | ⟨2, _⟩ => rfl) (by show p.val + 30 = 2048 + j.val; omega)

end ref

theorem final_eq (c : Dev nD) :
    (dats m 0 c).arrAt 6 cfg0.N = Cert.ConvRefIdeal.Read.val_main_v13 (F := Ideal) (a0 m c) := by
  refine (dats m 0 c).arrAt_eq_of_covers 6 _ (by decide +kernel) fun t hf y => ?_
  have h7 : t.val % 8 = 7 := (flush0_6 t).mp hf
  have ht : t.val < 32 := Nat.lt_of_lt_of_eq t.isLt N_0
  have h0 : (y 0).val < 1 := (y 0).isLt
  have h1 : (y 1).val < 30 := (y 1).isLt
  have h2 : (y 2).val < 1024 := (y 2).isLt
  let b : Fin 1 := ⟨(y 0).val, h0⟩
  let j : Fin 30 := ⟨(y 1).val, h1⟩
  let e : Fin 1024 := ⟨(y 2).val, h2⟩
  let q : Fin 4 := ⟨t.val / 8, by omega⟩
  have hy : y = ix3 b j e := by funext a; match a with | ⟨0, _⟩ => rfl | ⟨1, _⟩ => rfl | ⟨2, _⟩ => rfl
  blk_simp
  have hi : (win0_6.blk t).view.emb y = ix3 q j e := by
    funext a
    match a with
    | ⟨0, _⟩ => apply Fin.ext; blk_simp [idx t]; rfl
    | ⟨1, _⟩ => apply Fin.ext; blk_simp [idx t]; rfl
    | ⟨2, _⟩ => apply Fin.ext; blk_simp [idx t]; rfl
  rw [hi, after0_6]
  refine (congrArg (outsAt0 m c t.val t.isLt).2.1 hy).trans ?_
  have hj : j.val < 30 := j.isLt
  let r : Fin 256 := ⟨226 + j.val, by omega⟩
  let p : Fin 2048 := ⟨2018 + j.val, by omega⟩
  have hq : q.val < 4 := q.isLt
  have hp : p.val < 2048 := p.isLt
  let n : Fin 9216 := ⟨q.val * 2048 + p.val, by omega⟩
  have hn : n.val = t.val * 256 + r.val := by
    show t.val / 8 * 2048 + (2018 + j.val) = t.val * 256 + (226 + j.val); omega
  refine (state_last m c t h7 b j e r rfl).trans ?_
  rw [ref_last (a0 m c) q j p rfl e, v10_apply (a0 m c) q p e n rfl]
  exact congrArg₂ gated (b0 m c t r _ n hn) (b0 m c t r _ n hn)

attribute [local instance] Cert.ConvIdeal.Gen.facts Cert.ConvRefIdeal.Gen.facts

/-- The states the call leaves are the reference's. -/
theorem algebraic : Cert.algebraic_ConvIdeal_ConvRefIdeal := by
  intro m g m' g' _ hag
  refine ⟨fun c => Cert.ConvRefIdeal.Read.val_main_v13 (F := Ideal) (a0 m c),
    (θ_run _ _ _).mono (fun r hr c => ⟨(hr c).2.1.trans (final_eq m c), (hr c).2.2⟩) (Cert.ConvIdeal.Value.run_blocks m g),
    (θ_run _ _ _).mono (fun r hr c => ⟨(hr c).1.trans ?_, (hr c).2⟩) (Cert.ConvRefIdeal.Value.run m' g')⟩
  obtain ⟨h0, _⟩ := hag c
  rw [h0]
  exact Cert.ConvRefIdeal.Read.val_main_v13_eq _

end Cert.ConvValue
end
-- ==== Proof.GmlpMix.lean ====
/- The mixing of the sample's gMLP: what a block's eight groups of columns hold, and the mask that keeps a row to its own
   sequence's earlier positions. -/
module

public import proofs.«01_k».proof.Proof.Gen.GmlpIdeal.Value
public import Idealize.ShloMosaic.Lib.Pointwise
public import Idealize.ShloMosaic.Lib.Pipeline.ValueKit.Tiles

@[expose] public section

set_option maxRecDepth 16384
noncomputable section
namespace Cert.GmlpMix
open Cert.GmlpIdeal Cert.GmlpIdeal.Gen Idealize.ShloMosaic Idealize.ShloMosaic.TcCoe

/-- One entry of a group's mixing: the masked weights times the values, plus the shift, times the gate. -/
def mixed (v u : FVec Ideal S128x1024 .f32) (keep : IVec S128x128 1) (w : Vec Ideal S1x128x128 .f32) (b : Vec Ideal S128x1 .f32) (r : Fin 128) (k : Fin 1024) : EReal :=
  u (ix2 r k) * ((∑ s : Fin 128, Scalar.select (keep (ix2 r s)) (w (ix3 0 r s)) 0 * v (ix2 s k)) + b (ix2 r 0))

section pays
variable (v u : FVec Ideal S128x1024 .f32) (keep : IVec S128x128 1) (w : Vec Ideal S1x128x128 .f32) (b : Vec Ideal S128x1 .f32) (r x : Fin 128)

theorem group0 (c : IVec S128x128 32) (e : IVec S128x128 1) (d : IVec S128x128 32) (n : BitVec 32) (f h : IVec S128x128 32) (o : BitVec 32) : k0_pay10 v u c e d n f h o w b (ix2 r x) = mixed v u (k0_pay9 c e d n f h o) w b r ⟨0 + x.val, by omega⟩ := by
  unfold mixed
  pointwise [k0_pay10]

theorem group1 (c : IVec S128x128 32) (e : IVec S128x128 1) (d : IVec S128x128 32) (n : BitVec 32) (f h : IVec S128x128 32) (o : BitVec 32) : k0_pay12 v u (k0_pay11 c e d n f h o w) b (ix2 r x) = mixed v u (k0_pay9 c e d n f h o) w b r ⟨128 + x.val, by omega⟩ := by
  unfold mixed
  pointwise [k0_pay12, k0_pay11]

theorem group2 : k0_pay13 v u keep w b (ix2 r x) = mixed v u keep w b r ⟨256 + x.val, by omega⟩ := by
  unfold mixed
  pointwise [k0_pay13]

theorem group3 : k0_pay16 u (k0_pay14 v keep w) (k0_pay15 b) (ix2 r x) = mixed v u keep w b r ⟨384 + x.val, by omega⟩ := by
  unfold mixed
  pointwise [k0_pay16, k0_pay14, k0_pay15]

theorem group4 : k0_pay17 v u keep w b (ix2 r x) = mixed v u keep w b r ⟨512 + x.val, by omega⟩ := by
  unfold mixed
  pointwise [k0_pay17]

theorem group5 : k0_pay18 v u keep w b (ix2 r x) = mixed v u keep w b r ⟨640 + x.val, by omega⟩ := by
  unfold mixed
  pointwise [k0_pay18]

theorem group6 : k0_pay1 v u keep w b (ix2 r x) = mixed v u keep w b r ⟨768 + x.val, by omega⟩ := by
  unfold mixed
  pointwise [k0_pay1]

theorem group7 : k0_pay2 v u keep w b (ix2 r x) = mixed v u keep w b r ⟨896 + x.val, by omega⟩ := by
  unfold mixed
  pointwise [k0_pay2]

end pays

/-- The mask keeps the earlier positions of a row's own sequence. -/
theorem keep_apply (x0 x1 : Vec Ideal S128x1024 .f32) (x2 : Vec Ideal S8x128x128 .f32) (x3 : Vec Ideal S128x8 .f32) (x4 x5 : Vec Ideal S1x1024 .f32) (r s : Fin 128) :
    k0_pay26 x0 x1 x2 x3 x4 x5 (ix2 r s) = if s.val ≤ r.val ∧ r.val / 8 = s.val / 8 then 1#1 else 0#1 := by
  pointwise [k0_pay26, k0_pay20, k0_pay22, k0_pay23, k0_pay24, k0_pay25, k0_pay9, k0_pay8, k0_pay7, k0_pay6, k0_pay5]
  revert r s
  decide +kernel

/-- A sum over a block's rows, of which the mask keeps those of one sequence, is a sum over the sequence's positions. -/
theorem sum_keep (r : Fin 128) (f : Fin 128 → EReal) :
    (∑ s : Fin 128, if s.val ≤ r.val ∧ r.val / 8 = s.val / 8 then f s else 0)
      = ∑ p : Fin 8, if p.val ≤ r.val % 8 then f ⟨r.val / 8 * 8 + p.val, by omega⟩ else 0 := by
  have hr := r.isLt
  rw [← Equiv.sum_comp (finProdFinEquiv : Fin 16 × Fin 8 ≃ Fin (16 * 8)), Fintype.sum_prod_type, Finset.sum_eq_single (⟨r.val / 8, by omega⟩ : Fin 16)]
  · refine Finset.sum_congr rfl fun p _ => ?_
    have hp := p.isLt
    have hv : (finProdFinEquiv ((⟨r.val / 8, by omega⟩ : Fin 16), p)).val = r.val / 8 * 8 + p.val := by
      show p.val + 8 * (r.val / 8) = _; omega
    rw [hv, show finProdFinEquiv ((⟨r.val / 8, by omega⟩ : Fin 16), p) = ⟨r.val / 8 * 8 + p.val, by omega⟩ from Fin.ext hv]
    exact if_congr (by omega) rfl rfl
  · intro a _ ha
    refine Finset.sum_eq_zero fun p _ => if_neg fun h => ha (Fin.ext ?_)
    have hp := p.isLt
    have h2 : r.val / 8 = (p.val + 8 * a.val) / 8 := h.2
    show a.val = r.val / 8
    omega
  · intro h
    exact absurd (Finset.mem_univ _) h

section block
variable (x0 x1 : Vec Ideal S128x1024 .f32) (x2 : Vec Ideal S8x128x128 .f32) (x3 : Vec Ideal S128x8 .f32) (x4 x5 : Vec Ideal S1x1024 .f32)

/-- A group's weights and shift are its slice of the arrays. -/
theorem ld_w {o : ℕ} (inb : ∀ a, (![o, 0, 0] : Fin 3 → ℕ) a + S1x128x128.size a ≤ S8x128x128.size a) (r s : Fin 128) (g : Fin 8) (hg : g.val = o) :
    View.ld x2 (Rect.unit (s := S8x128x128) ![o, 0, 0] S1x128x128.size inb) (ix3 0 r s) = x2 (ix3 g r s) := by
  refine congrArg x2 (funext fun a => Fin.ext ?_)
  match a with
  | ⟨0, _⟩ => show o + 1 * 0 = g.val; omega
  | ⟨1, _⟩ => show 0 + 1 * r.val = r.val; omega
  | ⟨2, _⟩ => show 0 + 1 * s.val = s.val; omega

theorem ld_b {o : ℕ} (inb : ∀ a, (![0, o] : Fin 2 → ℕ) a + S128x1.size a ≤ S128x8.size a) (r : Fin 128) (g : Fin 8) (hg : g.val = o) :
    View.ld x3 (Rect.unit (s := S128x8) ![0, o] S128x1.size inb) (ix2 r 0) = x3 (ix2 r g) := by
  refine congrArg x3 (funext fun a => Fin.ext ?_)
  match a with
  | ⟨0, _⟩ => show 0 + 1 * r.val = r.val; omega
  | ⟨1, _⟩ => show o + 1 * 0 = g.val; omega

theorem mixed_eq (v u : FVec Ideal S128x1024 .f32) (keep : IVec S128x128 1) (w : Vec Ideal S1x128x128 .f32) (b : Vec Ideal S128x1 .f32) (r : Fin 128) (k l : Fin 1024) (hl : l.val = k.val)
    (g : Fin 8) (hw : ∀ s : Fin 128, w (ix3 0 r s) = x2 (ix3 g r s)) (hb : b (ix2 r 0) = x3 (ix2 r g)) :
    mixed v u keep w b r l = u (ix2 r k) * ((∑ s : Fin 128, Scalar.select (keep (ix2 r s)) (x2 (ix3 g r s)) 0 * v (ix2 s k)) + x3 (ix2 r g)) := by
  obtain rfl : l = k := Fin.ext hl
  unfold mixed
  simp only [hw, hb]

/-- What a block holds after its eight groups are stored. -/
theorem out6_apply (r : Fin 128) (k : Fin 1024) (g : Fin 8) (hg : g.val = k.val / 128) :
    out0_6 x0 x1 x2 x3 x4 x5 (ix2 r k) = k0_pay21 x0 x1 x2 x3 x4 x5 (ix2 r k)
      * ((∑ s : Fin 128, Scalar.select (k0_pay26 x0 x1 x2 x3 x4 x5 (ix2 r s)) (x2 (ix3 g r s)) 0 * k0_pay19 x0 x1 x2 x3 x4 x5 (ix2 s k)) + x3 (ix2 r g)) := by
  canon_tiles x h using (cover0_6 (F := Ideal) _ _ _ _ _ _ _ _ _)
  all_goals
    have e0 : r.val = (x 0).val := h0
    have hx : x = ix2 r ⟨(x 1).val, x1_lt⟩ := by
      funext a
      match a with
      | ⟨0, _⟩ => exact Fin.ext e0.symm
      | ⟨1, _⟩ => rfl
    have e1 := h1
    change k.val = _ at e1
    rw [hx]
    first | rw [group0] | rw [group1] | rw [group2] | rw [group3] | rw [group4] | rw [group5] | rw [group6] | rw [group7]
    exact mixed_eq x2 x3 _ _ _ _ _ r k _ (by dsimp only; omega) g (fun s => ld_w x2 _ r s g (by omega)) (ld_b x3 _ r g (by omega))

end block

end Cert.GmlpMix
end
-- ==== Proof.GmlpValue.lean ====
/- The sample's gated token mixing: the array it mixes is the layer norm of a row's gelu, and each sequence mixes its own
   positions. -/
module

public import proofs.«01_k».proof.Defs
public import proofs.«01_k».proof.Proof.Gen.GmlpIdeal.Value
public import proofs.«01_k».proof.Proof.Gen.GmlpRefIdeal.Read
public import proofs.«01_k».proof.Proof.Rows
public import proofs.«01_k».proof.Proof.LayerNorm
public import proofs.«01_k».proof.Proof.GmlpMix
public import Idealize.ShloMosaic.Lib.Claim
public import Idealize.ShloMosaic.Lib.Pipeline.Covers

@[expose] public section

set_option maxRecDepth 16384
noncomputable section
namespace Cert.GmlpValue
open Cert.GmlpIdeal Cert.GmlpIdeal.Gen Idealize.ShloMosaic Idealize.ShloMosaic.TcCoe Idealize.SL.Sem
open Cert.LayerNorm (lnorm)

/-- The literals of the program: the row's length and the layer norm's epsilon. -/
abbrev cnt : EReal := Ideal.ofBits .f32 0x44800000#32
abbrev eps : EReal := Ideal.ofBits .f32 0x3727C5AC#32

/-- What the gelu of `z` multiplies `z` and a half by: one and a hyperbolic tangent. -/
def geluFactor (z : EReal) : EReal :=
  Ideal.ofBits .f32 0x3F800000#32 + Ideal.tanh (Ideal.ofBits .f32 0x3F4C422A#32 * (z + Ideal.ofBits .f32 0x3D372713#32 * (z * z * z)))

/-- The gelu of `z`. -/
def gelu (z : EReal) : EReal := z * (Ideal.ofBits .f32 0x3F000000#32 * geluFactor z)

theorem gelu_eq (z : EReal) : Ideal.ofBits .f32 0x3F000000#32 * z * geluFactor z = gelu z := by
  unfold gelu
  rw [mul_comm (Ideal.ofBits .f32 0x3F000000#32) z, mul_assoc]

theorem pay3_apply (v : Vec Ideal S128x1024 .f32) (g b : Vec Ideal S1x1024 .f32) (r : Fin 128) (e : Fin 1024) :
    k0_pay3 v g b (ix2 r e) = lnorm cnt eps (fun x => gelu (v (ix2 r x))) (g (ix2 0 e)) (b (ix2 0 e)) e := by
  simp only [← gelu_eq]
  unfold lnorm geluFactor cnt eps
  pointwise [k0_pay3]

theorem out7_eq (x0 : Vec Ideal S128x1024 .f32) (x1 : Vec Ideal S128x1024 .f32) (x2 : Vec Ideal S8x128x128 .f32) (x3 : Vec Ideal S128x8 .f32) (x4 : Vec Ideal S1x1024 .f32) (x5 : Vec Ideal S1x1024 .f32) :
    out0_7 x0 x1 x2 x3 x4 x5 = k0_pay3 x1 x4 x5 := by
  frame_out

theorem pay19_eq (x0 : Vec Ideal S128x1024 .f32) (x1 : Vec Ideal S128x1024 .f32) (x2 : Vec Ideal S8x128x128 .f32) (x3 : Vec Ideal S128x8 .f32) (x4 : Vec Ideal S1x1024 .f32) (x5 : Vec Ideal S1x1024 .f32) (r : Fin 128) (e : Fin 1024) :
    k0_pay19 x0 x1 x2 x3 x4 x5 (ix2 r e) = out0_7 x0 x1 x2 x3 x4 x5 (ix2 r e) := by
  rw [out7_eq, pay3_apply]
  unfold k0_pay19
  have h : ![0, 0] = fun _ : Fin 2 => 0 := by decide
  rw [pay3_apply, View.ld_unit_zero (S := S128x1024) h, View.ld_unit_zero (S := S1x1024) h, View.ld_unit_zero (S := S1x1024) h]

theorem pay21_apply (x0 : Vec Ideal S128x1024 .f32) (x1 : Vec Ideal S128x1024 .f32) (x2 : Vec Ideal S8x128x128 .f32) (x3 : Vec Ideal S128x8 .f32) (x4 : Vec Ideal S1x1024 .f32) (x5 : Vec Ideal S1x1024 .f32) (r : Fin 128) (e : Fin 1024) :
    k0_pay21 x0 x1 x2 x3 x4 x5 (ix2 r e) = gelu (x0 (ix2 r e)) := by
  rw [← gelu_eq]
  unfold geluFactor
  pointwise [k0_pay21, k0_pay4]

section ref
open Cert.GmlpRefIdeal.Read
variable (x0 : FVec Ideal S9216x6144 .f32) (x1 : FVec Ideal S1x8x128x128 .f32) (x2 : FVec Ideal S1x8x128 .f32) (x3 x4 : FVec Ideal S1024 .f32)

theorem v13_apply (n x : Fin 1024) : val_main_v13 (F := Ideal) x0 (ix2 n x) = gelu (x0 (ix2 ⟨8192 + n.val, by omega⟩ ⟨4096 + x.val, by omega⟩)) := by
  have h : val_main_v13 (F := Ideal) x0 (ix2 n x) = gelu (val_main_v0 (F := Ideal) x0 (ix2 n x)) := by
    unfold gelu geluFactor
    pointwise [val_main_v13, val_main_v12, val_main_v11, val_main_v10, val_main_v9, val_main_v8, val_main_v7, val_main_v6, val_main_v5, val_main_v4, val_main_v3, val_main_v2, val_main_v1, val_main_cst, val_main_cst_0, val_main_cst_1, val_main_cst_2]
  rw [h, val_main_v0_apply]
  exact congrArg (fun i => gelu (x0 i)) (funext fun a => Fin.ext (by match a with | ⟨0, _⟩ => rfl | ⟨1, _⟩ => rfl))

theorem v27_apply (n x : Fin 1024) : val_main_v27 (F := Ideal) x0 (ix2 n x) = gelu (x0 (ix2 ⟨8192 + n.val, by omega⟩ ⟨5120 + x.val, by omega⟩)) := by
  have h : val_main_v27 (F := Ideal) x0 (ix2 n x) = gelu (val_main_v14 (F := Ideal) x0 (ix2 n x)) := by
    unfold gelu geluFactor
    pointwise [val_main_v27, val_main_v26, val_main_v25, val_main_v24, val_main_v23, val_main_v22, val_main_v21, val_main_v20, val_main_v19, val_main_v18, val_main_v17, val_main_v16, val_main_v15, val_main_cst_3, val_main_cst_4, val_main_cst_5, val_main_cst_6]
  rw [h, val_main_v14_apply]
  exact congrArg (fun i => gelu (x0 i)) (funext fun a => Fin.ext (by match a with | ⟨0, _⟩ => rfl | ⟨1, _⟩ => rfl))

theorem v51_apply (n e : Fin 1024) : val_main_v51 (F := Ideal) x0 x3 x4 (ix2 n e)
    = lnorm cnt eps (fun x => gelu (x0 (ix2 ⟨8192 + n.val, by omega⟩ ⟨5120 + x.val, by omega⟩))) (x3 (ix1 e)) (x4 (ix1 e)) e := by
  simp only [← v27_apply]
  unfold lnorm cnt eps
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_7, val_main_cst_8, val_main_cst_9, val_main_cst_10, val_main_cst_11]

/-- The mask keeps a position's own and its earlier ones. -/
theorem mask_apply (g p q : Fin 8) : val_main_call1_v1 (F := Ideal) (ix3 g p q) = if q.val ≤ p.val then 1#1 else 0#1 := by
  rw [val_main_call1_v1_apply, val_main_v54_apply, val_main_v53_apply, val_main_call0_v4_apply, val_main_call0_v2_apply, val_main_call0_v0_apply, val_main_call0_v1_apply, val_main_call0_c_apply,
    val_main_call0_v3_apply, val_main_v52_apply, val_main_c_apply, val_main_call0_v5_apply, val_main_call0_c_0_apply]
  revert g p q
  decide +kernel

theorem v57_apply (g p q : Fin 8) : val_main_v57 (F := Ideal) x1 (ix3 g p q)
    = if q.val ≤ p.val then x1 (ix4 0 g ⟨p.val, by omega⟩ ⟨q.val, by omega⟩) else 0 := by
  rw [val_main_v57_apply, mask_apply, val_main_v56_apply, val_main_v55_apply, val_main_call1_v2_apply, val_main_call1_v0_apply, val_main_cst_12_apply]
  have hz : FloatOps.ofBits (F := Ideal) .f32 0x00000000#32 = (0 : EReal) := Ideal.ofBits_zero_f32
  rw [hz]
  have hi : idx_main_v55 (idx_main_v56 (ix3 g p q)) = ix4 0 g ⟨p.val, by omega⟩ ⟨q.val, by omega⟩ := by
    have hp := p.isLt; have hq := q.isLt; have hg := g.isLt
    funext a
    match a with
    | ⟨0, _⟩ => rfl
    | ⟨1, _⟩ => apply Fin.ext; show ((g.val * 8 + p.val) * 8 + q.val) / 64 % 8 = g.val; omega
    | ⟨2, _⟩ => apply Fin.ext; show ((g.val * 8 + p.val) * 8 + q.val) / 8 % 8 = p.val; omega
    | ⟨3, _⟩ => apply Fin.ext; show ((g.val * 8 + p.val) * 8 + q.val) % 8 = q.val; omega
  rw [hi]
  by_cases h : q.val ≤ p.val
  · rw [if_pos h, if_pos h]; rfl
  · rw [if_neg h, if_neg h]; rfl

/-- One entry of the mixed array: the gate times its sequence's masked mix of the values, plus the shift. -/
theorem v71_apply (n e : Fin 1024) : val_main_v71 (F := Ideal) x0 x1 x2 x3 x4 (ix2 n e)
    = val_main_v13 (F := Ideal) x0 (ix2 n e)
      * ((∑ p : Fin 8, val_main_v51 (F := Ideal) x0 x3 x4 (ix2 ⟨n.val / 8 * 8 + p.val, by omega⟩ e) * val_main_v57 (F := Ideal) x1 (ix3 ⟨e.val / 128, by omega⟩ ⟨n.val % 8, by omega⟩ p))
        + x2 (ix3 0 ⟨e.val / 128, by omega⟩ ⟨n.val % 8, by omega⟩)) := by
  have hn := n.isLt; have he := e.isLt
  have hi : idx_main_v70 (ix2 n e) = ix4 ⟨n.val / 8, by omega⟩ ⟨n.val % 8, by omega⟩ ⟨e.val / 128, by omega⟩ ⟨e.val % 128, by omega⟩ := by
    funext a
    match a with
    | ⟨0, _⟩ => apply Fin.ext; show (n.val * 1024 + e.val) / 8192 = n.val / 8; omega
    | ⟨1, _⟩ => apply Fin.ext; show (n.val * 1024 + e.val) / 1024 % 8 = n.val % 8; omega
    | ⟨2, _⟩ => apply Fin.ext; show (n.val * 1024 + e.val) / 128 % 8 = e.val / 128; omega
    | ⟨3, _⟩ => apply Fin.ext; show (n.val * 1024 + e.val) % 128 = e.val % 128; omega
  rw [val_main_v71_apply, val_main_v70_apply, hi, val_main_v69_apply, val_main_v68_apply, val_main_v67_apply, val_main_v60_apply, val_main_v59_apply,
    val_main_v66_apply, val_main_v65_apply, val_main_v64_apply, val_main_v63_apply, val_main_v62_apply, val_main_v61_apply]
  refine congrArg₂ (fun a b : EReal => a * b) ?_ (congrArg₂ (fun a b : EReal => a + b) (Finset.sum_congr rfl fun p _ => ?_) ?_)
  · refine congrArg (val_main_v13 (F := Ideal) x0) (funext fun a => Fin.ext ?_)
    match a with
    | ⟨0, _⟩ => show (((n.val / 8 * 8 + n.val % 8) * 8 + e.val / 128) * 128 + e.val % 128) / 1024 = n.val; omega
    | ⟨1, _⟩ => show (((n.val / 8 * 8 + n.val % 8) * 8 + e.val / 128) * 128 + e.val % 128) % 1024 = e.val; omega
  · have hp := p.isLt
    rw [val_main_v58_apply]
    refine congrArg₂ (fun a b : EReal => a * b) (congrArg (val_main_v51 (F := Ideal) x0 x3 x4) (funext fun a => Fin.ext ?_)) (congrArg (val_main_v57 (F := Ideal) x1) (funext fun a => Fin.ext ?_))
    · match a with
      | ⟨0, _⟩ => show (((n.val / 8 * 8 + p.val) * 8 + e.val / 128) * 128 + e.val % 128) / 1024 = n.val / 8 * 8 + p.val; omega
      | ⟨1, _⟩ => show (((n.val / 8 * 8 + p.val) * 8 + e.val / 128) * 128 + e.val % 128) % 1024 = e.val; omega
    · match a with
      | ⟨0, _⟩ => rfl
      | ⟨1, _⟩ => rfl
      | ⟨2, _⟩ => rfl
  · refine congrArg x2 (funext fun a => Fin.ext ?_)
    match a with
    | ⟨0, _⟩ => rfl
    | ⟨1, _⟩ => show (e.val / 128 * 8 + n.val % 8) / 8 % 8 = e.val / 128; omega
    | ⟨2, _⟩ => show (e.val / 128 * 8 + n.val % 8) % 8 = n.val % 8; omega

end ref

variable (m : (ℓ : Loc nD τ sig) → Buf (Elt Ideal) ℓ)

/-- The projected rows, the mixing's weights and shift, and the layer norm's scale and shift, as a device holds them. -/
abbrev a0 (c : Dev nD) : FVec Ideal S9216x6144 .f32 := m ((c : Thread nD τ).loc main_arg0)
abbrev a1 (c : Dev nD) : FVec Ideal S1x8x128x128 .f32 := m ((c : Thread nD τ).loc main_arg1)
abbrev a2 (c : Dev nD) : FVec Ideal S1x8x128 .f32 := m ((c : Thread nD τ).loc main_arg2)
abbrev a3 (c : Dev nD) : FVec Ideal S1024 .f32 := m ((c : Thread nD τ).loc main_arg3)
abbrev a4 (c : Dev nD) : FVec Ideal S1024 .f32 := m ((c : Thread nD τ).loc main_arg4)

theorem idx : ∀ t : Fin cfg0.N, win0_0.index t = ![64 + t.val, 4] ∧ win0_1.index t = ![64 + t.val, 5] ∧ win0_2.index t = ![0, 0, 0] ∧ win0_3.index t = ![0, 0] ∧ win0_4.index t = ![0, 0]
    ∧ win0_5.index t = ![0, 0] ∧ win0_6.index t = ![t.val, 0] ∧ win0_7.index t = ![t.val, 0] :=
  (by decide +kernel : ∀ t : Fin grid0.N, _)

theorem Va0 (c : Dev nD) : (V m c main_arg0 : FVec Ideal S9216x6144 .f32) = a0 m c := by
  show StableHlo.after hostOps0 _ _ = _
  after_results_simp <;> rfl
theorem Va1 (c : Dev nD) (g : Fin 8) (r s : Fin 128) : (V m c main_v5 : FVec Ideal S8x128x128 .f32) (ix3 g r s)
    = a1 m c (ix4 0 g ⟨r.val % 8, by omega⟩ ⟨s.val % 8, by omega⟩) := by
  have h : (V m c main_v5 : FVec Ideal S8x128x128 .f32) = shapeCast S8x128x128 (broadcastInDim S1x8x16x8x16x8 ![0, 1, 2, 3, 4, 5] bcast_S1x8x1x8x1x8_S1x8x16x8x16x8_0_1_2_3_4_5
      (shapeCast S1x8x1x8x1x8 (extractStridedSlice S8x8x8 ![0, 0, 0] (shapeCast S8x128x128 (a1 m c) shapeCasts_S1x8x128x128_S8x128x128) slices_S8x128x128_S8x8x8_0_0_0) shapeCasts_S8x8x8_S1x8x1x8x1x8))
      shapeCasts_S1x8x16x8x16x8_S8x128x128 := by
    show StableHlo.after hostOps0 _ _ = _
    after_results_simp <;> rfl
  rw [h]
  pointwise
theorem Va2 (c : Dev nD) (r : Fin 128) (g : Fin 8) : (V m c main_v10 : FVec Ideal S128x8 .f32) (ix2 r g) = a2 m c (ix3 0 g ⟨r.val % 8, by omega⟩) := by
  have h : (V m c main_v10 : FVec Ideal S128x8 .f32) = transpose S128x8 [1, 0] (shapeCast S8x128 (broadcastInDim S1x8x16x8 ![0, 1, 2, 3] bcast_S1x8x1x8_S1x8x16x8_0_1_2_3
      (shapeCast S1x8x1x8 (extractStridedSlice S8x8 ![0, 0] (shapeCast S8x128 (a2 m c) shapeCasts_S1x8x128_S8x128) slices_S8x128_S8x8_0_0) shapeCasts_S8x8_S1x8x1x8))
      shapeCasts_S1x8x16x8_S8x128) transposes_S8x128_S128x8_1_0 := by
    show StableHlo.after hostOps0 _ _ = _
    after_results_simp <;> rfl
  rw [h]
  pointwise
theorem Va3 (c : Dev nD) (e : Fin 1024) : (V m c main_v11 : FVec Ideal S1x1024 .f32) (ix2 0 e) = a3 m c (ix1 e) := by
  have h : (V m c main_v11 : FVec Ideal S1x1024 .f32) = shapeCast S1x1024 (a3 m c) shapeCasts_S1024_S1x1024 := by
    show StableHlo.after hostOps0 _ _ = _
    after_results_simp <;> rfl
  rw [h]
  exact Rows.unsqueeze_apply (a3 m c) _ e
theorem Va4 (c : Dev nD) (e : Fin 1024) : (V m c main_v12 : FVec Ideal S1x1024 .f32) (ix2 0 e) = a4 m c (ix1 e) := by
  have h : (V m c main_v12 : FVec Ideal S1x1024 .f32) = shapeCast S1x1024 (a4 m c) shapeCasts_S1024_S1x1024 := by
    show StableHlo.after hostOps0 _ _ = _
    after_results_simp <;> rfl
  rw [h]
  exact Rows.unsqueeze_apply (a4 m c) _ e

section blocks
variable (c : Dev nD) (t : Fin cfg0.N)

theorem b1 (r : Fin 128) (x : Fin 1024) (n : Fin 9216) (hn : n.val = (64 + t.val) * 128 + r.val) (k : Fin 6144) (hk : k.val = 5120 + x.val) :
    (iblk m c 1 t : FVec Ideal S128x1024 .f32) (ix2 r x) = a0 m c (ix2 n k) := by
  rw [← Va0]; blk_ext [iblk, V, idx t]
theorem b0 (r : Fin 128) (x : Fin 1024) (n : Fin 9216) (hn : n.val = (64 + t.val) * 128 + r.val) (k : Fin 6144) (hk : k.val = 4096 + x.val) :
    (iblk m c 0 t : FVec Ideal S128x1024 .f32) (ix2 r x) = a0 m c (ix2 n k) := by
  rw [← Va0]; blk_ext [iblk, V, idx t]
theorem b2 (g : Fin 8) (r s : Fin 128) : (iblk m c 2 t : FVec Ideal S8x128x128 .f32) (ix3 g r s) = a1 m c (ix4 0 g ⟨r.val % 8, by omega⟩ ⟨s.val % 8, by omega⟩) := by
  rw [← Va1]; blk_ext [iblk, V, idx t]
theorem b3 (r : Fin 128) (g : Fin 8) : (iblk m c 3 t : FVec Ideal S128x8 .f32) (ix2 r g) = a2 m c (ix3 0 g ⟨r.val % 8, by omega⟩) := by
  rw [← Va2]; blk_ext [iblk, V, idx t]
theorem b4 (e : Fin 1024) : (iblk m c 4 t : FVec Ideal S1x1024 .f32) (ix2 0 e) = a3 m c (ix1 e) := by
  rw [← Va3]; blk_ext [iblk, V, idx t]
theorem b5 (e : Fin 1024) : (iblk m c 5 t : FVec Ideal S1x1024 .f32) (ix2 0 e) = a4 m c (ix1 e) := by
  rw [← Va4]; blk_ext [iblk, V, idx t]

/-- The block a point leaves is the reference's rows. -/
theorem block (r : Fin 128) (e : Fin 1024) (n : Fin 1024) (hn : n.val = t.val * 128 + r.val) :
    out0_7 (iblk m c 0 t) (iblk m c 1 t) (iblk m c 2 t) (iblk m c 3 t) (iblk m c 4 t) (iblk m c 5 t) (ix2 r e)
      = Cert.GmlpRefIdeal.Read.val_main_v51 (F := Ideal) (a0 m c) (a3 m c) (a4 m c) (ix2 n e) := by
  rw [out7_eq, pay3_apply, v51_apply, b4, b5]
  congr 1
  funext k
  exact congrArg gelu (b1 m c t r k _ (by show 8192 + n.val = (64 + t.val) * 128 + r.val; omega) _ rfl)

/-- One entry of the mixing: a block's masked sum is the sum over the row's own sequence. -/
theorem mix_block (r : Fin 128) (e : Fin 1024) (n : Fin 1024) (hn : n.val = t.val * 128 + r.val) :
    out0_6 (iblk m c 0 t) (iblk m c 1 t) (iblk m c 2 t) (iblk m c 3 t) (iblk m c 4 t) (iblk m c 5 t) (ix2 r e)
      = Cert.GmlpRefIdeal.Read.val_main_v71 (F := Ideal) (a0 m c) (a1 m c) (a2 m c) (a3 m c) (a4 m c) (ix2 n e) := by
  have hr := r.isLt
  rw [GmlpMix.out6_apply _ _ _ _ _ _ r e ⟨e.val / 128, by omega⟩ rfl, v71_apply, pay21_apply, v13_apply, b3]
  refine congrArg₂ (fun a b : EReal => a * b) (congrArg gelu (b0 m c t r e _ (by show 8192 + n.val = (64 + t.val) * 128 + r.val; omega) _ rfl))
    (congrArg₂ (fun a b : EReal => a + b) ?_ ?_)
  · refine (Finset.sum_congr rfl fun s _ => ?_).trans ((GmlpMix.sum_keep r fun s => a1 m c (ix4 0 ⟨e.val / 128, by omega⟩ ⟨r.val % 8, by omega⟩ ⟨s.val % 8, by omega⟩)
      * out0_7 (iblk m c 0 t) (iblk m c 1 t) (iblk m c 2 t) (iblk m c 3 t) (iblk m c 4 t) (iblk m c 5 t) (ix2 s e)).trans (Finset.sum_congr rfl fun p _ => ?_))
    · rw [GmlpMix.keep_apply, b2, pay19_eq]
      by_cases h : s.val ≤ r.val ∧ r.val / 8 = s.val / 8
      · rw [if_pos h, if_pos h]; rfl
      · rw [if_neg h, if_neg h]; exact zero_mul _
    · have hp := p.isLt
      rw [v57_apply, block m c t _ e ⟨n.val / 8 * 8 + p.val, by omega⟩ (by show n.val / 8 * 8 + p.val = t.val * 128 + (r.val / 8 * 8 + p.val); omega)]
      have hm : n.val % 8 = r.val % 8 := by omega
      simp only [hm]
      by_cases h : p.val ≤ r.val % 8
      · rw [if_pos h, if_pos h, mul_comm]
        refine congrArg (fun i => _ * a1 m c i) (funext fun a => Fin.ext ?_)
        match a with
        | ⟨0, _⟩ => rfl
        | ⟨1, _⟩ => rfl
        | ⟨2, _⟩ => rfl
        | ⟨3, _⟩ => show (r.val / 8 * 8 + p.val) % 8 = p.val; omega
      · rw [if_neg h, if_neg h, mul_zero]
  · have hm : n.val % 8 = r.val % 8 := by omega
    simp only [hm]

end blocks

theorem final_eq (c : Dev nD) :
    (dats m 0 c).arrAt 7 cfg0.N = Cert.GmlpRefIdeal.Read.val_main_v51 (F := Ideal) (a0 m c) (a3 m c) (a4 m c) := by
  refine (dats m 0 c).arrAt_eq_of_covers 7 _ (by decide +kernel) fun t _ y => ?_
  have ht : t.val < 8 := Nat.lt_of_lt_of_eq t.isLt N_0
  have hr : (y 0).val < 128 := (y 0).isLt
  let r : Fin 128 := ⟨(y 0).val, hr⟩
  let e : Fin 1024 := ⟨(y 1).val, (y 1).isLt⟩
  let n : Fin 1024 := ⟨t.val * 128 + (y 0).val, by omega⟩
  have hy : y = ix2 r e := by funext a; match a with | ⟨0, _⟩ => rfl | ⟨1, _⟩ => rfl
  blk_simp
  have hi : (win0_7.blk t).view.emb y = ix2 n e := by
    funext a
    match a with
    | ⟨0, _⟩ => apply Fin.ext; blk_simp [idx t]; rfl
    | ⟨1, _⟩ => apply Fin.ext; blk_simp [idx t]; rfl
  rw [hi, after0_7]
  exact (congrArg _ hy).trans (block m c t r e n rfl)

theorem mix_final (c : Dev nD) :
    (dats m 0 c).arrAt 6 cfg0.N = Cert.GmlpRefIdeal.Read.val_main_v71 (F := Ideal) (a0 m c) (a1 m c) (a2 m c) (a3 m c) (a4 m c) := by
  refine (dats m 0 c).arrAt_eq_of_covers 6 _ (by decide +kernel) fun t _ y => ?_
  have ht : t.val < 8 := Nat.lt_of_lt_of_eq t.isLt N_0
  have hr : (y 0).val < 128 := (y 0).isLt
  let r : Fin 128 := ⟨(y 0).val, hr⟩
  let e : Fin 1024 := ⟨(y 1).val, (y 1).isLt⟩
  let n : Fin 1024 := ⟨t.val * 128 + (y 0).val, by omega⟩
  have hy : y = ix2 r e := by funext a; match a with | ⟨0, _⟩ => rfl | ⟨1, _⟩ => rfl
  blk_simp
  have hi : (win0_6.blk t).view.emb y = ix2 n e := by
    funext a
    match a with
    | ⟨0, _⟩ => apply Fin.ext; blk_simp [idx t]; rfl
    | ⟨1, _⟩ => apply Fin.ext; blk_simp [idx t]; rfl
  rw [hi, after0_6]
  exact (congrArg _ hy).trans (mix_block m c t r e n rfl)

attribute [local instance] Cert.GmlpIdeal.Gen.facts Cert.GmlpRefIdeal.Gen.facts

/-- The two arrays the call leaves are the reference's. -/
theorem algebraic : Cert.algebraic_GmlpIdeal_GmlpRefIdeal := by
  intro m g m' g' _ hag
  refine ⟨fun c => Cert.GmlpRefIdeal.Read.val_main_v71 (F := Ideal) (a0 m c) (a1 m c) (a2 m c) (a3 m c) (a4 m c),
    fun c => Cert.GmlpRefIdeal.Read.val_main_v51 (F := Ideal) (a0 m c) (a3 m c) (a4 m c),
    (θ_run _ _ _).mono (fun r hr c => ⟨(hr c).1.trans (mix_final m c), (hr c).2.1.trans (final_eq m c), (hr c).2.2⟩) (Cert.GmlpIdeal.Value.run_blocks m g),
    (θ_run _ _ _).mono (fun r hr c => ⟨(hr c).1.trans ?_, (hr c).2.1.trans ?_, (hr c).2.2⟩) (Cert.GmlpRefIdeal.Value.run m' g')⟩
  · obtain ⟨h0, h1, h2, h3, h4⟩ := hag c
    refine (Cert.GmlpRefIdeal.Read.val_main_v71_eq m' c).trans ?_
    rw [h0, h1, h2, h3, h4]
  · obtain ⟨h0, _, _, h3, h4⟩ := hag c
    refine (Cert.GmlpRefIdeal.Read.val_main_v51_eq m' c).trans ?_
    rw [h0, h3, h4]

end Cert.GmlpValue
end
-- ==== Proof.GatedValue.lean ====
/- The gated pair's projection: each grid point multiplies a block of 1024 rows by the column block of the weights that the first
   point of its column kept in scratch. -/
module

public import proofs.«01_k».proof.Defs
public import proofs.«01_k».proof.Proof.Gen.GatedIdeal.Value
public import proofs.«01_k».proof.Proof.Gen.GatedRefIdeal.Read
public import proofs.«01_k».proof.Proof.Rows
public import Idealize.ShloMosaic.Lib.Claim
public import Idealize.ShloMosaic.Lib.Pipeline.Covers

@[expose] public section

set_option maxRecDepth 16384
noncomputable section
namespace Cert.GatedValue
open Cert.GatedIdeal Cert.GatedIdeal.Gen Idealize.ShloMosaic Idealize.ShloMosaic.TcCoe Idealize.SL.Sem
open Cert.Rows (row)

theorem pay1_apply (w : Vec Ideal S2048x512 .f32) (d : Fin 2048) (e : Fin 512) : k0_pay1 w (ix2 d e) = w (ix2 d e) := by
  pointwise [k0_pay1]

theorem pay2_apply (x : Vec Ideal S1024x2048 .bf16) (w : Vec Ideal S2048x512 .bf16) (r : Fin 1024) (e : Fin 512) :
    k0_pay2 x w (ix2 r e) = ∑ d : Fin 2048, x (ix2 r d) * w (ix2 d e) := by
  pointwise [k0_pay2]

section outs
variable (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S1024x512 .f32) (harg4 : arg4.IsWhole) (arg5 : Memref sig .tc .vmem S2048x512 .bf16) (harg5 : arg5.IsWhole)
  (x0 : Vec Ideal S1024x2048 .bf16) (x1 : Vec Ideal S2048x512 .f32) (xs0 : Vec Ideal S2048x512 .bf16)

theorem out_A (hc0 : cond0_0 i) : out0_A_2 c i arg2 harg2 arg3 harg3 arg4 harg4 arg5 harg5 hc0 x0 x1 = k0_pay2 x0 (k0_pay1 x1) := by
  frame_out
  try simp only [View.read_rep]

theorem sout_A (hc0 : cond0_0 i) : sout0_A_0 c i arg2 harg2 arg3 harg3 arg4 harg4 arg5 harg5 hc0 x0 x1 = k0_pay1 x1 := by
  frame_out
  try simp only [View.read_rep]

theorem out_B (hc0 : ¬cond0_0 i) : out0_B_2 c i arg2 harg2 arg3 harg3 arg4 harg4 arg5 harg5 hc0 x0 x1 xs0 = k0_pay2 x0 xs0 := by
  frame_out
  try simp only [View.read_rep]

end outs

variable (m : (ℓ : Loc nD τ sig) → Buf (Elt Ideal) ℓ)

theorem idx : ∀ t : Fin cfg0.N, win0_0.index t = ![t.val % 9, 0] ∧ win0_1.index t = ![0, t.val / 9] ∧ win0_2.index t = ![t.val % 9, t.val / 9] :=
  (by decide +kernel : ∀ t : Fin grid0.N, _)

/-- The prompt's input, the sample's input and the layer's weights, as a device holds them. -/
abbrev x0 (c : Dev nD) : FVec Ideal S4x2048x2048 .f32 := m ((c : Thread nD τ).loc main_arg0)
abbrev x1 (c : Dev nD) : FVec Ideal S128x8x2048 .f32 := m ((c : Thread nD τ).loc main_arg1)
abbrev x2 (c : Dev nD) : FVec Ideal S1x2048x5128 .f32 := m ((c : Thread nD τ).loc main_arg2)

/-- The rows the call is given are the tokens' rows. -/
theorem V3_apply (c : Dev nD) (n : Fin 9216) (d : Fin 2048) : (V m c main_v3 : FVec Ideal S9216x2048 .bf16) (ix2 n d) = row (x0 m c) (x1 m c) n d := by
  have e : (V m c main_v3 : FVec Ideal S9216x2048 .bf16) = truncf .bf16 (concatenate S9216x2048 0 [⟨S8192x2048, shapeCast S8192x2048 (x0 m c) shapeCasts_S4x2048x2048_S8192x2048⟩, ⟨S1024x2048, shapeCast S1024x2048 (x1 m c) shapeCasts_S128x8x2048_S1024x2048⟩] concatenates_S8192x2048_S1024x2048_S9216x2048_d0 : FVec Ideal S9216x2048 .f32) bitsLt_bf16_f32 := by
    show StableHlo.after hostOps0 _ _ = _
    after_results_simp <;> rfl
  rw [e]
  exact Rows.concat_rows (x0 m c) (x1 m c) shapeCasts_S4x2048x2048_S8192x2048 shapeCasts_S128x8x2048_S1024x2048 concatenates_S8192x2048_S1024x2048_S9216x2048_d0 n d

/-- The weights the call is given are the layer's. -/
theorem V4_apply (c : Dev nD) (d : Fin 2048) (e : Fin 5128) : (V m c main_v4 : FVec Ideal S2048x5128 .f32) (ix2 d e) = x2 m c (ix3 0 d e) := by
  have h : (V m c main_v4 : FVec Ideal S2048x5128 .f32) = shapeCast S2048x5128 (x2 m c) shapeCasts_S1x2048x5128_S2048x5128 := by
    show StableHlo.after hostOps0 _ _ = _
    after_results_simp <;> rfl
  rw [h]
  exact Rows.squeeze_apply (x2 m c) _ d e

theorem x0_apply (c : Dev nD) (t : Fin cfg0.N) (r : Fin 1024) (d : Fin 2048) (n : Fin 9216) (hn : n.val = t.val % 9 * 1024 + r.val) :
    (iblk m c 0 t : FVec Ideal S1024x2048 .bf16) (ix2 r d) = row (x0 m c) (x1 m c) n d := by
  rw [← V3_apply]
  blk_ext [iblk, V, idx t]

theorem w_apply (c : Dev nD) (t : Fin cfg0.N) (d : Fin 2048) (e : Fin 512) (k : Fin 5128) (hk : k.val = 512 * (t.val / 9) + e.val) :
    (X0_1 m c t : FVec Ideal S2048x512 .f32) (ix2 d e) = x2 m c (ix3 0 d k) := by
  rw [← V4_apply]
  unfold X0_1 Pipeline.Window.fill
  rw [dif_pos (moved0_1 t _)]
  blk_ext [iblk, V, idx t]

/-- The scratch holds, after every point, the point's own column block of the weights. -/
theorem scratch (c : Dev nD) : ∀ (n : ℕ) (hn : n < cfg0.N) (d : Fin 2048) (e : Fin 512) (k : Fin 5128), k.val = 512 * (n / 9) + e.val →
    (outsAt0 m c n hn).2 (ix2 d e) = x2 m c (ix3 0 d k) := by
  intro n
  induction n with
  | zero =>
    intro hn d e k hk
    rw [outsAt0_A m c ⟨0, hn⟩ rfl]
    dsimp only
    rw [sout_A]
    exact (pay1_apply _ d e).trans (w_apply m c ⟨0, hn⟩ d e k hk)
  | succ n ih =>
    intro hn d e k hk
    by_cases h0 : (n + 1) % 9 = 0
    · rw [outsAt0_A m c ⟨n + 1, hn⟩ h0]
      dsimp only
      rw [sout_A]
      exact (pay1_apply _ d e).trans (w_apply m c ⟨n + 1, hn⟩ d e k hk)
    · rw [outsAt0_B m c ⟨n + 1, hn⟩ h0]
      dsimp only
      unfold sout0_B_0
      exact ih (Nat.lt_of_succ_lt hn) d e k (by omega)

/-- The block a point leaves: its rows times its column block. -/
theorem block (c : Dev nD) (t : Fin cfg0.N) (r : Fin 1024) (e : Fin 512) (n : Fin 9216) (hn : n.val = t.val % 9 * 1024 + r.val)
    (k : Fin 5128) (hk : k.val = 512 * (t.val / 9) + e.val) :
    (outsAt0 m c t.val t.isLt).1 (ix2 r e) = ∑ d : Fin 2048, row (x0 m c) (x1 m c) n d * x2 m c (ix3 0 d k) := by
  by_cases h0 : t.val % 9 = 0
  · rw [congrArg Prod.fst (outsAt0_A m c t h0), out_A]
    refine (pay2_apply _ _ r e).trans ?_
    refine Finset.sum_congr rfl fun d _ => ?_
    rw [pay1_apply, x0_apply m c t r d n hn, w_apply m c t d e k hk]
  · rw [congrArg Prod.fst (outsAt0_B m c t h0), out_B]
    refine (pay2_apply _ _ r e).trans ?_
    refine Finset.sum_congr rfl fun d _ => ?_
    rw [x0_apply m c t r d n hn, scratch m c (t.val - 1) _ d e k (by omega)]

section ref
open Cert.GatedRefIdeal.Read

/-- The reference's result at a token: its row against a column of the weights. -/
theorem ref_apply (x0 : FVec Ideal S4x2048x2048 .f32) (x1 : FVec Ideal S128x8x2048 .f32) (x2 : FVec Ideal S1x2048x5128 .f32) (n : Fin 9216) (e : Fin 2048)
    (k : Fin 5128) (hk : k.val = e.val) :
    val_main_v6 (F := Ideal) x0 x1 x2 (ix2 n e) = ∑ d : Fin 2048, row x0 x1 n d * x2 (ix3 0 d k) := by
  have hw : ∀ d : Fin 2048, val_main_v1 (F := Ideal) x2 (ix2 d e) = x2 (ix3 0 d k) := fun d => by
    refine (Rows.squeeze_apply (val_main_v0 (F := Ideal) x2) _ d e).trans ?_
    rw [val_main_v0_apply]
    exact congrArg x2 (funext fun a => Fin.ext (by match a with | ⟨0, _⟩ => rfl | ⟨1, _⟩ => rfl | ⟨2, _⟩ => exact hk.symm))
  refine (Rows.concat_rows (val_main_v2 (F := Ideal) x0 x2) (val_main_v3 (F := Ideal) x1 x2) _ _ _ n e).trans ?_
  refine (Rows.row_map (fun r e => ∑ d : Fin 2048, r d * val_main_v1 (F := Ideal) x2 (ix2 d e)) x0 x1 _ _ (fun b p e => ?_) (fun b p e => ?_) n e).trans ?_
  · rw [val_main_v2_apply]
    exact Finset.sum_congr rfl fun d _ => congrArg₂ (· * ·) (congrArg x0 (funext fun a => Fin.ext (by match a with | ⟨0, _⟩ => rfl | ⟨1, _⟩ => rfl | ⟨2, _⟩ => rfl)))
      (congrArg (val_main_v1 (F := Ideal) x2) (funext fun a => Fin.ext (by match a with | ⟨0, _⟩ => rfl | ⟨1, _⟩ => rfl)))
  · rw [val_main_v3_apply]
    exact Finset.sum_congr rfl fun d _ => congrArg₂ (· * ·) (congrArg x1 (funext fun a => Fin.ext (by match a with | ⟨0, _⟩ => rfl | ⟨1, _⟩ => rfl | ⟨2, _⟩ => rfl)))
      (congrArg (val_main_v1 (F := Ideal) x2) (funext fun a => Fin.ext (by match a with | ⟨0, _⟩ => rfl | ⟨1, _⟩ => rfl)))
  · exact Finset.sum_congr rfl fun d _ => by rw [hw d]

end ref

theorem final_eq (c : Dev nD) :
    (dats m 0 c).arrAt 2 cfg0.N = Cert.GatedRefIdeal.Read.val_main_v6 (F := Ideal) (x0 m c) (x1 m c) (x2 m c) := by
  refine (dats m 0 c).arrAt_eq_of_covers 2 _ (by decide +kernel) fun t _ y => ?_
  have ht : t.val < 36 := Nat.lt_of_lt_of_eq t.isLt N_0
  have hr : (y 0).val < 1024 := (y 0).isLt
  have he : (y 1).val < 512 := (y 1).isLt
  let r : Fin 1024 := ⟨(y 0).val, hr⟩
  let e : Fin 512 := ⟨(y 1).val, he⟩
  let n : Fin 9216 := ⟨t.val % 9 * 1024 + (y 0).val, by omega⟩
  let f : Fin 2048 := ⟨t.val / 9 * 512 + (y 1).val, by omega⟩
  let k : Fin 5128 := ⟨512 * (t.val / 9) + (y 1).val, by omega⟩
  have hy : y = ix2 r e := by funext a; match a with | ⟨0, _⟩ => rfl | ⟨1, _⟩ => rfl
  blk_simp
  have hi : (win0_2.blk t).view.emb y = ix2 n f := by
    funext a
    match a with
    | ⟨0, _⟩ => apply Fin.ext; blk_simp [idx t]; rfl
    | ⟨1, _⟩ => apply Fin.ext; blk_simp [idx t]; rfl
  rw [hi, ref_apply (x0 m c) (x1 m c) (x2 m c) n f k (by show 512 * (t.val / 9) + (y 1).val = (t.val / 9 * 512 + (y 1).val); omega), after0_2]
  exact (congrArg (outsAt0 m c t.val t.isLt).1 hy).trans (block m c t r e n rfl k rfl)

attribute [local instance] Cert.GatedIdeal.Gen.facts Cert.GatedRefIdeal.Gen.facts

/-- The gated pair the call leaves are the reference's. -/
theorem algebraic : Cert.algebraic_GatedIdeal_GatedRefIdeal := by
  intro m g m' g' _ hag
  refine ⟨fun c => Cert.GatedRefIdeal.Read.val_main_v6 (F := Ideal) (x0 m c) (x1 m c) (x2 m c),
    (θ_run _ _ _).mono (fun r hr c => ⟨(hr c).1.trans (final_eq m c), (hr c).2⟩) (Cert.GatedIdeal.Value.run_blocks m g),
    (θ_run _ _ _).mono (fun r hr c => ⟨(hr c).1.trans ?_, (hr c).2⟩) (Cert.GatedRefIdeal.Value.run m' g')⟩
  obtain ⟨a0, a1, a2⟩ := hag c
  rw [a0, a1, a2]
  exact Cert.GatedRefIdeal.Read.val_main_v6_eq _ _ _

end Cert.GatedValue
end
-- ==== Proof.ConvStepValue.lean ====
/- The sample's convolution: the state each sequence is left with is the last thirty rows of its old state followed by the
   gated rows of its positions. -/
module

public import proofs.«01_k».proof.Defs
public import proofs.«01_k».proof.Proof.Gen.ConvStepIdeal.Value
public import proofs.«01_k».proof.Proof.Gen.ConvStepRefIdeal.Read
public import proofs.«01_k».proof.Proof.Rows
public import Idealize.ShloMosaic.Lib.Claim
public import Idealize.ShloMosaic.Lib.Pipeline.Covers

@[expose] public section

set_option maxRecDepth 16384
noncomputable section
namespace Cert.ConvStepValue
open Cert.ConvStepIdeal Cert.ConvStepIdeal.Gen Idealize.ShloMosaic Idealize.ShloMosaic.TcCoe Idealize.SL.Sem
open Cert.Rows (gated)

theorem pay2_apply (x : Vec Ideal S8x30x1024 .f32) : k0_pay2 x = x := by
  funext i
  pointwise [k0_pay2]

theorem pay3_apply (a g : Vec Ideal S64x1024 .f32) (b p : Fin 8) (e : Fin 1024) (r : Fin 64) (hr : r.val = b.val * 8 + p.val) :
    k0_pay3 a g (ix3 b p e) = gated (a (ix2 r e)) (g (ix2 r e)) := by
  unfold k0_pay3
  refine (shapeCast_apply _ _ (ix3 b p e) (ix3 b p e) rfl).trans ((shapeCast_apply _ _ (ix3 b p e) (ix2 r e) ?_).trans ?_)
  · rw [Shape.rowMajor_val_three, Shape.rowMajor_val_two]
    show r.val * 1024 + e.val = (b.val * 8 + p.val) * 1024 + e.val
    rw [hr]
  · have e0 : a (ix2 r e) * Ideal.div (Ideal.ofBits .f32 0x3F800000#32) (Ideal.ofBits .f32 0x3F800000#32 + Ideal.exp (0 - g (ix2 r e))) = gated (a (ix2 r e)) (g (ix2 r e)) := by
      rw [zero_sub]; rfl
    refine Eq.trans ?_ e0
    pointwise

section outs
variable (c : Dev nD) (i : grid0.Coords) (arg1 : Memref sig .tc .vmem S64x2048 .f32) (harg1 : arg1.IsWhole) (arg2 : Memref sig .tc .vmem S8x30x1024 .f32) (harg2 : arg2.IsWhole) (arg3 : Memref sig .tc .vmem S31x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S64x1024 .bf16) (harg7 : arg7.IsWhole) (arg8 : Memref sig .tc .vmem S8x30x1024 .f32) (harg8 : arg8.IsWhole) (arg9 : Memref sig .tc .vmem S8x38x1024 .f32) (harg9 : arg9.IsWhole)
  (x0 : Vec Ideal S64x2048 .f32) (x1 : Vec Ideal S8x30x1024 .f32) (x2 : Vec Ideal S31x1024 .f32) (x3 : Vec Ideal S1x1024 .f32) (x4 : Vec Ideal S1x1024 .f32) (x5 : Vec Ideal S1x1024 .f32)

/-- The last eight rows of the state are the gated rows of the sequence's positions. -/
theorem out_new (b : Fin 8) (j : Fin 30) (p : Fin 8) (hj : j.val = 22 + p.val) (e : Fin 1024) (r : Fin 64) (hr : r.val = b.val * 8 + p.val) :
    out0_A_7 c i arg1 harg1 arg2 harg2 arg3 harg3 arg4 harg4 arg5 harg5 arg6 harg6 arg7 harg7 arg8 harg8 arg9 harg9 x0 x1 x2 x3 x4 x5 (ix3 b j e) = gated (x0 (ix2 r ⟨e.val, by omega⟩)) (x0 (ix2 r ⟨1024 + e.val, by omega⟩)) := by
  frame_out
  rw [View.readCov_eq_canon']
  refine (congrArg (View.canon _) (?_ : _ = (Rect.unit (s := S8x38x1024) ![0, 30, 0] S8x8x1024.size inb_S8x38x1024_S8x8x1024_0_30_0).emb (ix3 b p e))).trans
    ((View.canon_cons_emb _ _ _ _).trans ((pay3_apply _ _ b p e r hr).trans (congrArg₂ gated ?_ ?_)))
  · funext a
    match a with
    | ⟨0, _⟩ => rfl
    | ⟨1, _⟩ => apply Fin.ext; show 8 + 1 * j.val = 30 + 1 * p.val; omega
    | ⟨2, _⟩ => rfl
  · pointwise
  · pointwise

/-- The first twenty-two rows of the state are the last of the old one. -/
theorem out_old (b : Fin 8) (j k : Fin 30) (hk : k.val = 8 + j.val) (e : Fin 1024) :
    out0_A_7 c i arg1 harg1 arg2 harg2 arg3 harg3 arg4 harg4 arg5 harg5 arg6 harg6 arg7 harg7 arg8 harg8 arg9 harg9 x0 x1 x2 x3 x4 x5 (ix3 b j e) = x1 (ix3 b k e) := by
  frame_out
  rw [View.readCov_eq_canon', pay2_apply]
  refine (View.canon_cons_of_not_mem _ _ ?_).trans ((congrArg (View.canon _) (?_ : _ = (Rect.unit (s := S8x38x1024) ![0, 0, 0] S8x30x1024.size inb_S8x38x1024_S8x30x1024_0_0_0).emb (ix3 b k e))).trans
    (View.canon_cons_emb _ _ _ _))
  · intro h
    have h1 : 30 ≤ 8 + 1 * j.val := (Rect.mem_set_unit (s := S8x38x1024) (off := ![0, 30, 0]) (size := S8x8x1024.size) (inb := inb_S8x38x1024_S8x8x1024_0_30_0).mp h 1).1
    have := k.isLt
    omega
  · funext a
    match a with
    | ⟨0, _⟩ => rfl
    | ⟨1, _⟩ => apply Fin.ext; show 8 + 1 * j.val = 0 + 1 * k.val; omega
    | ⟨2, _⟩ => rfl

end outs

variable (m : (ℓ : Loc nD τ sig) → Buf (Elt Ideal) ℓ)

theorem idx : ∀ t : Fin cfg0.N, win0_0.index t = ![128 + t.val, 0] ∧ win0_1.index t = ![t.val, 0, 0] ∧ win0_7.index t = ![t.val, 0, 0] :=
  (by decide +kernel : ∀ t : Fin grid0.N, _)

/-- The gated pair and the old states, as a device holds them. -/
abbrev a0 (c : Dev nD) : FVec Ideal S9216x2048 .f32 := m ((c : Thread nD τ).loc main_arg0)
abbrev a1 (c : Dev nD) : FVec Ideal S1x128x30x1024 .f32 := m ((c : Thread nD τ).loc main_arg1)

theorem Va0 (c : Dev nD) : (V m c main_arg0 : FVec Ideal S9216x2048 .f32) = a0 m c := by
  show StableHlo.after hostOps0 _ _ = _
  after_results_simp <;> rfl

theorem Va1 (c : Dev nD) : (V m c main_v0 : FVec Ideal S128x30x1024 .f32) = shapeCast S128x30x1024 (a1 m c) shapeCasts_S1x128x30x1024_S128x30x1024 := by
  show StableHlo.after hostOps0 _ _ = _
  after_results_simp <;> rfl

section blocks
variable (c : Dev nD) (t : Fin cfg0.N)

theorem b0 (r : Fin 64) (d : Fin 2048) (n : Fin 9216) (hn : n.val = (128 + t.val) * 64 + r.val) : (iblk m c 0 t : FVec Ideal S64x2048 .f32) (ix2 r d) = a0 m c (ix2 n d) := by
  rw [← Va0]; blk_ext [iblk, V, idx t]

theorem b1 (b : Fin 8) (j : Fin 30) (e : Fin 1024) (q : Fin 128) (hq : q.val = t.val * 8 + b.val) : (iblk m c 1 t : FVec Ideal S8x30x1024 .f32) (ix3 b j e)
    = shapeCast S128x30x1024 (a1 m c) shapeCasts_S1x128x30x1024_S128x30x1024 (ix3 q j e) := by
  rw [← Va1]; blk_ext [iblk, V, idx t]

/-- What a point leaves of its sequences' states. -/
theorem state_old (b : Fin 8) (j k : Fin 30) (hk : k.val = 8 + j.val) (e : Fin 1024) :
    (outsAt0 m c t).2 (ix3 b j e) = (iblk m c 1 t : FVec Ideal S8x30x1024 .f32) (ix3 b k e) := by
  unfold outsAt0
  dsimp only
  rw [out_old (hk := hk)]

theorem state_new (b : Fin 8) (j : Fin 30) (p : Fin 8) (hj : j.val = 22 + p.val) (e : Fin 1024) (r : Fin 64) (hr : r.val = b.val * 8 + p.val) :
    (outsAt0 m c t).2 (ix3 b j e) = gated ((iblk m c 0 t : FVec Ideal S64x2048 .f32) (ix2 r ⟨e.val, by omega⟩)) ((iblk m c 0 t : FVec Ideal S64x2048 .f32) (ix2 r ⟨1024 + e.val, by omega⟩)) := by
  unfold outsAt0
  dsimp only
  rw [out_new (hj := hj) (hr := hr)]

end blocks

section ref
open Cert.ConvStepRefIdeal.Read
variable (x0 : FVec Ideal S9216x2048 .f32) (x1 : FVec Ideal S1x128x30x1024 .f32)

/-- The gated row of a sequence's position. -/
theorem v10_apply (q : Fin 128) (p : Fin 8) (e : Fin 1024) (n : Fin 9216) (hn : n.val = 8192 + (q.val * 8 + p.val)) :
    val_main_v10 (F := Ideal) x0 (ix3 q p e) = gated (x0 (ix2 n ⟨e.val, by omega⟩)) (x0 (ix2 n ⟨1024 + e.val, by omega⟩)) := by
  have h : val_main_v10 (F := Ideal) x0 (ix3 q p e) = gated (val_main_v2 (F := Ideal) x0 (ix3 q p e)) (val_main_v3 (F := Ideal) x0 (ix3 q p e)) := by
    unfold gated
    pointwise [val_main_v10, val_main_v9, val_main_v8, val_main_v7, val_main_v6, val_main_v5, val_main_v4, val_main_cst, val_main_cst_0]
  have hp := p.isLt
  have hq := q.isLt
  have he := e.isLt
  rw [h, val_main_v2_apply, val_main_v3_apply, val_main_v1_apply, val_main_v1_apply, val_main_v0_apply, val_main_v0_apply]
  refine congrArg₂ gated (congrArg x0 (funext fun a => Fin.ext ?_)) (congrArg x0 (funext fun a => Fin.ext ?_))
  · match a with
    | ⟨0, _⟩ => show 8192 + ((q.val * 8 + p.val) * 2048 + e.val) / 2048 = n.val; omega
    | ⟨1, _⟩ => show ((q.val * 8 + p.val) * 2048 + e.val) % 2048 = e.val; omega
  · match a with
    | ⟨0, _⟩ => show 8192 + ((q.val * 8 + p.val) * 2048 + (1024 + e.val)) / 2048 = n.val; omega
    | ⟨1, _⟩ => show ((q.val * 8 + p.val) * 2048 + (1024 + e.val)) % 2048 = 1024 + e.val; omega

theorem ref_new (q : Fin 128) (j : Fin 30) (p : Fin 8) (hj : j.val = 22 + p.val) (e : Fin 1024) :
    val_main_v13 (F := Ideal) x0 x1 (ix3 q j e) = val_main_v10 (F := Ideal) x0 (ix3 q p e) := by
  rw [val_main_v13_apply]
  unfold val_main_v12
  exact concatenate_pair_apply_right (t := Cert.ConvStepRefIdeal.S128x38x1024) (s₁ := Cert.ConvStepRefIdeal.S128x30x1024) (s₂ := Cert.ConvStepRefIdeal.S128x8x1024) 1 (val_main_v11 (F := Ideal) x1) (val_main_v10 (F := Ideal) x0) _
    (idx_main_v13 (ix3 q j e)) rfl rfl (ix3 q p e)
    (fun b hb => by match b with | ⟨0, _⟩ => rfl | ⟨1, _⟩ => exact absurd rfl hb | ⟨2, _⟩ => rfl) (by show p.val + 30 = 8 + j.val; omega)

theorem ref_old (q : Fin 128) (j k : Fin 30) (hk : k.val = 8 + j.val) (e : Fin 1024) :
    val_main_v13 (F := Ideal) x0 x1 (ix3 q j e) = shapeCast S128x30x1024 x1 shapeCasts_S1x128x30x1024_S128x30x1024 (ix3 q k e) := by
  rw [val_main_v13_apply]
  unfold val_main_v12
  exact concatenate_pair_apply_left (t := Cert.ConvStepRefIdeal.S128x38x1024) (s₁ := Cert.ConvStepRefIdeal.S128x30x1024) (s₂ := Cert.ConvStepRefIdeal.S128x8x1024) 1 (val_main_v11 (F := Ideal) x1) (val_main_v10 (F := Ideal) x0) _
    (idx_main_v13 (ix3 q j e)) rfl (ix3 q k e)
    (fun b => by match b with | ⟨0, _⟩ => rfl | ⟨1, _⟩ => exact hk | ⟨2, _⟩ => rfl)

end ref

theorem final_eq (c : Dev nD) :
    (dats m 0 c).arrAt 7 cfg0.N = Cert.ConvStepRefIdeal.Read.val_main_v13 (F := Ideal) (a0 m c) (a1 m c) := by
  refine (dats m 0 c).arrAt_eq_of_covers 7 _ (by decide +kernel) fun t _ y => ?_
  have ht : t.val < 16 := Nat.lt_of_lt_of_eq t.isLt N_0
  have h0 : (y 0).val < 8 := (y 0).isLt
  have h1 : (y 1).val < 30 := (y 1).isLt
  have h2 : (y 2).val < 1024 := (y 2).isLt
  let b : Fin 8 := ⟨(y 0).val, h0⟩
  let j : Fin 30 := ⟨(y 1).val, h1⟩
  let e : Fin 1024 := ⟨(y 2).val, h2⟩
  let q : Fin 128 := ⟨t.val * 8 + (y 0).val, by omega⟩
  have hy : y = ix3 b j e := by funext a; match a with | ⟨0, _⟩ => rfl | ⟨1, _⟩ => rfl | ⟨2, _⟩ => rfl
  blk_simp
  have hi : (win0_7.blk t).view.emb y = ix3 q j e := by
    funext a
    match a with
    | ⟨0, _⟩ => apply Fin.ext; blk_simp [idx t]; rfl
    | ⟨1, _⟩ => apply Fin.ext; blk_simp [idx t]; rfl
    | ⟨2, _⟩ => apply Fin.ext; blk_simp [idx t]; rfl
  rw [hi, after0_7]
  refine (congrArg (outsAt0 m c t).2 hy).trans ?_
  by_cases hj : j.val < 22
  · refine (state_old m c t b j ⟨8 + j.val, by omega⟩ rfl e).trans ?_
    rw [ref_old (a0 m c) (a1 m c) q j ⟨8 + j.val, by omega⟩ rfl e]
    exact b1 m c t b _ e q rfl
  · let p : Fin 8 := ⟨j.val - 22, by omega⟩
    have hp : j.val = 22 + p.val := by show j.val = 22 + (j.val - 22); omega
    have hpv : p.val < 8 := p.isLt
    let r : Fin 64 := ⟨b.val * 8 + p.val, by omega⟩
    let n : Fin 9216 := ⟨8192 + (q.val * 8 + p.val), by omega⟩
    have hn : n.val = (128 + t.val) * 64 + r.val := by
      show 8192 + ((t.val * 8 + (y 0).val) * 8 + p.val) = (128 + t.val) * 64 + ((y 0).val * 8 + p.val); omega
    refine (state_new m c t b j p hp e r rfl).trans ?_
    rw [ref_new (a0 m c) (a1 m c) q j p hp e, v10_apply (a0 m c) q p e n rfl]
    exact congrArg₂ gated (b0 m c t r _ n hn) (b0 m c t r _ n hn)

attribute [local instance] Cert.ConvStepIdeal.Gen.facts Cert.ConvStepRefIdeal.Gen.facts

/-- The states the call leaves are the reference's. -/
theorem algebraic : Cert.algebraic_ConvStepIdeal_ConvStepRefIdeal := by
  intro m g m' g' _ hag
  refine ⟨fun c => Cert.ConvStepRefIdeal.Read.val_main_v13 (F := Ideal) (a0 m c) (a1 m c),
    (θ_run _ _ _).mono (fun r hr c => ⟨(hr c).2.1.trans (final_eq m c), (hr c).2.2⟩) (Cert.ConvStepIdeal.Value.run_blocks m g),
    (θ_run _ _ _).mono (fun r hr c => ⟨(hr c).1.trans ?_, (hr c).2⟩) (Cert.ConvStepRefIdeal.Value.run m' g')⟩
  obtain ⟨h0, h1, _⟩ := hag c
  rw [h0, h1]
  exact Cert.ConvStepRefIdeal.Read.val_main_v13_eq _ _

end Cert.ConvStepValue
end
-- ==== Proof.FoxMath.lean ====
/- The mathematics of the blocked softmax: a running maximum, a running sum of exponentials and a running
   weighted sum, rescaled at each block of 512 keys, end at the plain softmax-weighted sum. Stated over extended
   reals for one row of scores `s` and one column of values `v`, both as functions of the key's position. -/
module

public import Idealize.ShloMosaic.PureOps.Ideal

@[expose] public section

namespace Cert.FoxMath

open Idealize.ShloMosaic Finset

/-- An exponential is nonnegative. -/
theorem exp_nonneg (x : EReal) : 0 ≤ Ideal.exp x := by
  induction x using EReal.rec with
  | bot => simp
  | top => simp
  | coe r => rw [Ideal.exp_coe]; exact EReal.coe_nonneg.mpr (Real.exp_pos r).le

/-- An exponential of anything but `⊤` is not `⊤`. -/
theorem exp_ne_top {x : EReal} (h : x ≠ ⊤) : Ideal.exp x ≠ ⊤ := by
  induction x using EReal.rec with
  | bot => simp
  | top => exact absurd rfl h
  | coe r => rw [Ideal.exp_coe]; exact EReal.coe_ne_top _

/-- Rescaling an exponential from the maximum `M` to the maximum `M'`. -/
theorem exp_rescale (M M' : ℝ) {s : EReal} (hs : s ≠ ⊤) :
    Ideal.exp ((M : EReal) - M') * Ideal.exp (s - M) = Ideal.exp (s - M') := by
  induction s using EReal.rec with
  | bot => simp
  | top => exact absurd rfl hs
  | coe r =>
    rw [← EReal.coe_sub, ← EReal.coe_sub, ← EReal.coe_sub, Ideal.exp_coe, Ideal.exp_coe, Ideal.exp_coe, ← EReal.coe_mul,
      ← Real.exp_add]
    congr 2; ring

/-- A finite nonnegative factor distributes over a finite sum of extended reals. -/
theorem mul_sum_of_nonneg {ι : Type} (t : Finset ι) (f : ι → EReal) {a : EReal} (h0 : 0 ≤ a) (ht : a ≠ ⊤) :
    a * ∑ i ∈ t, f i = ∑ i ∈ t, a * f i := by
  classical
  induction t using Finset.induction_on with
  | empty => simp
  | insert i t hi ih => rw [sum_insert hi, sum_insert hi, EReal.left_distrib_of_nonneg_of_ne_top h0 ht, ih]

variable (s v : ℕ → EReal)

/-- The largest of the first `n` scores. -/
noncomputable def mx (n : ℕ) : EReal := (range n).sup s
/-- The sum of the first `n` exponentials, taken from the maximum `M`. -/
noncomputable def den (M : EReal) (n : ℕ) : EReal := ∑ j ∈ range n, Ideal.exp (s j - M)
/-- The sum of the first `n` weighted values, taken from the maximum `M`. -/
noncomputable def num (M : EReal) (n : ℕ) : EReal := ∑ j ∈ range n, Ideal.exp (s j - M) * v j

variable {s}

theorem mx_ne_top (hs : ∀ j, s j ≠ ⊤) (n : ℕ) : mx s n ≠ ⊤ := by
  have : mx s n < ⊤ := (Finset.sup_lt_iff (by exact bot_lt_top)).mpr fun j _ => lt_top_iff_ne_top.mpr (hs j)
  exact this.ne

theorem mx_ne_bot (h0 : s 0 ≠ ⊥) {n : ℕ} (hn : 0 < n) : mx s n ≠ ⊥ := by
  intro h
  have : s 0 ≤ mx s n := Finset.le_sup (f := s) (mem_range.mpr hn)
  rw [h] at this
  exact h0 (le_bot_iff.mp this)

/-- The maximum over one more block. -/
theorem mx_add (n b : ℕ) : mx s (n + b) = max (mx s n) ((univ : Finset (Fin b)).sup fun x => s (n + x)) := by
  unfold mx
  apply le_antisymm
  · refine Finset.sup_le fun j hj => ?_
    rw [mem_range] at hj
    by_cases h : j < n
    · exact le_max_of_le_left (Finset.le_sup (f := s) (mem_range.mpr h))
    · refine le_max_of_le_right ?_
      have := Finset.le_sup (f := fun x : Fin b => s (n + x)) (mem_univ (⟨j - n, by omega⟩ : Fin b))
      simpa [Nat.add_sub_of_le (Nat.le_of_not_lt h)] using this
  · refine max_le (Finset.sup_mono (range_mono (by omega))) (Finset.sup_le fun x _ => ?_)
    exact Finset.le_sup (f := s) (mem_range.mpr (by have := x.isLt; omega))

/-- The running sum of exponentials over one more block. -/
theorem den_add (hs : ∀ j, s j ≠ ⊤) (h0 : s 0 ≠ ⊥) (n b : ℕ) :
    Ideal.exp (mx s n - mx s (n + b)) * den s (mx s n) n + ∑ x : Fin b, Ideal.exp (s (n + x) - mx s (n + b))
      = den s (mx s (n + b)) (n + b) := by
  unfold den
  rw [sum_range_add, Finset.sum_range (fun x => Ideal.exp (s (n + x) - mx s (n + b)))]
  congr 1
  rcases Nat.eq_zero_or_pos n with rfl | hn
  · simp
  · have ha := EReal.coe_toReal (mx_ne_top hs n) (mx_ne_bot h0 hn)
    have hb := EReal.coe_toReal (mx_ne_top hs (n + b)) (mx_ne_bot h0 (n := n + b) (by omega))
    rw [← ha, ← hb, mul_sum_of_nonneg _ _ (exp_nonneg _) (exp_ne_top (by rw [← EReal.coe_sub]; exact EReal.coe_ne_top _))]
    exact sum_congr rfl fun j _ => exp_rescale _ _ (hs j)

/-- The running weighted sum over one more block. -/
theorem num_add (hs : ∀ j, s j ≠ ⊤) (h0 : s 0 ≠ ⊥) (n b : ℕ) :
    Ideal.exp (mx s n - mx s (n + b)) * num s v (mx s n) n
        + ∑ x : Fin b, Ideal.exp (s (n + x) - mx s (n + b)) * v (n + x)
      = num s v (mx s (n + b)) (n + b) := by
  unfold num
  rw [sum_range_add, Finset.sum_range (fun x => Ideal.exp (s (n + x) - mx s (n + b)) * v (n + x))]
  congr 1
  rcases Nat.eq_zero_or_pos n with rfl | hn
  · simp
  · have ha := EReal.coe_toReal (mx_ne_top hs n) (mx_ne_bot h0 hn)
    have hb := EReal.coe_toReal (mx_ne_top hs (n + b)) (mx_ne_bot h0 (n := n + b) (by omega))
    rw [← ha, ← hb, mul_sum_of_nonneg _ _ (exp_nonneg _) (exp_ne_top (by rw [← EReal.coe_sub]; exact EReal.coe_ne_top _))]
    exact sum_congr rfl fun j _ => by rw [← mul_assoc, exp_rescale _ _ (hs j)]

/-- Masked scores beyond position `n` do not change the maximum … -/
theorem mx_extend {n N : ℕ} (h : n ≤ N) (hb : ∀ j, n ≤ j → s j = ⊥) : mx s N = mx s n := by
  unfold mx
  apply le_antisymm
  · refine Finset.sup_le fun j _ => ?_
    by_cases hj : j < n
    · exact Finset.le_sup (f := s) (mem_range.mpr hj)
    · rw [hb j (by omega)]; exact bot_le
  · exact Finset.sup_mono (range_mono h)

/-- … nor the sum of exponentials … -/
theorem den_extend {n N : ℕ} (M : EReal) (h : n ≤ N) (hb : ∀ j, n ≤ j → s j = ⊥) : den s M N = den s M n := by
  unfold den
  refine (sum_subset (range_mono h) fun j _ hj => ?_).symm
  rw [hb j (by simpa using hj)]; simp

/-- … nor the weighted sum. -/
theorem num_extend {n N : ℕ} (M : EReal) (h : n ≤ N) (hb : ∀ j, n ≤ j → s j = ⊥) : num s v M N = num s v M n := by
  unfold num
  refine (sum_subset (range_mono h) fun j _ hj => ?_).symm
  rw [hb j (by simpa using hj)]; simp

theorem sum_ne_top {ι : Type} (t : Finset ι) (f : ι → EReal) (h0 : ∀ i, 0 ≤ f i) (h : ∀ i, f i ≠ ⊤) :
    ∑ i ∈ t, f i ≠ ⊤ := by
  classical
  induction t using Finset.induction_on with
  | empty => simp
  | insert i t hi ih => rw [sum_insert hi]; exact EReal.add_ne_top (h i) ih

theorem sub_coe_ne_top {x : EReal} (hx : x ≠ ⊤) (r : ℝ) : x - r ≠ ⊤ := by
  induction x using EReal.rec with
  | bot => simp
  | top => exact absurd rfl hx
  | coe y => rw [← EReal.coe_sub]; exact EReal.coe_ne_top _

/-- Dividing the weighted sum once is dividing every weight. -/
theorem div_num (hs : ∀ j, s j ≠ ⊤) (h0 : s 0 ≠ ⊥) {n : ℕ} (hn : 0 < n) :
    Ideal.div (num s v (mx s n) n) (den s (mx s n) n)
      = ∑ j ∈ range n, v j * Ideal.div (Ideal.exp (s j - mx s n)) (den s (mx s n) n) := by
  have ha := EReal.coe_toReal (mx_ne_top hs n) (mx_ne_bot h0 hn)
  have hpos : 0 < den s (mx s n) n := by
    have h1 : Ideal.exp (s 0 - mx s n) ≤ den s (mx s n) n :=
      single_le_sum (f := fun j => Ideal.exp (s j - mx s n)) (fun j _ => exp_nonneg _) (mem_range.mpr hn)
    refine lt_of_lt_of_le ?_ h1
    have hb := EReal.coe_toReal (hs 0) h0
    rw [← ha, ← hb, ← EReal.coe_sub, Ideal.exp_coe]
    exact EReal.coe_pos.mpr (Real.exp_pos _)
  have htop : den s (mx s n) n ≠ ⊤ :=
    sum_ne_top _ _ (fun j => exp_nonneg _) fun j => exp_ne_top (by rw [← ha]; exact sub_coe_ne_top (hs j) _)
  have hc := EReal.coe_toReal htop (ne_of_gt (lt_of_le_of_lt bot_le hpos))
  have hinv : (den s (mx s n) n)⁻¹ = (((den s (mx s n) n).toReal)⁻¹ : ℝ) := by rw [EReal.coe_inv, hc]
  have hd : ∀ x, Ideal.div x (den s (mx s n) n) = (((den s (mx s n) n).toReal)⁻¹ : ℝ) * x := fun x => by
    unfold Ideal.div; rw [if_neg hpos.ne', hinv, mul_comm]
  simp only [hd]
  unfold num
  rw [mul_sum_of_nonneg _ _ (by rw [EReal.coe_nonneg]; exact inv_nonneg.mpr (EReal.toReal_nonneg hpos.le)) (EReal.coe_ne_top _)]
  exact sum_congr rfl fun j _ => by rw [← mul_assoc, mul_comm (v j)]

end Cert.FoxMath

end
-- ==== Proof.FoxBody.lean ====
/- What the attention body computes at one grid point: the loop over key blocks, read entry by entry, is the blocked
   softmax of `FoxMath`, so the block it stores is a softmax-weighted sum. -/
module

public import proofs.«01_k».proof.Proof.Gen.FoxIdeal.Value
public import proofs.«01_k».proof.Proof.FoxMath
public import Idealize.ShloMosaic.Lib.Pipeline.ValueKit
public import Idealize.ShloMosaic.Lib.Pointwise
public import Idealize.ShloMosaic.PureOps.Ideal

@[expose] public section

set_option maxRecDepth 16384
noncomputable section
namespace Cert.FoxBody
open Cert.FoxIdeal Cert.FoxIdeal.Gen Idealize.ShloMosaic Idealize.ShloMosaic.TcCoe Idealize.SL.Sem

/-- The scale the scores carry, as the kernel and the reference both spell it. -/
def scale : EReal := Ideal.ofBits FTy.f32 0x3DB504F3#32

/-- The scores of row `r` of a query block against all keys: `p` is the row's position, `h` its head, and keys after
`p` are masked with −∞. -/
def bs (x0 : Vec Ideal S512x128 .f32) (x1 : Vec Ideal S2048x128 .f32) (x3 : Vec Ideal S512x8 .f32) (x4 : Vec Ideal S8x2048 .f32)
    (h : Fin 8) (r : Fin 512) (p j : ℕ) : EReal :=
  if hj : j < 2048 then
    if j ≤ p then (∑ d : Fin 128, x0 (ix2 r d) * x1 (ix2 ⟨j, hj⟩ d)) * scale + (x3 (ix2 r h) - x4 (ix2 h ⟨j, hj⟩)) else ⊥
  else ⊥

/-- Column `d` of the values, by key position. -/
def bv (x2 : Vec Ideal S2048x128 .f32) (d : Fin 128) (j : ℕ) : EReal := if hj : j < 2048 then x2 (ix2 ⟨j, hj⟩ d) else 0

theorem negInf : Ideal.ofBits FTy.f32 4286578688#32 = ⊥ := by
  simp only [Ideal.ofBits, Ideal.ieee]
  rw [if_pos (by decide), if_pos (by decide), if_pos (by decide)]

theorem trips_eq (i : grid0.Coords) : (k0_t1_loop i).trips = (i 2).val + 1 := by
  have h_c0_i32 : Affine.IsInt 0#32 (0) := Affine.ofNat _ (by omega)
  have r_i2 : (i 2).val < 4 := (i 2).isLt
  have h_arg2 : Affine.IsInt (BitVec.ofNat 32 (i 2).val) (((i 2).val : Int)) := Affine.ofNat _ (by omega)
  have h_c1_i32 : Affine.IsInt 1#32 (1) := Affine.ofNat _ (by omega)
  have h_v18 : Affine.IsInt _ (((i 2).val : Int) + 1) := Affine.addi h_arg2 h_c1_i32 (by omega)
  have h_v19 : Affine.IsInt _ (((i 2).val : Int) + 1) := Affine.subi h_v18 h_c0_i32 (by omega)
  have h_c1_i32_7 : Affine.IsInt 1#32 (1) := Affine.ofNat _ (by omega)
  have h_v21 : Affine.IsInt _ (((i 2).val : Int) + 1) := Affine.divsi h_v19 h_c1_i32_7 (by omega)
  have h_v22 : Affine.IsInt _ (((i 2).val : Int) + 1) := Affine.muli h_v21 h_c1_i32_7 (by omega)
  have h_v23 : Affine.IsInt _ (((i 2).val : Int) + 1) := Affine.addi h_c0_i32 h_v22 (by omega)
  have h_c1_i32_8 : Affine.IsInt 1#32 (1) := Affine.ofNat _ (by omega)
  exact Affine.trips_eq h_c0_i32 h_v23 h_c1_i32_8 _ (by omega)

/-- The loop's counter has a closed form as a word. -/
theorem mask_eq (i : grid0.Coords) (k : Fin (k0_t1_loop i).trips) (r x : Fin 512) :
    IntOp.cmpi CmpIPredicate.sge (IntOp.addi (Scalar.muli (BitVec.ofNat 32 (i 2).val) 512#32) (BitVec.ofNat 32 r.val))
        (IntOp.addi (Scalar.muli (Scf.iv 0#32 1#32 k.val) 512#32) (BitVec.ofNat 32 x.val))
      = BitVec.ofBool (decide (512 * k.val + x.val ≤ 512 * (i 2).val + r.val)) := by
  have hk := Nat.lt_of_lt_of_le k.isLt (k0_t1_abs i).2.1
  have h2 : (i 2).val < 4 := (i 2).isLt
  have hr := r.isLt
  have hx := x.isLt
  have e1 : IntOp.addi (Scalar.muli (BitVec.ofNat 32 (i 2).val) 512#32) (BitVec.ofNat 32 r.val) = BitVec.ofNat 32 (512 * (i 2).val + r.val) := by
    apply BitVec.eq_of_toNat_eq
    simp [IntOp.addi, Scalar.muli, IntOp.muli]; omega
  have e2 : IntOp.addi (Scalar.muli (Scf.iv 0#32 1#32 k.val) 512#32) (BitVec.ofNat 32 x.val) = BitVec.ofNat 32 (512 * k.val + x.val) := by
    apply BitVec.eq_of_toNat_eq
    simp [IntOp.addi, Scalar.muli, IntOp.muli, Scf.iv]; omega
  rw [e1, e2, WordCmp.cmpi_sge_ofNat (by omega) (by omega)]

/-- A block's masked scores are the row's scores at the block's keys. -/
theorem pay7_apply (i : grid0.Coords) (v0 : Vec Ideal S512x128 .f32) (v5 : Vec Ideal S512x8 .f32) (k : Fin (k0_t1_loop i).trips) (v33 : Vec Ideal S512x128 .f32) (v40 : Vec Ideal S1x512 .f32)
    (x1 : Vec Ideal S2048x128 .f32) (x4 : Vec Ideal S8x2048 .f32) (h : Fin 8) (hh : h.val = (i 1).val)
    (h33 : ∀ (x : Fin 512) (d : Fin 128) (hj : 512 * k.val + x.val < 2048), v33 (ix2 x d) = x1 (ix2 ⟨512 * k.val + x.val, hj⟩ d))
    (h40 : ∀ (x : Fin 512) (hj : 512 * k.val + x.val < 2048), v40 (ix2 0 x) = x4 (ix2 h ⟨512 * k.val + x.val, hj⟩))
    (r x : Fin 512) :
    k0_pay7 i v0 v5 k v33 v40 (ix2 r x) = bs v0 x1 v5 x4 h r (512 * (i 2).val + r.val) (512 * k.val + x.val) := by
  have hk := Nat.lt_of_lt_of_le k.isLt (k0_t1_abs i).2.1
  have h1 : (i 1).val < 8 := (i 1).isLt
  have hj : 512 * k.val + x.val < 2048 := by have := x.isLt; omega
  have hsum : (∑ y : Fin 8, Scalar.select (IntOp.cmpi CmpIPredicate.eq (BitVec.ofNat 32 y.val) (BitVec.ofNat 32 (i 1).val)) (v5 (ix2 r y)) 0) = v5 (ix2 r h) := by
    rw [Finset.sum_eq_single h]
    · rw [hh]; simp [Scalar.select, IntOp.cmpi]
    · intro y _ hy
      have : y.val ≠ (i 1).val := fun e => hy (Fin.ext (e.trans hh.symm))
      have hy8 := y.isLt
      rw [WordCmp.cmpi_eq_ofNat (by omega) (by omega)]; simp [Scalar.select, this]
    · simp
  pointwise [k0_pay7, k0_pay1, k0_pay2, k0_pay3]
  rw [mask_eq, negInf, hsum, h40 x hj]
  simp only [h33 x _ hj]
  unfold bs
  rw [dif_pos hj]
  by_cases hc : 512 * k.val + x.val ≤ 512 * (i 2).val + r.val
  · simp [hc, Scalar.select, scale]
  · simp [hc, Scalar.select]

theorem pay8_apply (i : grid0.Coords) (v0 : Vec Ideal S512x128 .f32) (v5 : Vec Ideal S512x8 .f32) (k : Fin (k0_t1_loop i).trips) (v33 : Vec Ideal S512x128 .f32) (v40 : Vec Ideal S1x512 .f32) (a : FVec Ideal S512x1 .f32) (r : Fin 512) (z : Fin 1) :
    k0_pay8 i v0 v5 k a v33 v40 (ix2 r z) = max (a (ix2 r z)) (Finset.univ.sup fun x : Fin 512 => k0_pay7 i v0 v5 k v33 v40 (ix2 r x)) := by
  pointwise [k0_pay8]
  rw [negInf]; rfl

theorem pay9_apply (i : grid0.Coords) (v0 : Vec Ideal S512x128 .f32) (v5 : Vec Ideal S512x8 .f32) (k : Fin (k0_t1_loop i).trips) (v33 : Vec Ideal S512x128 .f32) (v40 : Vec Ideal S1x512 .f32) (a : FVec Ideal S512x1 .f32) (r : Fin 512) (z : Fin 1) :
    k0_pay9 i v0 v5 k a v33 v40 (ix2 r z) = Ideal.exp (a (ix2 r z) - k0_pay8 i v0 v5 k a v33 v40 (ix2 r z)) := by
  pointwise [k0_pay9]

theorem pay10_apply (i : grid0.Coords) (v0 : Vec Ideal S512x128 .f32) (v5 : Vec Ideal S512x8 .f32) (k : Fin (k0_t1_loop i).trips) (v33 : Vec Ideal S512x128 .f32) (v40 : Vec Ideal S1x512 .f32) (a : FVec Ideal S512x1 .f32) (r x : Fin 512) :
    k0_pay10 i v0 v5 k a v33 v40 (ix2 r x) = Ideal.exp (k0_pay7 i v0 v5 k v33 v40 (ix2 r x) - k0_pay8 i v0 v5 k a v33 v40 (ix2 r 0)) := by
  pointwise [k0_pay10]

theorem pay11_apply (i : grid0.Coords) (v0 : Vec Ideal S512x128 .f32) (v5 : Vec Ideal S512x8 .f32) (k : Fin (k0_t1_loop i).trips) (v33 : Vec Ideal S512x128 .f32) (v40 : Vec Ideal S1x512 .f32) (a b : FVec Ideal S512x1 .f32) (r : Fin 512) (z : Fin 1) :
    k0_pay11 i v0 v5 k a b v33 v40 (ix2 r z)
      = k0_pay9 i v0 v5 k a v33 v40 (ix2 r z) * b (ix2 r z) + ∑ x : Fin 512, k0_pay10 i v0 v5 k a v33 v40 (ix2 r x) := by
  pointwise [k0_pay11]

theorem pay12_apply (i : grid0.Coords) (v0 : Vec Ideal S512x128 .f32) (v5 : Vec Ideal S512x8 .f32) (k : Fin (k0_t1_loop i).trips) (v33 v36 : Vec Ideal S512x128 .f32) (v40 : Vec Ideal S1x512 .f32) (a : FVec Ideal S512x1 .f32) (b : FVec Ideal S512x128 .f32) (r : Fin 512) (d : Fin 128) :
    k0_pay12 i v0 v5 k a b v33 v36 v40 (ix2 r d)
      = k0_pay9 i v0 v5 k a v33 v40 (ix2 r 0) * b (ix2 r d) + ∑ x : Fin 512, k0_pay10 i v0 v5 k a v33 v40 (ix2 r x) * v36 (ix2 x d) := by
  pointwise [k0_pay12]

theorem pay19_apply (a : FVec Ideal S512x1 .f32) (b : FVec Ideal S512x128 .f32) (r : Fin 512) (d : Fin 128) :
    k0_pay19 a b (ix2 r d) = Ideal.div (b (ix2 r d)) (a (ix2 r 0)) := by
  pointwise [k0_pay19]

/-- A load of 512 rows at a trip's offset reads the rows from `512 k`. -/
theorem load1_apply (i : grid0.Coords) (k : Fin (k0_t1_loop i).trips) (arg : Memref sig .tc .vmem S2048x128 .f32) (harg : arg.IsWhole) (x1 : Vec Ideal S2048x128 .f32) (inb) (x : Fin 512) (d : Fin 128) (hj : 512 * k.val + x.val < 2048) :
    View.readAt (Elt Ideal) arg.view (Rect.unit (s := S2048x128) (k0_off1 i k) S512x128.size inb).toLoadRect (harg.unread x1) (ix2 x d) = x1 (ix2 ⟨512 * k.val + x.val, hj⟩ d) := by
  rw [View.readAt_apply, harg.read_unread]
  congr 1
  funext a
  apply Fin.ext
  have := k0_off1_eq i k
  show (k0_off1 i k) a + 1 * ((ix2 x d) a).val = _
  rw [this]
  match a with
  | ⟨0, _⟩ => simp
  | ⟨1, _⟩ => simp

/-- A load of one row's 512 columns at a trip's offset reads the head's row from column `512 k`. -/
theorem load2_apply (i : grid0.Coords) (k : Fin (k0_t1_loop i).trips) (arg : Memref sig .tc .vmem S8x2048 .f32) (harg : arg.IsWhole) (x4 : Vec Ideal S8x2048 .f32) (inb) (x : Fin 512) (h : Fin 8) (hh : h.val = (i 1).val) (hj : 512 * k.val + x.val < 2048) :
    View.readAt (Elt Ideal) arg.view (Rect.unit (s := S8x2048) (k0_off2 i k) S1x512.size inb).toLoadRect (harg.unread x4) (ix2 0 x) = x4 (ix2 h ⟨512 * k.val + x.val, hj⟩) := by
  rw [View.readAt_apply, harg.read_unread]
  congr 1
  funext a
  apply Fin.ext
  have := k0_off2_eq i k
  show (k0_off2 i k) a + 1 * ((ix2 (0 : Fin 1) x) a).val = _
  rw [this]
  match a with
  | ⟨0, _⟩ => simp [hh]
  | ⟨1, _⟩ => simp

/-- One trip of the loop yields its three payloads over its loads. -/
theorem trip_eq (𝒱 : Variants) (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x8 .f32) (harg6 : arg6.IsWhole) (arg7 : Memref sig .tc .vmem S8x2048 .f32) (harg7 : arg7.IsWhole) (arg8 : Memref sig .tc .vmem S512x128 .bf16) (harg8 : arg8.IsWhole) (bd : Option 𝒱.V) (v0 : Vec Ideal S512x128 .f32) (v5 : Vec Ideal S512x8 .f32) (x1 x2 : Vec Ideal S2048x128 .f32) (x4 : Vec Ideal S8x2048 .f32) (k : Fin (k0_t1_loop i).trips) (acc : FVec Ideal S512x1 .f32 × FVec Ideal S512x1 .f32 × FVec Ideal S512x128 .f32) :
    ∃ (v33 v36 : Vec Ideal S512x128 .f32) (v40 : Vec Ideal S1x512 .f32),
      (∀ (x : Fin 512) (d : Fin 128) (hj : 512 * k.val + x.val < 2048), v33 (ix2 x d) = x1 (ix2 ⟨512 * k.val + x.val, hj⟩ d))
      ∧ (∀ (x : Fin 512) (d : Fin 128) (hj : 512 * k.val + x.val < 2048), v36 (ix2 x d) = x2 (ix2 ⟨512 * k.val + x.val, hj⟩ d))
      ∧ (∀ (h : Fin 8) (hh : h.val = (i 1).val) (x : Fin 512) (hj : 512 * k.val + x.val < 2048), v40 (ix2 0 x) = x4 (ix2 h ⟨512 * k.val + x.val, hj⟩))
      ∧ tripR_k0_t1 𝒱 c bd i arg3 harg3 arg4 harg4 arg5 harg5 arg6 harg6 arg7 harg7 arg8 harg8 v0 v5 (harg4.unread x1) (harg5.unread x2) (harg7.unread x4) k acc
        = (k0_pay8 i v0 v5 k acc.1 v33 v40, k0_pay11 i v0 v5 k acc.1 acc.2.1 v33 v40, k0_pay12 i v0 v5 k acc.1 acc.2.2 v33 v36 v40) :=
  ⟨_, _, _, fun x d hj => load1_apply i k arg4 harg4 x1 (k0_off1_inb i k) x d hj, fun x d hj => load1_apply i k arg5 harg5 x2 (k0_off1_inb i k) x d hj,
    fun h hh x hj => load2_apply i k arg7 harg7 x4 (k0_off2_inb i k) x h hh hj, by unfold tripR_k0_t1 trip_k0_t1; rfl⟩

open Cert.FoxMath in
/-- The loop's state before trip `n`: the maximum, the sum of exponentials and the weighted sum over the first `512 n`
keys. -/
theorem st_eq (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x8 .f32) (harg6 : arg6.IsWhole) (arg7 : Memref sig .tc .vmem S8x2048 .f32) (harg7 : arg7.IsWhole) (arg8 : Memref sig .tc .vmem S512x128 .bf16) (harg8 : arg8.IsWhole) (v0 : Vec Ideal S512x128 .f32) (v5 : Vec Ideal S512x8 .f32) (x1 x2 : Vec Ideal S2048x128 .f32) (x4 : Vec Ideal S8x2048 .f32)
    (h : Fin 8) (hh : h.val = (i 1).val) (r : Fin 512) (s : ℕ → EReal) (hs : s = bs v0 x1 v5 x4 h r (512 * (i 2).val + r.val))
    (hst : ∀ j, s j ≠ ⊤) (hs0 : s 0 ≠ ⊥) (n : ℕ) (hn : n ≤ (k0_t1_loop i).trips) :
    (st_k0_t1 Variants.none c none i arg3 harg3 arg4 harg4 arg5 harg5 arg6 harg6 arg7 harg7 arg8 harg8 v0 v5 (harg4.unread x1) (harg5.unread x2) (harg7.unread x4) (k0_pay4, k0_pay5, k0_pay6) n).1 (ix2 r 0) = mx s (512 * n)
    ∧ (st_k0_t1 Variants.none c none i arg3 harg3 arg4 harg4 arg5 harg5 arg6 harg6 arg7 harg7 arg8 harg8 v0 v5 (harg4.unread x1) (harg5.unread x2) (harg7.unread x4) (k0_pay4, k0_pay5, k0_pay6) n).2.1 (ix2 r 0) = den s (mx s (512 * n)) (512 * n)
    ∧ ∀ d, (st_k0_t1 Variants.none c none i arg3 harg3 arg4 harg4 arg5 harg5 arg6 harg6 arg7 harg7 arg8 harg8 v0 v5 (harg4.unread x1) (harg5.unread x2) (harg7.unread x4) (k0_pay4, k0_pay5, k0_pay6) n).2.2 (ix2 r d) = num s (bv x2 d) (mx s (512 * n)) (512 * n) := by
  induction n with
  | zero =>
    rw [st_k0_t1_zero]
    refine ⟨?_, ?_, fun d => ?_⟩
    · pointwise [k0_pay4]; rw [negInf]; rfl
    · pointwise [k0_pay5]; simp [den]
    · pointwise [k0_pay6]; simp [num]
  | succ n ih =>
    obtain ⟨ih1, ih2, ih3⟩ := ih (by omega)
    have hk := Nat.lt_of_lt_of_le hn (k0_t1_abs i).2.1
    have hstep := st_k0_t1_succ Variants.none c none i arg3 harg3 arg4 harg4 arg5 harg5 arg6 harg6 arg7 harg7 arg8 harg8 v0 v5 (harg4.unread x1) (harg5.unread x2) (harg7.unread x4) (k0_pay4, k0_pay5, k0_pay6) ⟨n, hn⟩
    dsimp only at hstep
    rw [hstep]
    generalize st_k0_t1 Variants.none c none i arg3 harg3 arg4 harg4 arg5 harg5 arg6 harg6 arg7 harg7 arg8 harg8 v0 v5 (harg4.unread x1) (harg5.unread x2) (harg7.unread x4) (k0_pay4, k0_pay5, k0_pay6) n = acc at *
    obtain ⟨v33, v36, v40, h33, h36, h40, e⟩ := trip_eq Variants.none c i arg3 harg3 arg4 harg4 arg5 harg5 arg6 harg6 arg7 harg7 arg8 harg8 none v0 v5 x1 x2 x4 ⟨n, hn⟩ acc
    rw [e]
    have p7 : ∀ x : Fin 512, k0_pay7 i v0 v5 ⟨n, hn⟩ v33 v40 (ix2 r x) = s (512 * n + x.val) := fun x => by
      rw [pay7_apply i v0 v5 ⟨n, hn⟩ v33 v40 x1 x4 h hh h33 (h40 h hh) r x, hs]
    have p8 : k0_pay8 i v0 v5 ⟨n, hn⟩ acc.1 v33 v40 (ix2 r 0) = mx s (512 * (n + 1)) := by
      rw [pay8_apply, ih1, Nat.mul_succ, mx_add]; simp only [p7]
    have p9 : k0_pay9 i v0 v5 ⟨n, hn⟩ acc.1 v33 v40 (ix2 r 0) = Ideal.exp (mx s (512 * n) - mx s (512 * (n + 1))) := by
      rw [pay9_apply, p8, ih1]
    have p10 : ∀ x : Fin 512, k0_pay10 i v0 v5 ⟨n, hn⟩ acc.1 v33 v40 (ix2 r x) = Ideal.exp (s (512 * n + x.val) - mx s (512 * (n + 1))) := fun x => by
      rw [pay10_apply, p8, p7]
    refine ⟨p8, ?_, fun d => ?_⟩
    · show k0_pay11 i v0 v5 ⟨n, hn⟩ acc.1 acc.2.1 v33 v40 (ix2 r 0) = _
      rw [pay11_apply, p9, ih2]
      simp only [p10]
      exact den_add hst hs0 (512 * n) 512
    · show k0_pay12 i v0 v5 ⟨n, hn⟩ acc.1 acc.2.2 v33 v36 v40 (ix2 r d) = _
      rw [pay12_apply, p9, ih3]
      have hv : ∀ x : Fin 512, v36 (ix2 x d) = bv x2 d (512 * n + x.val) := fun x => by
        have hj : 512 * n + x.val < 2048 := by have := x.isLt; omega
        rw [h36 x d hj, bv, dif_pos hj]
      simp only [p10, hv]
      exact num_add (bv x2 d) hst hs0 (512 * n) 512

open Cert.FoxMath in
/-- The block a grid point leaves, at one entry: the weighted sum over the keys up to the end of the row's block,
divided by the sum of exponentials. -/
theorem out_apply (c : Dev nD) (i : grid0.Coords) (arg3 : Memref sig .tc .vmem S512x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S512x8 .f32) (harg6 : arg6.IsWhole) (arg7 : Memref sig .tc .vmem S8x2048 .f32) (harg7 : arg7.IsWhole) (arg8 : Memref sig .tc .vmem S512x128 .bf16) (harg8 : arg8.IsWhole) (x0 : Vec Ideal S512x128 .f32) (x1 x2 : Vec Ideal S2048x128 .f32) (x3 : Vec Ideal S512x8 .f32) (x4 : Vec Ideal S8x2048 .f32)
    (h : Fin 8) (hh : h.val = (i 1).val) (r : Fin 512) (d : Fin 128) (s : ℕ → EReal) (hs : s = bs x0 x1 x3 x4 h r (512 * (i 2).val + r.val))
    (hst : ∀ j, s j ≠ ⊤) (hs0 : s 0 ≠ ⊥) :
    out0_A_5 c i arg3 harg3 arg4 harg4 arg5 harg5 arg6 harg6 arg7 harg7 arg8 harg8 x0 x1 x2 x3 x4 (ix2 r d)
      = Ideal.div (num s (bv x2 d) (mx s (512 * ((i 2).val + 1))) (512 * ((i 2).val + 1))) (den s (mx s (512 * ((i 2).val + 1))) (512 * ((i 2).val + 1))) := by
  have e0 : ∀ inb, View.readAt (Elt Ideal) arg3.view (Rect.unit ![0, 0] S512x128.size inb).toLoadRect (harg3.unread x0) = x0 := fun inb => by
    show View.readAt (Elt Ideal) arg3.view (Rect.toLoadRect _) _ = _
    rw [View.readAt_eq_ld, harg3.read_unread]
    exact View.ld_unit_lit inb x0 (by decide)
  have e3 : ∀ inb, View.readAt (Elt Ideal) arg6.view (Rect.unit ![0, 0] S512x8.size inb).toLoadRect (harg6.unread x3) = x3 := fun inb => by
    rw [View.readAt_eq_ld, harg6.read_unread]
    exact View.ld_unit_lit inb x3 (by decide)
  have ht2 : Scf.trips (k0_t2_loop i).lb (k0_t2_loop i).ub (k0_t2_loop i).st = 0 := Nat.le_zero.mp (k0_t2_abs i).2.1
  have ht1 : Scf.trips (k0_t1_loop i).lb (k0_t1_loop i).ub (k0_t1_loop i).st = (i 2).val + 1 := trips_eq i
  unfold out0_A_5 kernelRun0_A
  rw [View.read_writes_eq_canon _ _ _ (View.cover_of_tiledL _ S512x128.size (by sl_kernel_rfl))]
  rw [View.canon_cons_unit_lit _ _ _ (by decide), pay19_apply, e0, e3, ht1, ht2]
  obtain ⟨-, q2, q3⟩ := st_eq c i arg3 harg3 arg4 harg4 arg5 harg5 arg6 harg6 arg7 harg7 arg8 harg8 x0 x3 x1 x2 x4 h hh r s hs hst hs0 ((i 2).val + 1) (le_of_eq (trips_eq i).symm)
  rw [← q2, ← q3 d]
  rfl

end Cert.FoxBody

end
-- ==== Proof.FoxRef.lean ====
/- The attention reference read entry by entry: a plain softmax over all keys of the masked scores, weighting the
   values. -/
module

public import proofs.«01_k».proof.Proof.Gen.FoxRefIdeal.Read
public import proofs.«01_k».proof.Proof.FoxMath
public import proofs.«01_k».proof.Proof.FoxBody
public import Idealize.ShloMosaic.Lib.Pointwise
public import Idealize.ShloMosaic.PureOps.Ideal

@[expose] public section

set_option maxRecDepth 16384
noncomputable section
namespace Cert.FoxRef
open Cert.FoxRefIdeal Cert.FoxRefIdeal.Gen Cert.FoxRefIdeal.Read Idealize.ShloMosaic Idealize.ShloMosaic.TcCoe Idealize.SL.Sem
open Cert.FoxBody (scale negInf)
open Cert.FoxMath

/-- The array row of position `p` of sequence `b`. -/
def row (b : Fin 4) (p : Fin 2048) : Fin 9216 := ⟨2048 * b.val + p.val, by omega⟩
/-- The array column of lane `d` of head `h`. -/
def col (h : Fin 8) (d : Fin 128) : Fin 1024 := ⟨128 * h.val + d.val, by omega⟩

/-- The masked scores of query position `p` of sequence `b` at head `h`, by key position. -/
def gs (x0 x1 : FVec Ideal S9216x1024 .f32) (x3 : FVec Ideal S9216x8 .f32) (x4 : FVec Ideal S8x9216 .f32) (b : Fin 4) (h : Fin 8) (p : Fin 2048) (j : ℕ) : EReal :=
  if hj : j < 2048 then
    if j ≤ p.val then (∑ d : Fin 128, x0 (ix2 (row b p) (col h d)) * x1 (ix2 (row b ⟨j, hj⟩) (col h d))) * scale
        + (x3 (ix2 (row b p) h) - x4 (ix2 h (row b ⟨j, hj⟩))) else ⊥
  else ⊥

/-- Lane `d` of the values of sequence `b` at head `h`, by key position. -/
def gv (x2 : FVec Ideal S9216x1024 .f32) (b : Fin 4) (h : Fin 8) (d : Fin 128) (j : ℕ) : EReal :=
  if hj : j < 2048 then x2 (ix2 (row b ⟨j, hj⟩) (col h d)) else 0

theorem v1_apply (x0 : FVec Ideal S9216x1024 .f32) (b : Fin 4) (p : Fin 2048) (h : Fin 8) (d : Fin 128) :
    val_main_v1 (F := Ideal) x0 (ix4 b p h d) = x0 (ix2 (row b p) (col h d)) := by
  rw [val_main_v1_apply, val_main_v0_apply]
  congr 1; funext a
  match a with
  | ⟨0, _⟩ => apply Fin.ext; show ((((b.val * 2048 + p.val) * 8 + h.val) * 128 + d.val) / 1024) = 2048 * b.val + p.val; omega
  | ⟨1, _⟩ => apply Fin.ext; show ((((b.val * 2048 + p.val) * 8 + h.val) * 128 + d.val) % 1024) = 128 * h.val + d.val; omega

theorem v3_apply (x0 : FVec Ideal S9216x1024 .f32) (b : Fin 4) (p : Fin 2048) (h : Fin 8) (d : Fin 128) :
    val_main_v3 (F := Ideal) x0 (ix4 b p h d) = x0 (ix2 (row b p) (col h d)) := by
  rw [val_main_v3_apply, val_main_v2_apply]
  congr 1; funext a
  match a with
  | ⟨0, _⟩ => apply Fin.ext; show ((((b.val * 2048 + p.val) * 8 + h.val) * 128 + d.val) / 1024) = 2048 * b.val + p.val; omega
  | ⟨1, _⟩ => apply Fin.ext; show ((((b.val * 2048 + p.val) * 8 + h.val) * 128 + d.val) % 1024) = 128 * h.val + d.val; omega

theorem v5_apply (x0 : FVec Ideal S9216x1024 .f32) (b : Fin 4) (p : Fin 2048) (h : Fin 8) (d : Fin 128) :
    val_main_v5 (F := Ideal) x0 (ix4 b p h d) = x0 (ix2 (row b p) (col h d)) := by
  rw [val_main_v5_apply, val_main_v4_apply]
  congr 1; funext a
  match a with
  | ⟨0, _⟩ => apply Fin.ext; show ((((b.val * 2048 + p.val) * 8 + h.val) * 128 + d.val) / 1024) = 2048 * b.val + p.val; omega
  | ⟨1, _⟩ => apply Fin.ext; show ((((b.val * 2048 + p.val) * 8 + h.val) * 128 + d.val) % 1024) = 128 * h.val + d.val; omega

theorem v7_apply (x3 : FVec Ideal S9216x8 .f32) (b : Fin 4) (p : Fin 2048) (h : Fin 8) :
    val_main_v7 (F := Ideal) x3 (ix3 b p h) = x3 (ix2 (row b p) h) := by
  rw [val_main_v7_apply, val_main_v6_apply]
  congr 1; funext a
  match a with
  | ⟨0, _⟩ => apply Fin.ext; show ((b.val * 2048 + p.val) * 8 + h.val) / 8 = 2048 * b.val + p.val; omega
  | ⟨1, _⟩ => apply Fin.ext; show ((b.val * 2048 + p.val) * 8 + h.val) % 8 = h.val; omega

theorem v10_apply (x4 : FVec Ideal S8x9216 .f32) (b : Fin 4) (p : Fin 2048) (h : Fin 8) :
    val_main_v10 (F := Ideal) x4 (ix3 b p h) = x4 (ix2 h (row b p)) := by
  rw [val_main_v10_apply, val_main_v9_apply, val_main_v8_apply]
  congr 1; funext a
  match a with
  | ⟨0, _⟩ => apply Fin.ext; show ((b.val * 2048 + p.val) * 8 + h.val) % 8 = h.val; omega
  | ⟨1, _⟩ => apply Fin.ext; show ((b.val * 2048 + p.val) * 8 + h.val) / 8 = 2048 * b.val + p.val; omega

variable (x0 x1 x2 : FVec Ideal S9216x1024 .f32) (x3 : FVec Ideal S9216x8 .f32) (x4 : FVec Ideal S8x9216 .f32)

theorem v12_apply (b : Fin 4) (h : Fin 8) (p k : Fin 2048) :
    val_main_v12 (F := Ideal) x0 x1 (ix4 b h p k) = ∑ d : Fin 128, x0 (ix2 (row b p) (col h d)) * x1 (ix2 (row b k) (col h d)) := by
  rw [val_main_v12_apply]
  refine Finset.sum_congr rfl fun d _ => ?_
  have e1 : lidx_main_v12 (ix4 b h p k) d = ix4 b p h d := by funext a; match a with | ⟨0, _⟩ => rfl | ⟨1, _⟩ => rfl | ⟨2, _⟩ => rfl | ⟨3, _⟩ => rfl
  have e2 : ridx_main_v12 (ix4 b h p k) d = ix4 b k h d := by funext a; match a with | ⟨0, _⟩ => rfl | ⟨1, _⟩ => rfl | ⟨2, _⟩ => rfl | ⟨3, _⟩ => rfl
  rw [e1, e2, v1_apply, v3_apply]

theorem v17_apply (b : Fin 4) (h : Fin 8) (p k : Fin 2048) :
    val_main_v17 (F := Ideal) x3 (ix4 b h p k) = x3 (ix2 (row b p) h) := by
  rw [val_main_v17_apply, val_main_v16_apply, val_main_v15_apply]
  refine Eq.trans ?_ (v7_apply x3 b p h)
  congr 1; funext a; match a with | ⟨0, _⟩ => rfl | ⟨1, _⟩ => rfl | ⟨2, _⟩ => rfl

theorem v21_apply (b : Fin 4) (h : Fin 8) (p k : Fin 2048) :
    val_main_v21 (F := Ideal) x4 (ix4 b h p k) = x4 (ix2 h (row b k)) := by
  rw [val_main_v21_apply, val_main_v20_apply, val_main_v19_apply]
  refine Eq.trans ?_ (v10_apply x4 b k h)
  congr 1; funext a; match a with | ⟨0, _⟩ => rfl | ⟨1, _⟩ => rfl | ⟨2, _⟩ => rfl

theorem v28_apply (b : Fin 4) (h : Fin 8) (p k : Fin 2048) :
    val_main_v28 (F := Ideal) x0 x1 x3 x4 (ix4 b h p k) = gs x0 x1 x3 x4 b h p k.val := by
  pointwise [val_main_v28, val_main_v22, val_main_v18, val_main_v14, val_main_v13, val_main_cst, val_main_v27, val_main_v26, val_main_v25, val_main_v24, val_main_v23, val_main_v11, val_main_call0_v1, val_main_call0_v2, val_main_call0_v0, val_main_cst_0]
  change Scalar.select _ _ (Ideal.ofBits FTy.f32 4286578688#32) = _
  rw [v12_apply, v17_apply, v21_apply, WordCmp.cmpi_sge_ofNat (by omega) (by omega), negInf, gs, dif_pos k.isLt]
  by_cases hc : k.val ≤ p.val
  · simp [hc, Scalar.select, scale, sub_eq_add_neg, add_assoc]
  · simp [hc, Scalar.select]

theorem max_apply (y : FVec Ideal S4x8x2048x2048 .f32) (b : Fin 4) (h : Fin 8) (p : Fin 2048) :
    Host.reduce FloatOps.maximumf y (val_main_cst_1 (F := Ideal)) reducesTo_S4x8x2048x2048_S4x8x2048_d3 h_S_ (ix3 b h p)
      = Finset.univ.fold max (Ideal.ofBits FTy.f32 4286578688#32) fun x : Fin 2048 => y (ix4 b h p x) := by
  rw [Host.reduce_eq_fold, Shape.ReducesTo.fold_fiber_r4_a3]
  rfl

theorem v31_apply (b : Fin 4) (h : Fin 8) (p : Fin 2048) :
    val_main_v31 (F := Ideal) x0 x1 x3 x4 (ix3 b h p) = mx (gs x0 x1 x3 x4 b h p) 2048 := by
  have e : val_main_v29 (F := Ideal) x0 x1 x3 x4 (ix3 b h p) = mx (gs x0 x1 x3 x4 b h p) 2048 := by
    unfold val_main_v29
    rw [max_apply]
    simp only [v28_apply, negInf]
    have := mx_add (s := gs x0 x1 x3 x4 b h p) 0 2048
    simp only [Nat.zero_add] at this
    rw [this]
    exact (max_eq_right bot_le).symm
  rw [val_main_v31_apply, e, val_main_v30_apply, val_main_cst_2_apply]
  show max (Ideal.ofBits FTy.f32 4286578688#32) _ = _
  rw [negInf]
  exact max_eq_right bot_le

theorem v35_apply (b : Fin 4) (h : Fin 8) (p k : Fin 2048) :
    val_main_v35 (F := Ideal) x0 x1 x3 x4 (ix4 b h p k) = Ideal.exp (gs x0 x1 x3 x4 b h p k.val - mx (gs x0 x1 x3 x4 b h p) 2048) := by
  pointwise [val_main_v35, val_main_v34, val_main_v33, val_main_v32]
  rw [v28_apply, v31_apply]

theorem v36_apply (b : Fin 4) (h : Fin 8) (p : Fin 2048) :
    val_main_v36 (F := Ideal) x0 x1 x3 x4 (ix3 b h p) = den (gs x0 x1 x3 x4 b h p) (mx (gs x0 x1 x3 x4 b h p) 2048) 2048 := by
  have e : ∀ y : FVec Ideal S4x8x2048x2048 .f32, Host.reduceAdd y (val_main_cst_3 (F := Ideal)) reducesTo_S4x8x2048x2048_S4x8x2048_d3 h_S_ (ix3 b h p) = ∑ x : Fin 2048, y (ix4 b h p x) := fun y => by
    pointwise [val_main_cst_3]
  unfold val_main_v36
  rw [e, den, Finset.sum_range]
  simp only [v35_apply]

theorem v39_apply (b : Fin 4) (h : Fin 8) (p k : Fin 2048) :
    val_main_v39 (F := Ideal) x0 x1 x3 x4 (ix4 b h p k) = Ideal.div (Ideal.exp (gs x0 x1 x3 x4 b h p k.val - mx (gs x0 x1 x3 x4 b h p) 2048)) (den (gs x0 x1 x3 x4 b h p) (mx (gs x0 x1 x3 x4 b h p) 2048) 2048) := by
  pointwise [val_main_v39, val_main_v38, val_main_v37]
  rw [v35_apply, v36_apply]

theorem v43_apply (b : Fin 4) (h : Fin 8) (p : Fin 2048) (d : Fin 128) (i : S8192x1024.Idx) (hi0 : (i 0).val = 2048 * b.val + p.val) (hi1 : (i 1).val = 128 * h.val + d.val) :
    val_main_v43 (F := Ideal) x0 x1 x2 x3 x4 i
      = ∑ j ∈ Finset.range 2048, gv x2 b h d j * Ideal.div (Ideal.exp (gs x0 x1 x3 x4 b h p j - mx (gs x0 x1 x3 x4 b h p) 2048)) (den (gs x0 x1 x3 x4 b h p) (mx (gs x0 x1 x3 x4 b h p) 2048) 2048) := by
  rw [val_main_v43_apply, val_main_v42_apply]
  have e : idx_main_v42 i = ix4 b p h d := by
    funext a
    match a with
    | ⟨0, _⟩ => apply Fin.ext; show ((i 0).val * 1024 + (i 1).val) / 2097152 = b.val; omega
    | ⟨1, _⟩ => apply Fin.ext; show ((i 0).val * 1024 + (i 1).val) / 1024 % 2048 = p.val; omega
    | ⟨2, _⟩ => apply Fin.ext; show ((i 0).val * 1024 + (i 1).val) / 128 % 8 = h.val; omega
    | ⟨3, _⟩ => apply Fin.ext; show ((i 0).val * 1024 + (i 1).val) % 128 = d.val; omega
  rw [e]
  show val_main_v41 (F := Ideal) x0 x1 x2 x3 x4 (ix4 b p h d) = _
  rw [Finset.sum_range, val_main_v41_apply, val_main_v40_apply]
  refine Finset.sum_congr rfl fun k _ => ?_
  have e1 : lidx_main_v40 (idx_main_v41 (ix4 b p h d)) k = ix4 b k h d := by funext a; match a with | ⟨0, _⟩ => rfl | ⟨1, _⟩ => rfl | ⟨2, _⟩ => rfl | ⟨3, _⟩ => rfl
  have e2 : ridx_main_v40 (idx_main_v41 (ix4 b p h d)) k = ix4 b h p k := by funext a; match a with | ⟨0, _⟩ => rfl | ⟨1, _⟩ => rfl | ⟨2, _⟩ => rfl | ⟨3, _⟩ => rfl
  rw [e1, e2, v5_apply, v39_apply, gv, dif_pos k.isLt]

end Cert.FoxRef

end
-- ==== Proof.FoxValue.lean ====
/- The attention call's whole result: each grid point's block read in place, against the reference. -/
module

public import proofs.«01_k».proof.Proof.FoxRef
public import Idealize.ShloMosaic.Lib.Claim

@[expose] public section

set_option maxRecDepth 16384
noncomputable section
namespace Cert.FoxValue
open Cert.FoxIdeal Cert.FoxIdeal.Gen Idealize.ShloMosaic Idealize.ShloMosaic.TcCoe Idealize.SL.Sem
open Cert.FoxBody Cert.FoxMath Cert.FoxRef

variable (m : (ℓ : Loc nD τ sig) → Buf (Elt Ideal) ℓ)

/-- The windows' block indices at each point, and the point's coordinates. -/
theorem idx : ∀ t : Fin cfg0.N, win0_0.index t = ![t.val / 32 * 4 + t.val % 4, t.val / 4 % 8] ∧ win0_1.index t = ![t.val / 32, t.val / 4 % 8]
      ∧ win0_2.index t = ![t.val / 32, t.val / 4 % 8] ∧ win0_3.index t = ![t.val / 32 * 4 + t.val % 4, 0] ∧ win0_4.index t = ![0, t.val / 32]
      ∧ win0_5.index t = ![t.val / 32 * 4 + t.val % 4, t.val / 4 % 8]
      ∧ (grid0.coords t 1).val = t.val / 4 % 8 ∧ (grid0.coords t 2).val = t.val % 4 :=
  (by decide +kernel : ∀ t : Fin grid0.N, _)

theorem N_eq : cfg0.N = 128 := by decide +kernel

theorem x0_apply (c : Dev nD) (t : Fin cfg0.N) (b : Fin 4) (h : Fin 8) (p : Fin 2048) (r : Fin 512) (d : Fin 128)
    (hb : t.val / 32 = b.val) (hh : t.val / 4 % 8 = h.val) (hp : 512 * (t.val % 4) + r.val = p.val) :
    iblk m c 0 t (ix2 r d) = m ((c : Thread nD τ).loc main_arg0) (ix2 (row b p) (col h d)) := by
  blk_ext [iblk, V, idx t, row, col]

theorem x1_apply (c : Dev nD) (t : Fin cfg0.N) (b : Fin 4) (h : Fin 8) (j : Fin 2048) (d : Fin 128)
    (hb : t.val / 32 = b.val) (hh : t.val / 4 % 8 = h.val) :
    X0_1 m c t (ix2 j d) = m ((c : Thread nD τ).loc main_arg1) (ix2 (row b j) (col h d)) := by
  unfold X0_1 Pipeline.Window.fill
  rw [dif_pos (moved0_1 t _)]
  blk_ext [iblk, V, idx t, row, col]

theorem x2_apply (c : Dev nD) (t : Fin cfg0.N) (b : Fin 4) (h : Fin 8) (j : Fin 2048) (d : Fin 128)
    (hb : t.val / 32 = b.val) (hh : t.val / 4 % 8 = h.val) :
    X0_2 m c t (ix2 j d) = m ((c : Thread nD τ).loc main_arg2) (ix2 (row b j) (col h d)) := by
  unfold X0_2 Pipeline.Window.fill
  rw [dif_pos (moved0_2 t _)]
  blk_ext [iblk, V, idx t, row, col]

theorem x3_apply (c : Dev nD) (t : Fin cfg0.N) (b : Fin 4) (h : Fin 8) (p : Fin 2048) (r : Fin 512)
    (hb : t.val / 32 = b.val) (hp : 512 * (t.val % 4) + r.val = p.val) :
    iblk m c 3 t (ix2 r h) = m ((c : Thread nD τ).loc main_arg3) (ix2 (row b p) h) := by
  blk_ext [iblk, V, idx t, row, col]

theorem x4_apply (c : Dev nD) (t : Fin cfg0.N) (b : Fin 4) (h : Fin 8) (j : Fin 2048)
    (hb : t.val / 32 = b.val) :
    X0_4 m c t (ix2 h j) = m ((c : Thread nD τ).loc main_arg4) (ix2 h (row b j)) := by
  unfold X0_4 Pipeline.Window.fill
  rw [dif_pos (moved0_4 t _)]
  blk_ext [iblk, V, idx t, row, col]

/-- The scores a grid point's row uses are the array's scores of the row's position. -/
theorem bs_eq (c : Dev nD) (t : Fin cfg0.N) (b : Fin 4) (h : Fin 8) (p : Fin 2048) (r : Fin 512)
    (hb : t.val / 32 = b.val) (hh : t.val / 4 % 8 = h.val) (hp : 512 * (t.val % 4) + r.val = p.val) :
    bs (iblk m c 0 t) (X0_1 m c t) (iblk m c 3 t) (X0_4 m c t) h r p.val
      = gs (m ((c : Thread nD τ).loc main_arg0)) (m ((c : Thread nD τ).loc main_arg1)) (m ((c : Thread nD τ).loc main_arg3)) (m ((c : Thread nD τ).loc main_arg4)) b h p := by
  funext j
  unfold bs gs
  split
  · split
    · simp only [x0_apply m c t b h p r _ hb hh hp, x1_apply m c t b h _ _ hb hh, x3_apply m c t b h p r hb hp, x4_apply m c t b h _ hb]
    · rfl
  · rfl

theorem bv_eq (c : Dev nD) (t : Fin cfg0.N) (b : Fin 4) (h : Fin 8) (d : Fin 128) (hb : t.val / 32 = b.val) (hh : t.val / 4 % 8 = h.val) :
    bv (X0_2 m c t) d = gv (m ((c : Thread nD τ).loc main_arg2)) b h d := by
  funext j
  unfold bv gv
  split
  · exact x2_apply m c t b h _ d hb hh
  · rfl

/-- With finite scores, the array the call leaves is the reference's softmax-weighted sum, entry by entry. -/
theorem final_eq (c : Dev nD) (x0 x1 x2 : FVec Ideal S9216x1024 .f32) (x3 : FVec Ideal S9216x8 .f32) (x4 : FVec Ideal S8x9216 .f32)
    (h0 : m ((c : Thread nD τ).loc main_arg0) = x0) (h1 : m ((c : Thread nD τ).loc main_arg1) = x1) (h2 : m ((c : Thread nD τ).loc main_arg2) = x2)
    (h3 : m ((c : Thread nD τ).loc main_arg3) = x3) (h4 : m ((c : Thread nD τ).loc main_arg4) = x4)
    (hst : ∀ b h p j, gs x0 x1 x3 x4 b h p j ≠ ⊤) (hs0 : ∀ b h p, gs x0 x1 x3 x4 b h p 0 ≠ ⊥) :
    (dats m 0 c).arrAt 5 cfg0.N = Cert.FoxRefIdeal.Read.val_main_v43 (F := Ideal) x0 x1 x2 x3 x4 := by
  refine (dats m 0 c).arrAt_eq_of_covers 5 _ (by decide +kernel) fun t _ y => ?_
  have ht : t.val < 128 := Nat.lt_of_lt_of_eq t.isLt N_eq
  obtain ⟨-, -, -, -, -, i5, c1, c2⟩ := idx t
  have hr : (y 0).val < 512 := (y 0).isLt
  have hd : (y 1).val < 128 := (y 1).isLt
  let b : Fin 4 := ⟨t.val / 32, by omega⟩
  let h : Fin 8 := ⟨t.val / 4 % 8, by omega⟩
  let r : Fin 512 := ⟨(y 0).val, hr⟩
  let d : Fin 128 := ⟨(y 1).val, hd⟩
  let p : Fin 2048 := ⟨512 * (t.val % 4) + (y 0).val, by omega⟩
  have hy : y = ix2 r d := by funext a; match a with | ⟨0, _⟩ => rfl | ⟨1, _⟩ => rfl
  blk_simp
  have hp : 512 * (t.val % 4) + r.val = p.val := rfl
  have e := v43_apply x0 x1 x2 x3 x4 b h p d ((win0_5.blk t).view.emb y)
    (by blk_simp [i5]; show (t.val / 32 * 4 + t.val % 4) * 512 + (y 0).val = 2048 * (t.val / 32) + (512 * (t.val % 4) + (y 0).val); omega)
    (by blk_simp [i5]; show t.val / 4 % 8 * 128 + (y 1).val = 128 * (t.val / 4 % 8) + (y 1).val; omega)
  have hbs := bs_eq m c t b h p r rfl rfl hp
  have hbv := bv_eq m c t b h d rfl rfl
  rw [h0, h1, h3, h4] at hbs
  rw [h2] at hbv
  have o := out_apply c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (X0_1 m c t) (X0_2 m c t) (iblk m c 3 t) (X0_4 m c t) h c1.symm r d (gs x0 x1 x3 x4 b h p) (by rw [c2, hp]; exact hbs.symm) (hst b h p) (hs0 b h p)
  rw [e, after0_5]
  refine (congrArg (outsAt0 m c t) hy).trans ?_
  unfold outsAt0
  refine o.trans ?_
  have hle : 512 * ((grid0.coords t 2).val + 1) ≤ 2048 := by rw [c2]; omega
  have hbot : ∀ j, 512 * ((grid0.coords t 2).val + 1) ≤ j → gs x0 x1 x3 x4 b h p j = ⊥ := fun j hj => by
    unfold gs
    split
    · rw [if_neg (by rw [c2] at hj; have := r.isLt; omega)]
    · rfl
  rw [hbv, ← mx_extend hle hbot, ← den_extend _ hle hbot, ← num_extend _ _ hle hbot, div_num _ (hst b h p) (hs0 b h p) (by omega)]

end Cert.FoxValue

end
-- ==== Proof.FoxClaim.lean ====
/- The attention's value claim: the precondition makes every score finite, and with finite scores the kernel's blocked
   softmax is the reference's plain one. -/
module

public import proofs.«01_k».proof.Defs
public import proofs.«01_k».proof.Proof.Gen.Pre_finite_scores
public import proofs.«01_k».proof.Proof.FoxValue
public import Idealize.ShloMosaic.Lib.ReduceAll

@[expose] public section

set_option maxRecDepth 16384
noncomputable section
namespace Cert.FoxClaim
open Idealize.ShloMosaic Idealize.ShloMosaic.TcCoe Idealize.SL.Sem
open Cert.FoxBody (scale)
open Cert.FoxRef

theorem ofBool_eq_one {b : Bool} (h : BitVec.ofBool b = 1#1) : b = true := by cases b <;> simp_all

/-- A number whose absolute value compares below the word of +∞ is a real. -/
theorem real_of_abs_lt {x : EReal} (h : Ideal.cmp .olt (max x (-x)) (Ideal.ofBits FTy.f32 0x7F800000#32) = 1#1) :
    ∃ r : ℝ, x = (r : EReal) := by
  have ht : Ideal.ofBits FTy.f32 0x7F800000#32 = ⊤ := by
    simp only [Ideal.ofBits, Ideal.ieee]
    rw [if_pos (by decide), if_pos (by decide), if_neg (by decide)]
  rw [ht] at h
  have h' : max x (-x) < ⊤ := of_decide_eq_true (ofBool_eq_one h)
  induction x with
  | bot => simp at h'
  | top => simp at h'
  | coe r => exact ⟨r, rfl⟩

/-- The scale of the scores is a real. -/
theorem scale_real : ∃ r : ℝ, scale = (r : EReal) := by
  unfold scale
  simp only [Ideal.ofBits, Ideal.ieee]
  rw [if_neg (by decide), if_neg (by decide)]
  exact ⟨_, rfl⟩

/-- An array all of whose absolute values compare below +∞ has real entries. -/
theorem real_of_all {s S : Shape} {axes : List (Fin s.rank)} {dims : Fin S.rank → Fin s.rank} [Subsingleton S.Idx] (x : FVec Ideal s .f32) (hb : S.BroadcastsInDim s dims)
    (init : S.Idx → BitVec 1) (h : s.ReducesTo axes S) (hu : 0 < S.numel) (j : S.Idx)
    (e : Host.reduce IntOp.andi (cmpf .olt (Host.absf x) (broadcastInDim s dims hb (constant (F := Ideal) S .f32 0x7F800000#32))) init h hu j = 1#1) (i : s.Idx) :
    ∃ r : ℝ, x i = (r : EReal) :=
  real_of_abs_lt (Host.reduce_andi_all _ init h hu j e i)

instance : Subsingleton Cert.Pre_finite_scores.S_.Idx := ⟨fun a b => funext fun i => i.elim0⟩

open Cert.Pre_finite_scores in
/-- What the precondition says: queries, keys and both gate tables have real entries. -/
theorem reals (x0 x1 x2 : FVec Ideal S9216x1024 .f32) (x3 : FVec Ideal S9216x8 .f32) (x4 : FVec Ideal S8x9216 .f32)
    (h : Cert.Pre_finite_scores.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x3 i = (r : EReal)) ∧ (∀ i, ∃ r : ℝ, x4 i = (r : EReal)) := by
  have e := congrFun h (fun a => a.elim0)
  unfold Cert.Pre_finite_scores.fn Cert.Pre_finite_scores.fn_part1 at e
  dsimp only at e
  obtain ⟨e, e4⟩ := IntOp.andi_eq_one.1 e
  obtain ⟨e, e3⟩ := IntOp.andi_eq_one.1 e
  obtain ⟨e0, e1⟩ := IntOp.andi_eq_one.1 e
  exact ⟨real_of_all x0 _ _ _ _ _ e0, real_of_all x1 _ _ _ _ _ e1, real_of_all x3 _ _ _ _ _ e3, real_of_all x4 _ _ _ _ _ e4⟩

open Cert.FoxRefIdeal in
/-- With real inputs an unmasked score is a real. -/
theorem gs_real (x0 x1 : FVec Ideal S9216x1024 .f32) (x3 : FVec Ideal S9216x8 .f32) (x4 : FVec Ideal S8x9216 .f32)
    (h0 : ∀ i, ∃ r : ℝ, x0 i = (r : EReal)) (h1 : ∀ i, ∃ r : ℝ, x1 i = (r : EReal)) (h3 : ∀ i, ∃ r : ℝ, x3 i = (r : EReal)) (h4 : ∀ i, ∃ r : ℝ, x4 i = (r : EReal))
    (b : Fin 4) (h : Fin 8) (p : Fin 2048) (j : ℕ) :
    gs x0 x1 x3 x4 b h p j = ⊥ ∨ ∃ r : ℝ, gs x0 x1 x3 x4 b h p j = (r : EReal) := by
  choose f0 h0 using h0
  choose f1 h1 using h1
  choose f3 h3 using h3
  choose f4 h4 using h4
  obtain ⟨k, hk⟩ := scale_real
  unfold gs
  split
  · split
    · right
      refine ⟨(∑ d : Fin 128, f0 (ix2 (row b p) (col h d)) * f1 (ix2 (row b ⟨j, ‹_›⟩) (col h d))) * k + (f3 (ix2 (row b p) h) - f4 (ix2 h (row b ⟨j, ‹_›⟩))), ?_⟩
      simp only [h0, h1, h3, h4, hk]
      push_cast
      rfl
    · left; rfl
  · left; rfl

open Cert.FoxRefIdeal in
theorem gs_zero_ne_bot (x0 x1 : FVec Ideal S9216x1024 .f32) (x3 : FVec Ideal S9216x8 .f32) (x4 : FVec Ideal S8x9216 .f32)
    (h0 : ∀ i, ∃ r : ℝ, x0 i = (r : EReal)) (h1 : ∀ i, ∃ r : ℝ, x1 i = (r : EReal)) (h3 : ∀ i, ∃ r : ℝ, x3 i = (r : EReal)) (h4 : ∀ i, ∃ r : ℝ, x4 i = (r : EReal))
    (b : Fin 4) (h : Fin 8) (p : Fin 2048) : gs x0 x1 x3 x4 b h p 0 ≠ ⊥ := by
  choose f0 h0 using h0
  choose f1 h1 using h1
  choose f3 h3 using h3
  choose f4 h4 using h4
  obtain ⟨k, hk⟩ := scale_real
  unfold gs
  rw [dif_pos (by omega), if_pos (by omega)]
  have : (∑ d : Fin 128, x0 (ix2 (row b p) (col h d)) * x1 (ix2 (row b ⟨0, by omega⟩) (col h d))) * scale + (x3 (ix2 (row b p) h) - x4 (ix2 h (row b ⟨0, by omega⟩)))
      = (((∑ d : Fin 128, f0 (ix2 (row b p) (col h d)) * f1 (ix2 (row b ⟨0, by omega⟩) (col h d))) * k + (f3 (ix2 (row b p) h) - f4 (ix2 h (row b ⟨0, by omega⟩))) : ℝ) : EReal) := by
    simp only [h0, h1, h3, h4, hk]
    push_cast
    rfl
  rw [this]
  exact EReal.coe_ne_bot _

attribute [local instance] Cert.FoxIdeal.Gen.facts Cert.FoxRefIdeal.Gen.facts Cert.Pre_finite_scores.Gen.facts

/-- The blocked attention and the plain one end with equal arrays. -/
theorem algebraic : Cert.algebraic_FoxIdeal_FoxRefIdeal_pre_finite_scores := by
  intro m g m' g' hpre hag
  refine ⟨fun c => Cert.FoxRefIdeal.Value.res_main_v43 m' c, ?_, Cert.FoxRefIdeal.Value.run m' g'⟩
  refine (θ_run _ _ _).mono ?_ (Cert.FoxIdeal.Value.run_blocks m g)
  intro r hr c
  obtain ⟨hv, ha⟩ := hr c
  obtain ⟨a0, a1, a2, a3, a4⟩ := hag c
  obtain ⟨r0, r1, r3, r4⟩ := reals _ _ _ _ _ (hpre c)
  refine ⟨hv.trans ?_, ha⟩
  refine Eq.trans ?_ (Cert.FoxRefIdeal.Read.val_main_v43_eq m' c).symm
  refine Cert.FoxValue.final_eq m c _ _ _ _ _ a0.symm a1.symm a2.symm a3.symm a4.symm ?_ ?_
  · intro b h p j
    rw [a0, a1, a3, a4]
    rcases gs_real _ _ _ _ r0 r1 r3 r4 b h p j with e | ⟨r, e⟩ <;> rw [e]
    · exact bot_ne_top
    · exact EReal.coe_ne_top _
  · intro b h p
    rw [a0, a1, a3, a4]
    exact gs_zero_ne_bot _ _ _ _ r0 r1 r3 r4 b h p

end Cert.FoxClaim
end
-- ==== Proof.ExpertsIdealFrame.lean ====
/- The experts call over the extended reals.
   The frame of the experts call for EVERY pair of prefetched tables whose expert numbers are in range: the generated
   per-path runs name no table, so the generated certificate's argument goes through with the tables left free. The
   paths: a valid tile's first column block stores, its later ones add, its last one also scales by the gates; an
   invalid tile's first point stores zeros and its others touch nothing. -/
module

public import proofs.«01_k».proof.Proof.Gen.ExpertsIdeal.Flash.Runs
public import proofs.«01_k».proof.Proof.Gen.ExpertsIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.AnyTables

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

/-- The prefetched tables the certificate runs at: any pair whose blocks lie inside the weight arrays. -/
abbrev Tab := (pcfg0 (F := Ideal)).Adm

variable (ch : Tab)

abbrev adm : (pcfg0 (F := Ideal)).Adm := ch
/-- The expert of each tile. -/
abbrev pinT_0 : S52.Idx → BitVec 32 := ch.1 0
/-- The number of valid tiles. -/
abbrev pinT_1 : S1.Idx → BitVec 32 := ch.1 1
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-- The launch memory holds these tables. -/
def Pinned (m : (ℓ : Loc nD τ sig) → Buf (Elt Ideal) ℓ) : Prop :=
  (∀ c : Dev nD, m ((c : Thread nD τ).loc main_arg1) = pinT_0 ch)
  ∧ (∀ c : Dev nD, m ((c : Thread nD τ).loc main_arg2) = pinT_1 ch)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x2048 .bf16 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1x1x2048x256 .f32 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x1x2048x256 .f32 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x1x256x2048 .f32 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S512x1 .f32 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S512x2048 .f32 := spec0_5.stage ((cfgA ch).slots t (5 : Fin 6))
abbrev hs0_5 (t : Fin (cfgA ch).N) : (ms0_5 ch t).IsWhole := hstage0_5 (((cfgA ch).slots t (5 : Fin 6)).cast nbuf0_5)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

/-! ## The decisions, from the grid point and the number of valid tiles -/

/-- The number of valid tiles, as the body reads it. -/
abbrev nv : BitVec 32 := (View.readAt (Elt Ideal) (tbM0_1).view (Rect.unit (s := S1) ![0] S1.size inb_S1_S1_0).toLoadRect (pinT_1 ch) (Shape.Idx.first (numel1_S1.symm ▸ Nat.one_pos)))

abbrev P0_0 (t : Fin (cfgA ch).N) : Prop := k0_cond1 (crd ch t) (nv ch) = 1#1
abbrev P0_1 (t : Fin (cfgA ch).N) : Prop := k0_cond2 (crd ch t) = 1#1
abbrev P0_2 (t : Fin (cfgA ch).N) : Prop := k0_cond4 (crd ch t) = 1#1
abbrev P0_3 (t : Fin (cfgA ch).N) : Prop := k0_cond5 (crd ch t) (nv ch) = 1#1

theorem atD_eq : (adm ch).1.atD 1 ![0] = nv ch := by
  refine (dif_pos (by decide)).trans (congrArg (ch.1 1) (funext fun a => ?_))
  match a with
  | ⟨0, _⟩ => exact Fin.ext rfl

theorem cond5_iff (i : grid0.Coords) (v : BitVec 32) : k0_cond5 i v = 1#1 ↔ (¬ k0_cond1 i v = 1#1) ∧ k0_cond2 i = 1#1 := by
  unfold k0_cond5 k0_cond1 k0_cond2
  dsimp only
  generalize Scalar.cmpi .slt (BitVec.ofNat 32 (i 0).val) v = b
  generalize Scalar.cmpi .eq (BitVec.ofNat 32 (i 1).val) 0#32 = d
  revert b d
  decide

theorem cond3_iff : ∀ i : grid0.Coords, k0_cond3 i = 1#1 ↔ ¬ k0_cond2 i = 1#1 := by decide +kernel
theorem cond2_not4 : ∀ i : grid0.Coords, k0_cond2 i = 1#1 → ¬ k0_cond4 i = 1#1 := by decide +kernel
theorem cond2_at : ∀ t : Fin grid0.N, k0_cond2 (grid0.coords t) = 1#1 ↔ t.val % 4 = 0 := by decide +kernel
theorem cond4_at : ∀ t : Fin grid0.N, k0_cond4 (grid0.coords t) = 1#1 ↔ t.val % 4 = 3 := by decide +kernel

/-- The output block is written back after a tile's last column block. -/
theorem flush5 (t : Fin (cfgA ch).N) : ((cfgA ch).win (5 : Fin 6)).flush t = decide (t.val % 4 = 3) := by
  rw [Pipeline.Window.flush_eq_flushOf]
  exact (by decide +kernel : ∀ t : Fin grid0.N, Pipeline.Window.flushOf grid0 true cc0_transform_5 t = decide (t.val % 4 = 3)) t

/-- The output block is left alone exactly at an invalid tile's later points. -/
theorem idle5 (t : Fin (cfgA ch).N) : (cfgA ch).idle (5 : Fin 6) ((cfgA ch).grid.coords t) = true ↔ (¬ k0_cond1 (crd ch t) (nv ch) = 1#1) ∧ ¬ k0_cond2 (crd ch t) = 1#1 := by
  show idle0 (adm ch).1 5 (crd ch t) = true ↔ _
  unfold idle0
  rw [atD_eq]
  have h5 := cond5_iff (crd ch t) (nv ch)
  have h3 := cond3_iff (crd ch t)
  by_cases h1 : k0_cond1 (crd ch t) (nv ch) = 1#1 <;> by_cases h2 : k0_cond2 (crd ch t) = 1#1 <;> simp_all

theorem idle5_false (t : Fin (cfgA ch).N) (h : ¬ ((¬ k0_cond1 (crd ch t) (nv ch) = 1#1) ∧ ¬ k0_cond2 (crd ch t) = 1#1)) : (cfgA ch).idle (5 : Fin 6) ((cfgA ch).grid.coords t) = false := by
  rw [← Bool.not_eq_true, idle5]; exact h

/-- The output buffer holds junk exactly at a tile's first point. -/
theorem fresh5 (t : Fin (cfgA ch).N) : (cfgA ch).fresh (5 : Fin 6) t.val = decide (t.val % 4 = 0) := by
  refine Pipeline.Cfg.fresh_tab (cfgA ch) (5 : Fin 6) (fun n => decide (n % 4 = 0)) rfl ?_ t.val (Nat.le_of_lt t.isLt)
  intro t
  rw [flush5]
  by_cases h0 : t.val % 4 = 0
  · rw [idle5_false ch t (fun h => h.2 ((cond2_at t).2 h0))]
    have h3 : ¬ t.val % 4 = 3 := by omega
    have h1 : ¬ (t.val + 1) % 4 = 0 := by omega
    simp [h3, h1]
  · by_cases h3 : t.val % 4 = 3
    · have h1 : (t.val + 1) % 4 = 0 := by omega
      simp [h3, h1]
    · have h1 : ¬ (t.val + 1) % 4 = 0 := by omega
      simp [h0, h3, h1]

theorem hypsR0_A (t : Fin (cfgA ch).N) : P0_0 ch t → P0_1 ch t →
    (k0_cond1 (crd ch t) (nv ch) = 1#1) ∧ ((k0_cond2 (crd ch t) = 1#1) ∧ ((¬(k0_cond3 (crd ch t) = 1#1)) ∧ ((¬(k0_cond4 (crd ch t) = 1#1)) ∧ ((¬(k0_cond5 (crd ch t) (nv ch) = 1#1)) ∧ True)))) := fun h1 h2 =>
  ⟨h1, h2, fun h3 => (cond3_iff _).1 h3 h2, cond2_not4 _ h2, fun h5 => ((cond5_iff _ _).1 h5).1 h1, trivial⟩
theorem hypsR0_B (t : Fin (cfgA ch).N) : P0_0 ch t → ¬P0_1 ch t → ¬P0_2 ch t →
    (k0_cond1 (crd ch t) (nv ch) = 1#1) ∧ ((¬(k0_cond2 (crd ch t) = 1#1)) ∧ ((k0_cond3 (crd ch t) = 1#1) ∧ ((¬(k0_cond4 (crd ch t) = 1#1)) ∧ ((¬(k0_cond5 (crd ch t) (nv ch) = 1#1)) ∧ True)))) := fun h1 h2 h4 =>
  ⟨h1, h2, (cond3_iff _).2 h2, h4, fun h5 => ((cond5_iff _ _).1 h5).1 h1, trivial⟩
theorem hypsR0_C (t : Fin (cfgA ch).N) : P0_0 ch t → ¬P0_1 ch t → P0_2 ch t →
    (k0_cond1 (crd ch t) (nv ch) = 1#1) ∧ ((¬(k0_cond2 (crd ch t) = 1#1)) ∧ ((k0_cond3 (crd ch t) = 1#1) ∧ ((k0_cond4 (crd ch t) = 1#1) ∧ ((¬(k0_cond5 (crd ch t) (nv ch) = 1#1)) ∧ True)))) := fun h1 h2 h4 =>
  ⟨h1, h2, (cond3_iff _).2 h2, h4, fun h5 => ((cond5_iff _ _).1 h5).1 h1, trivial⟩
theorem hypsR0_D (t : Fin (cfgA ch).N) : ¬P0_0 ch t → P0_3 ch t → (¬(k0_cond1 (crd ch t) (nv ch) = 1#1)) ∧ ((k0_cond5 (crd ch t) (nv ch) = 1#1) ∧ True) := fun h1 h5 => ⟨h1, h5, trivial⟩
theorem hypsR0_E (t : Fin (cfgA ch).N) : ¬P0_0 ch t → ¬P0_3 ch t → (¬(k0_cond1 (crd ch t) (nv ch) = 1#1)) ∧ ((¬(k0_cond5 (crd ch t) (nv ch) = 1#1)) ∧ True) := fun h1 h5 => ⟨h1, h5, trivial⟩

theorem sched0_A (t : Fin (cfgA ch).N) : P0_0 ch t → P0_1 ch t →
    (cfgA ch).idle (5 : Fin 6) ((cfgA ch).grid.coords t) = false ∧ ((cfgA ch).win (5 : Fin 6)).flush t = false ∧ (cfgA ch).fresh (5 : Fin 6) t.val = true := by
  intro h1 h2
  have h0 := (cond2_at t).1 h2
  refine ⟨idle5_false ch t (fun h => h.1 h1), ?_, ?_⟩
  · rw [flush5]; exact decide_eq_false (by omega)
  · rw [fresh5]; exact decide_eq_true h0
theorem sched0_B (t : Fin (cfgA ch).N) : P0_0 ch t → ¬P0_1 ch t → ¬P0_2 ch t →
    (cfgA ch).idle (5 : Fin 6) ((cfgA ch).grid.coords t) = false ∧ ((cfgA ch).win (5 : Fin 6)).flush t = false ∧ (cfgA ch).fresh (5 : Fin 6) t.val = false := by
  intro h1 h2 h4
  refine ⟨idle5_false ch t (fun h => h.1 h1), ?_, ?_⟩
  · rw [flush5]; exact decide_eq_false fun h => h4 ((cond4_at t).2 h)
  · rw [fresh5]; exact decide_eq_false fun h => h2 ((cond2_at t).2 h)
theorem sched0_C (t : Fin (cfgA ch).N) : P0_0 ch t → ¬P0_1 ch t → P0_2 ch t →
    (cfgA ch).idle (5 : Fin 6) ((cfgA ch).grid.coords t) = false ∧ ((cfgA ch).win (5 : Fin 6)).flush t = true ∧ (cfgA ch).fresh (5 : Fin 6) t.val = false := by
  intro h1 h2 h4
  refine ⟨idle5_false ch t (fun h => h.1 h1), ?_, ?_⟩
  · rw [flush5]; exact decide_eq_true ((cond4_at t).1 h4)
  · rw [fresh5]; exact decide_eq_false fun h => h2 ((cond2_at t).2 h)
theorem sched0_D (t : Fin (cfgA ch).N) : ¬P0_0 ch t → P0_3 ch t →
    (cfgA ch).idle (5 : Fin 6) ((cfgA ch).grid.coords t) = false ∧ ((cfgA ch).win (5 : Fin 6)).flush t = false ∧ (cfgA ch).fresh (5 : Fin 6) t.val = true := by
  intro h1 h5
  have h2 := ((cond5_iff _ _).1 h5).2
  have h0 := (cond2_at t).1 h2
  refine ⟨idle5_false ch t (fun h => h.2 h2), ?_, ?_⟩
  · rw [flush5]; exact decide_eq_false (by omega)
  · rw [fresh5]; exact decide_eq_true h0
theorem sched0_E (t : Fin (cfgA ch).N) : ¬P0_0 ch t → ¬P0_3 ch t →
    (cfgA ch).idle (5 : Fin 6) ((cfgA ch).grid.coords t) = true ∧ (cfgA ch).fresh (5 : Fin 6) t.val = false := by
  intro h1 h5
  have h2 : ¬ k0_cond2 (crd ch t) = 1#1 := fun h2 => h5 ((cond5_iff _ _).2 ⟨h1, h2⟩)
  refine ⟨(idle5 ch t).2 ⟨h1, h2⟩, ?_⟩
  rw [fresh5]; exact decide_eq_false fun h => h2 ((cond2_at t).2 h)

/-! ## What the outputs and scratches hold after each point -/

/-- ONE STEP of the trajectory: what the outputs' current buffers and the scratches hold after the body at point `t`
    (output 5), from what they held before (`prev`): the path the decisions select at `t`, its
    run's contents; an output the path leaves idle keeps what it held (junk — `default`, named by nothing — where fresh). -/
def step0 (c : Dev nD) (t : Fin (cfgA ch).N) (prev : (S512x2048.Idx → Elt Ideal .f32)) : (S512x2048.Idx → Elt Ideal .f32) :=
  if q0 : P0_0 ch t then
    if q1 : P0_1 ch t then
      out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1 (hypsR0_A ch t q0 q1).2.2.2.2.1
    else
      if q2 : P0_2 ch t then
        out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev (hypsR0_C ch t q0 q1 q2).1 (hypsR0_C ch t q0 q1 q2).2.1 (hypsR0_C ch t q0 q1 q2).2.2.1 (hypsR0_C ch t q0 q1 q2).2.2.2.1 (hypsR0_C ch t q0 q1 q2).2.2.2.2.1
      else
        out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1
  else
    if q1 : P0_3 ch t then
      out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_D ch t q0 q1).1 (hypsR0_D ch t q0 q1).2.1
    else
      (if (cfgA ch).fresh (5 : Fin 6) t.val then default else prev)

/-- THE TRAJECTORY: after position `n`. -/
def traj0 (c : Dev nD) : (n : ℕ) → n < (cfgA ch).N → (S512x2048.Idx → Elt Ideal .f32)
  | 0, h => step0 ch m ρ c ⟨0, h⟩ default
  | n + 1, h => step0 ch m ρ c ⟨n + 1, h⟩ (traj0 c n (Nat.lt_of_succ_lt h))

/-- What they held BEFORE point `t` (junk before the first). -/
def prev0 (c : Dev nD) (t : Fin (cfgA ch).N) : (S512x2048.Idx → Elt Ideal .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x2048.Idx → Elt Ideal .f32)) (q0 : P0_0 ch t) (q1 : P0_1 ch t) :
    step0 ch m ρ c t prev = out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1 (hypsR0_A ch t q0 q1).2.2.2.2.1 := by
  unfold step0; simp only [dif_pos q0, dif_pos q1]

/-- `step0` at a point of path B. -/
theorem step0_B (c : Dev nD) (t : Fin (cfgA ch).N) (prev : (S512x2048.Idx → Elt Ideal .f32)) (q0 : P0_0 ch t) (q1 : ¬P0_1 ch t) (q2 : ¬P0_2 ch t) :
    step0 ch m ρ c t prev = out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev (hypsR0_B ch t q0 q1 q2).1 (hypsR0_B ch t q0 q1 q2).2.1 (hypsR0_B ch t q0 q1 q2).2.2.1 (hypsR0_B ch t q0 q1 q2).2.2.2.1 (hypsR0_B ch t q0 q1 q2).2.2.2.2.1 := by
  unfold step0; simp only [dif_pos q0, dif_neg q1, dif_neg q2]

/-- `step0` at a point of path C. -/
theorem step0_C (c : Dev nD) (t : Fin (cfgA ch).N) (prev : (S512x2048.Idx → Elt Ideal .f32)) (q0 : P0_0 ch t) (q1 : ¬P0_1 ch t) (q2 : P0_2 ch t) :
    step0 ch m ρ c t prev = out0_C_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev (hypsR0_C ch t q0 q1 q2).1 (hypsR0_C ch t q0 q1 q2).2.1 (hypsR0_C ch t q0 q1 q2).2.2.1 (hypsR0_C ch t q0 q1 q2).2.2.2.1 (hypsR0_C ch t q0 q1 q2).2.2.2.2.1 := by
  unfold step0; simp only [dif_pos q0, dif_neg q1, dif_pos q2]

/-- `step0` at a point of path D. -/
theorem step0_D (c : Dev nD) (t : Fin (cfgA ch).N) (prev : (S512x2048.Idx → Elt Ideal .f32)) (q0 : ¬P0_0 ch t) (q1 : P0_3 ch t) :
    step0 ch m ρ c t prev = out0_D_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_D ch t q0 q1).1 (hypsR0_D ch t q0 q1).2.1 := by
  unfold step0; simp only [dif_neg q0, dif_pos q1]

/-- `step0` at a point of path E. -/
theorem step0_E (c : Dev nD) (t : Fin (cfgA ch).N) (prev : (S512x2048.Idx → Elt Ideal .f32)) (q0 : ¬P0_0 ch t) (q1 : ¬P0_3 ch t) :
    step0 ch m ρ c t prev = (if (cfgA ch).fresh (5 : Fin 6) t.val then default else prev) := by
  unfold step0; simp only [dif_neg q0, dif_neg q1]

/-! ## The pipeline's proof data -/

/-- What the tracked buffers held before position `t` of `Fin (N+1)` (the invariant's index). -/
def prev0T (c : Dev nD) (t : Fin ((cfgA ch).N + 1)) : (S512x2048.Idx → Elt Ideal .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => (traj0 ch m ρ c t.val t.isLt)
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = iblk ch m ρ c (4 : Fin 6) t := rfl
theorem after0_5 (c : Dev nD) (t : Fin (cfgA ch).N) : (dats ch m ρ 0 c).after (5 : Fin 6) t = (traj0 ch m ρ c t.val t.isLt) := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- Output 5's `after` carries through the points that leave it idle. -/
theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · by_cases q1 : P0_1 ch t
    · obtain ⟨i5, -, -⟩ := sched0_A ch t q0 q1
      rw [i5] at hi; exact absurd hi (by decide)
    · by_cases q2 : P0_2 ch t
      · obtain ⟨i5, -, -⟩ := sched0_C ch t q0 q1 q2
        rw [i5] at hi; exact absurd hi (by decide)
      · obtain ⟨i5, -, -⟩ := sched0_B ch t q0 q1 q2
        rw [i5] at hi; exact absurd hi (by decide)
  · by_cases q1 : P0_3 ch t
    · obtain ⟨i5, -, -⟩ := sched0_D ch t q0 q1
      rw [i5] at hi; exact absurd hi (by decide)
    · rw [step0_E ch m ρ c t _ q0 q1]
      simp only [hf, Bool.false_eq_true, ↓reduceIte]
      unfold prev0; rw [dif_neg ht]

/-- Output window 5 holds, when the body runs at `t`: junk if nothing was stored since its last write-back (`Cfg.fresh`),
    else what the point before left (TableIdle.lean `Dat.before_out_traj`). -/
theorem before0_5 (c : Dev nD) (t : Fin (cfgA ch).N) (d) :
    (dats ch m ρ 0 c).before (5 : Fin 6) t d = if (cfgA ch).fresh (5 : Fin 6) t.val then d else (prev0 ch m ρ c t) := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i5, f5, fr5⟩ := sched0_A ch t q0 q1
      have F0 := hypsR0_A ch t q0 q1
      have k0_h1 := F0.1; have F1 := F0.2
      have k0_h2 := F1.1; have F2 := F1.2
      have k0_h3 := F2.1; have F3 := F2.2
      have k0_h4 := F3.1; have F4 := F3.2
      have k0_h5 := F4.1; have F5 := F4.2
      clear F0 F1 F2 F3 F4 F5
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) k0_h1 k0_h2 k0_h3 k0_h4 k0_h5).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _ _ _)
    · by_cases q2 : P0_2 ch t
      · obtain ⟨i5, f5, fr5⟩ := sched0_C ch t q0 q1 q2
        have F0 := hypsR0_C ch t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        clear F0 F1 F2 F3 F4 F5
        rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        iintro ⟨⟨HT0, HT1⟩, Ho, ⟨%d0, H0⟩, ⟨%d1, H1⟩, ⟨%d2, H2⟩, ⟨%d3, H3⟩, ⟨%d4, H4⟩, ⟨%d5, H5⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h2 k0_h3 k0_h4 k0_h5).2 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        iintro ⟨H0, H1, H2, H3, H4, HT0, HT1, ⟨%e5, H5⟩⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        unfold owns; iexists _; isplitr; swap
        · iexact H5
        · ipureintro; exact View.read_writes_of_cover _ _ _ _ _ (cover0_C_5 c _ _ _ _ _ _ _ _ _ _ _ _ _ _ _ _ _ _ _ _ _ _ _ _ _ _)
      · obtain ⟨i5, f5, fr5⟩ := sched0_B ch t q0 q1 q2
        have F0 := hypsR0_B ch t q0 q1 q2
        have k0_h1 := F0.1; have F1 := F0.2
        have k0_h2 := F1.1; have F2 := F1.2
        have k0_h3 := F2.1; have F3 := F2.2
        have k0_h4 := F3.1; have F4 := F3.2
        have k0_h5 := F4.1; have F5 := F4.2
        clear F0 F1 F2 F3 F4 F5
        rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        iintro ⟨⟨HT0, HT1⟩, Ho, ⟨%d0, H0⟩, ⟨%d1, H1⟩, ⟨%d2, H2⟩, ⟨%d3, H3⟩, ⟨%d4, H4⟩, ⟨%d5, H5⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h2 k0_h3 k0_h4 k0_h5).2 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        iintro ⟨H0, H1, H2, H3, H4, HT0, HT1, ⟨%e5, H5⟩⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        unfold owns; iexists _; isplitr; swap
        · iexact H5
        · ipureintro; exact View.read_writes_of_cover _ _ _ _ _ (cover0_B_5 c _ _ _ _ _ _ _ _ _ _ _ _ _ _ _ _ _ _ _ _ _ _ _ _ _ _)
  · by_cases q1 : P0_3 ch t
    · obtain ⟨i5, f5, fr5⟩ := sched0_D ch t q0 q1
      have F0 := hypsR0_D ch t q0 q1
      have k0_h1 := F0.1; have F1 := F0.2
      have k0_h5 := F1.1; have F2 := F1.2
      clear F0 F1 F2
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩, ⟨%d5, H5⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) k0_h1 k0_h5).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      iintro ⟨H0, H1, H2, H3, H4, HT0, HT1, ⟨%e5, H5⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_D_5 c _ _ _ _ _ _ _ _ _ _ _ _ _ _ _ _ _ _ _ _ _ _)
    · obtain ⟨i5, fr5⟩ := sched0_E ch t q0 q1
      have F0 := hypsR0_E ch t q0 q1
      have k0_h1 := F0.1; have F1 := F0.2
      have k0_h5 := F1.1; have F2 := F1.2
      clear F0 F1 F2
      cases f5 : ((cfgA ch).win (5 : Fin 6)).flush t
      · rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_E ch m ρ c t _ q0 q1]
        unfold Phi; simp only [prev0T_castSucc, prev0T_succ, traj0_eq, step0_E ch m ρ c t _ q0 q1, Fin.val_castSucc, Fin.val_succ]
        iintro ⟨⟨HT0, HT1⟩, Ho, ⟨%d0, H0⟩, ⟨%d1, H1⟩, ⟨%d2, H2⟩, ⟨%d3, H3⟩, ⟨%d4, H4⟩, ⟨%d5, H5⟩⟩
        iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) k0_h1 k0_h5).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        iintro ⟨H0, H1, H2, H3, H4, HT0, HT1, H5⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5
      · rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_E ch m ρ c t _ q0 q1]
        unfold Phi; simp only [prev0T_castSucc, prev0T_succ, traj0_eq, step0_E ch m ρ c t _ q0 q1, Fin.val_castSucc, Fin.val_succ, fr5, Bool.false_eq_true, ↓reduceIte]
        iintro ⟨⟨HT0, HT1⟩, Ho, ⟨%d0, H0⟩, ⟨%d1, H1⟩, ⟨%d2, H2⟩, ⟨%d3, H3⟩, ⟨%d4, H4⟩, ⟨%d5, H5⟩⟩
        iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) k0_h1 k0_h5).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        iintro ⟨H0, H1, H2, H3, H4, HT0, HT1, H5⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -⟩
  isplitr; · iempintro
  iempintro

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 6)).trans ((dats ch m ρ 0 c).arrAt_in (0 : Fin 6) rfl _), ((h c).2 0).trans (hp.1 c).symm, ((h c).2 1).trans (hp.2 c).symm, ((h c).1 (4 : Fin 6)).trans ((dats ch m ρ 0 c).arrAt_in (4 : Fin 6) rfl _), ((h c).1 (1 : Fin 6)).trans ((dats ch m ρ 0 c).arrAt_in (1 : Fin 6) rfl _), ((h c).1 (2 : Fin 6)).trans ((dats ch m ρ 0 c).arrAt_in (2 : Fin 6) rfl _), ((h c).1 (3 : Fin 6)).trans ((dats ch m ρ 0 c).arrAt_in (3 : Fin 6) rfl _)⟩) (run_main ch m ρ hp)

/-- The frame: every execution terminates without fault, leaves every argument array unchanged and every semaphore at
    zero. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.ExpertsIdeal.AnyTables

end
-- ==== Proof.ExpertsBody.lean ====
/- What the experts body computes at one grid point, entry by entry: one column block's share of a tile's expert output. -/
module

public import proofs.«01_k».proof.Proof.Gen.ExpertsIdeal.Flash.Runs
public import Idealize.ShloMosaic.Lib.Pipeline.ValueKit
public import Idealize.ShloMosaic.Lib.Pointwise
public import Idealize.ShloMosaic.Lib.IdealHost
public import Idealize.ShloMosaic.PureOps.Ideal

@[expose] public section

set_option maxRecDepth 16384
noncomputable section
namespace Cert.ExpertsBody
open Cert.ExpertsIdeal Cert.ExpertsIdeal.Gen Idealize.ShloMosaic Idealize.ShloMosaic.TcCoe Idealize.SL.Sem

/-- `z * sigmoid z`, the sigmoid written as 1 / (1 + e⁻ᶻ). -/
def silu (z : EReal) : EReal := z * Ideal.div 1 (1 + Ideal.exp (-z))

/-- Row `r` of a tile times column `f` of a weight block. -/
def bsum (x0 : Vec Ideal S512x2048 .bf16) (w : Vec Ideal S1x1x2048x256 .f32) (r : Fin 512) (f : Fin 256) : EReal :=
  ∑ d : Fin 2048, x0 (ix2 r d) * w (ix4 0 0 d f)

/-- One column block's share of row `r` of a tile's output. -/
def share (x0 : Vec Ideal S512x2048 .bf16) (x1 x2 : Vec Ideal S1x1x2048x256 .f32) (x3 : Vec Ideal S1x1x256x2048 .f32) (r : Fin 512) (n : Fin 2048) : EReal :=
  ∑ f : Fin 256, (silu (bsum x0 x1 r f) * bsum x0 x2 r f) * x3 (ix4 0 0 f n)

theorem pay1_apply (a : Vec Ideal S512x2048 .f32) (g : Vec Ideal S512x1 .f32) (r : Fin 512) (n : Fin 2048) :
    k0_pay1 a g (ix2 r n) = a (ix2 r n) * g (ix2 r 0) := by
  pointwise [k0_pay1]

theorem pay2_apply (r : Fin 512) (n : Fin 2048) : k0_pay2 (F := Ideal) (ix2 r n) = 0 := by
  pointwise [k0_pay2]

theorem pay3_apply (x0 : Vec Ideal S512x2048 .bf16) (x1 x2 : Vec Ideal S1x1x2048x256 .f32) (x3 : Vec Ideal S1x1x256x2048 .f32) (r : Fin 512) (n : Fin 2048) :
    k0_pay3 x0 x1 x2 x3 (ix2 r n) = share x0 x1 x2 x3 r n := by
  unfold share bsum silu
  pointwise [k0_pay3]
  simp only [sub_eq_add_neg, zero_add]

theorem pay4_apply (x0 : Vec Ideal S512x2048 .bf16) (x1 x2 : Vec Ideal S1x1x2048x256 .f32) (x3 : Vec Ideal S1x1x256x2048 .f32) (a : Vec Ideal S512x2048 .f32) (r : Fin 512) (n : Fin 2048) :
    k0_pay4 x0 x1 x2 x3 a (ix2 r n) = a (ix2 r n) + share x0 x1 x2 x3 r n := by
  rw [← pay3_apply]
  pointwise [k0_pay4]

/-! ## The block each control path leaves -/

theorem out_A (c : Dev nD) (i : grid0.Coords) (arg4 : Memref sig .tc .vmem S512x2048 .bf16) (harg4 : arg4.IsWhole) (arg5 : Memref sig .tc .vmem S1x1x2048x256 .f32) (harg5 : arg5.IsWhole) (arg6 : Memref sig .tc .vmem S1x1x2048x256 .f32) (harg6 : arg6.IsWhole) (arg7 : Memref sig .tc .vmem S1x1x256x2048 .f32) (harg7 : arg7.IsWhole) (arg8 : Memref sig .tc .vmem S512x1 .f32) (harg8 : arg8.IsWhole) (arg9 : Memref sig .tc .vmem S512x2048 .f32) (harg9 : arg9.IsWhole) (T0 : (S52.Idx → Elt Ideal .i32)) (T1 : (S1.Idx → Elt Ideal .i32))
     (x0 : (S512x2048.Idx → Elt Ideal .bf16)) (x1 : (S1x1x2048x256.Idx → Elt Ideal .f32)) (x2 : (S1x1x2048x256.Idx → Elt Ideal .f32)) (x3 : (S1x1x256x2048.Idx → Elt Ideal .f32)) (x4 : (S512x1.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : k0_cond2 i = 1#1) (k0_h3 : ¬(k0_cond3 i = 1#1)) (k0_h4 : ¬(k0_cond4 i = 1#1)) (k0_h5 : ¬(k0_cond5 i (View.readAt (Elt Ideal) (tbM0_1).view (Rect.unit (s := S1) ![0] S1.size inb_S1_S1_0).toLoadRect T1 (Shape.Idx.first (numel1_S1.symm ▸ Nat.one_pos))) = 1#1)) :
    out0_A_5 c i arg4 harg4 arg5 harg5 arg6 harg6 arg7 harg7 arg8 harg8 arg9 harg9 T0 T1 x0 x1 x2 x3 x4 k0_h1 k0_h2 k0_h3 k0_h4 k0_h5 = k0_pay3 x0 x1 x2 x3 := by
  frame_out
  try simp only [View.read_rep]

theorem out_B (c : Dev nD) (i : grid0.Coords) (arg4 : Memref sig .tc .vmem S512x2048 .bf16) (harg4 : arg4.IsWhole) (arg5 : Memref sig .tc .vmem S1x1x2048x256 .f32) (harg5 : arg5.IsWhole) (arg6 : Memref sig .tc .vmem S1x1x2048x256 .f32) (harg6 : arg6.IsWhole) (arg7 : Memref sig .tc .vmem S1x1x256x2048 .f32) (harg7 : arg7.IsWhole) (arg8 : Memref sig .tc .vmem S512x1 .f32) (harg8 : arg8.IsWhole) (arg9 : Memref sig .tc .vmem S512x2048 .f32) (harg9 : arg9.IsWhole) (T0 : (S52.Idx → Elt Ideal .i32)) (T1 : (S1.Idx → Elt Ideal .i32))
     (x0 : (S512x2048.Idx → Elt Ideal .bf16)) (x1 : (S1x1x2048x256.Idx → Elt Ideal .f32)) (x2 : (S1x1x2048x256.Idx → Elt Ideal .f32)) (x3 : (S1x1x256x2048.Idx → Elt Ideal .f32)) (x4 : (S512x1.Idx → Elt Ideal .f32)) (xo5 : (S512x2048.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i = 1#1)) (k0_h3 : k0_cond3 i = 1#1) (k0_h4 : ¬(k0_cond4 i = 1#1)) (k0_h5 : ¬(k0_cond5 i (View.readAt (Elt Ideal) (tbM0_1).view (Rect.unit (s := S1) ![0] S1.size inb_S1_S1_0).toLoadRect T1 (Shape.Idx.first (numel1_S1.symm ▸ Nat.one_pos))) = 1#1)) :
    out0_B_5 c i arg4 harg4 arg5 harg5 arg6 harg6 arg7 harg7 arg8 harg8 arg9 harg9 T0 T1 x0 x1 x2 x3 x4 xo5 k0_h1 k0_h2 k0_h3 k0_h4 k0_h5 = k0_pay4 x0 x1 x2 x3 xo5 := by
  frame_out
  try simp only [View.read_rep]

theorem out_C (c : Dev nD) (i : grid0.Coords) (arg4 : Memref sig .tc .vmem S512x2048 .bf16) (harg4 : arg4.IsWhole) (arg5 : Memref sig .tc .vmem S1x1x2048x256 .f32) (harg5 : arg5.IsWhole) (arg6 : Memref sig .tc .vmem S1x1x2048x256 .f32) (harg6 : arg6.IsWhole) (arg7 : Memref sig .tc .vmem S1x1x256x2048 .f32) (harg7 : arg7.IsWhole) (arg8 : Memref sig .tc .vmem S512x1 .f32) (harg8 : arg8.IsWhole) (arg9 : Memref sig .tc .vmem S512x2048 .f32) (harg9 : arg9.IsWhole) (T0 : (S52.Idx → Elt Ideal .i32)) (T1 : (S1.Idx → Elt Ideal .i32))
     (x0 : (S512x2048.Idx → Elt Ideal .bf16)) (x1 : (S1x1x2048x256.Idx → Elt Ideal .f32)) (x2 : (S1x1x2048x256.Idx → Elt Ideal .f32)) (x3 : (S1x1x256x2048.Idx → Elt Ideal .f32)) (x4 : (S512x1.Idx → Elt Ideal .f32)) (xo5 : (S512x2048.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i = 1#1)) (k0_h3 : k0_cond3 i = 1#1) (k0_h4 : k0_cond4 i = 1#1) (k0_h5 : ¬(k0_cond5 i (View.readAt (Elt Ideal) (tbM0_1).view (Rect.unit (s := S1) ![0] S1.size inb_S1_S1_0).toLoadRect T1 (Shape.Idx.first (numel1_S1.symm ▸ Nat.one_pos))) = 1#1)) :
    out0_C_5 c i arg4 harg4 arg5 harg5 arg6 harg6 arg7 harg7 arg8 harg8 arg9 harg9 T0 T1 x0 x1 x2 x3 x4 xo5 k0_h1 k0_h2 k0_h3 k0_h4 k0_h5 = k0_pay1 (k0_pay4 x0 x1 x2 x3 xo5) x4 := by
  frame_out
  try simp only [View.read_rep]

theorem out_D (c : Dev nD) (i : grid0.Coords) (arg4 : Memref sig .tc .vmem S512x2048 .bf16) (harg4 : arg4.IsWhole) (arg5 : Memref sig .tc .vmem S1x1x2048x256 .f32) (harg5 : arg5.IsWhole) (arg6 : Memref sig .tc .vmem S1x1x2048x256 .f32) (harg6 : arg6.IsWhole) (arg7 : Memref sig .tc .vmem S1x1x256x2048 .f32) (harg7 : arg7.IsWhole) (arg8 : Memref sig .tc .vmem S512x1 .f32) (harg8 : arg8.IsWhole) (arg9 : Memref sig .tc .vmem S512x2048 .f32) (harg9 : arg9.IsWhole) (T0 : (S52.Idx → Elt Ideal .i32)) (T1 : (S1.Idx → Elt Ideal .i32))
     (x0 : (S512x2048.Idx → Elt Ideal .bf16)) (x1 : (S1x1x2048x256.Idx → Elt Ideal .f32)) (x2 : (S1x1x2048x256.Idx → Elt Ideal .f32)) (x3 : (S1x1x256x2048.Idx → Elt Ideal .f32)) (x4 : (S512x1.Idx → Elt Ideal .f32)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h5 : k0_cond5 i (View.readAt (Elt Ideal) (tbM0_1).view (Rect.unit (s := S1) ![0] S1.size inb_S1_S1_0).toLoadRect T1 (Shape.Idx.first (numel1_S1.symm ▸ Nat.one_pos))) = 1#1) :
    out0_D_5 c i arg4 harg4 arg5 harg5 arg6 harg6 arg7 harg7 arg8 harg8 arg9 harg9 T0 T1 x0 x1 x2 x3 x4 k0_h1 k0_h5 = k0_pay2 (F := Ideal) := by
  frame_out
  try simp only [View.read_rep]

end Cert.ExpertsBody

end
-- ==== Proof.ExpertsRef.lean ====
/- The reference's expert output, entry by entry: of the sixteen experts only the tile's own has a gate that is not zero. -/
module

public import proofs.«01_k».proof.Proof.Gen.ExpertsRefIdeal.Read
public import Idealize.ShloMosaic.Lib.Pointwise
public import Idealize.ShloMosaic.Lib.IdealHost
public import Idealize.ShloMosaic.Lib.WordCmp
public import Idealize.ShloMosaic.Lib.WordArith
public import Idealize.ShloMosaic.Lib.Affine
public import Idealize.ShloMosaic.PureOps.Ideal

@[expose] public section

set_option maxRecDepth 16384
noncomputable section
namespace Cert.ExpertsRef
open Cert.ExpertsRefIdeal Cert.ExpertsRefIdeal.Read Idealize.ShloMosaic Idealize.ShloMosaic.TcCoe Idealize.SL.Sem

/-- `z * sigmoid z`, the sigmoid written as 1 / (1 + e⁻ᶻ). -/
def silu (z : EReal) : EReal := z * Ideal.div 1 (1 + Ideal.exp (-z))

/-- Row `R` times column `f` of an expert's weights. -/
def gsum (x0 : FVec Ideal S26624x2048 .bf16) (w : FVec Ideal S2x16x2048x1024 .f32) (R : Fin 26624) (e : Fin 16) (f : Fin 1024) : EReal :=
  ∑ d : Fin 2048, x0 (ix2 R d) * w (ix4 0 e d f)

/-- Expert `e`'s output at row `R`, before the gate. -/
def yv (x0 : FVec Ideal S26624x2048 .bf16) (x4 x5 : FVec Ideal S2x16x2048x1024 .f32) (x6 : FVec Ideal S2x16x1024x2048 .f32)
    (R : Fin 26624) (e : Fin 16) (n : Fin 2048) : EReal :=
  ∑ f : Fin 1024, (silu (gsum x0 x4 R e f) * gsum x0 x5 R e f) * x6 (ix4 0 e f n)

variable (x0 : FVec Ideal S26624x2048 .bf16) (x1 : S52.Idx → BitVec 32) (x2 : S1.Idx → BitVec 32) (x3 : FVec Ideal S26624x1 .f32)
  (x4 x5 : FVec Ideal S2x16x2048x1024 .f32) (x6 : FVec Ideal S2x16x1024x2048 .f32)

theorem v19_apply (e : Fin 16) (d : Fin 2048) (f : Fin 1024) : val_main_v19 (F := Ideal) x4 (ix3 e d f) = x4 (ix4 0 e d f) := by
  unfold val_main_v19 val_main_v18
  pointwise []

theorem v24_apply (e : Fin 16) (d : Fin 2048) (f : Fin 1024) : val_main_v24 (F := Ideal) x5 (ix3 e d f) = x5 (ix4 0 e d f) := by
  unfold val_main_v24 val_main_v23
  pointwise []

theorem v29_apply (e : Fin 16) (f : Fin 1024) (n : Fin 2048) : val_main_v29 (F := Ideal) x6 (ix3 e f n) = x6 (ix4 0 e f n) := by
  unfold val_main_v29 val_main_v28
  pointwise []

theorem v21_apply (e : Fin 16) (R : Fin 26624) (f : Fin 1024) : val_main_v21 (F := Ideal) x0 x4 (ix3 e R f) = gsum x0 x4 R e f := by
  rw [val_main_v21_apply, val_main_v20_apply]
  unfold gsum
  refine Finset.sum_congr rfl fun d _ => ?_
  have h1 : lidx_main_v20 (idx_main_v21 (ix3 e R f)) d = ix3 e d f := by
    funext a; match a with | ⟨0, _⟩ => rfl | ⟨1, _⟩ => rfl | ⟨2, _⟩ => rfl
  have h2 : ridx_main_v20 (idx_main_v21 (ix3 e R f)) d = ix2 R d := by
    funext a; match a with | ⟨0, _⟩ => rfl | ⟨1, _⟩ => rfl
  rw [h1, h2, v19_apply, val_main_v0_apply, mul_comm]; rfl

theorem v26_apply (e : Fin 16) (R : Fin 26624) (f : Fin 1024) : val_main_v26 (F := Ideal) x0 x5 (ix3 e R f) = gsum x0 x5 R e f := by
  rw [val_main_v26_apply, val_main_v25_apply]
  unfold gsum
  refine Finset.sum_congr rfl fun d _ => ?_
  have h1 : lidx_main_v25 (idx_main_v26 (ix3 e R f)) d = ix3 e d f := by
    funext a; match a with | ⟨0, _⟩ => rfl | ⟨1, _⟩ => rfl | ⟨2, _⟩ => rfl
  have h2 : ridx_main_v25 (idx_main_v26 (ix3 e R f)) d = ix2 R d := by
    funext a; match a with | ⟨0, _⟩ => rfl | ⟨1, _⟩ => rfl
  rw [h1, h2, v24_apply, val_main_v0_apply, mul_comm]; rfl

theorem v22_apply (e : Fin 16) (R : Fin 26624) (f : Fin 1024) : val_main_v22 (F := Ideal) x0 x4 (ix3 e R f) = silu (gsum x0 x4 R e f) := by
  rw [val_main_v22_apply, val_main_call2_v5_apply, val_main_call2_v4_apply, val_main_call2_cst_0_apply, val_main_call2_v3_apply,
    val_main_call2_v2_apply, val_main_call2_cst_apply, val_main_call2_v1_apply, val_main_call2_v0_apply, v21_apply]
  show gsum x0 x4 R e f * Ideal.div (Ideal.ofBits .f32 0x3F800000#32) (Ideal.ofBits .f32 0x3F800000#32 + Ideal.exp (-gsum x0 x4 R e f)) = _
  rw [Ideal.ofBits_one_f32]; rfl

theorem v30_apply (e : Fin 16) (R : Fin 26624) (n : Fin 2048) : val_main_v30 (F := Ideal) x0 x4 x5 x6 (ix3 e R n) = yv x0 x4 x5 x6 R e n := by
  rw [val_main_v30_apply]
  unfold yv
  refine Finset.sum_congr rfl fun f _ => ?_
  have h1 : lidx_main_v30 (ix3 e R n) f = ix3 e R f := by
    funext a; match a with | ⟨0, _⟩ => rfl | ⟨1, _⟩ => rfl | ⟨2, _⟩ => rfl
  have h2 : ridx_main_v30 (ix3 e R n) f = ix3 e f n := by
    funext a; match a with | ⟨0, _⟩ => rfl | ⟨1, _⟩ => rfl | ⟨2, _⟩ => rfl
  rw [h1, h2, v29_apply, val_main_v27_apply, v22_apply, v26_apply]; rfl

/-- A row's tile number is its floor quotient by the tile's height. -/
theorem v2_apply (R : Fin 26624) : val_main_v2 (F := Ideal) (ix1 R) = BitVec.ofNat 32 (R.val / 512) := by
  have hR := R.isLt
  have hN : (BitVec.ofNat 32 R.val).toNat = R.val := by rw [BitVec.toNat_ofNat]; omega
  have hd : IntOp.divsi .host (BitVec.ofNat 32 R.val) 512#32 = BitVec.ofNat 32 (R.val / 512) := by
    have h := Affine.divsi (e := ((R.val / 512 : ℕ) : Int)) (Affine.ofNat (e := (R.val : Int)) R.val ⟨rfl, by omega⟩) (Affine.ofNat (e := (512 : Int)) 512 ⟨rfl, by omega⟩) ⟨by omega, by omega, by omega⟩
    unfold Affine.IsInt at h
    have hcor : ¬ IntOp.SDivCorner (BitVec.ofNat 32 R.val) 512#32 := fun h => h.elim (fun h => absurd h (by decide)) fun h => absurd h.2 (by decide)
    refine Eq.trans ?_ (BitVec.eq_of_toInt_eq (h.trans (WordArith.toInt_ofNat_small _ (by omega)).symm))
    exact (if_neg hcor).trans (if_neg hcor).symm
  have hc : val_main_call0_v11 (F := Ideal) (ix1 R) = 0#1 := by
    rw [val_main_call0_v11_apply, val_main_call0_v6_apply, val_main_call0_v10_apply, val_main_call0_v8_apply, val_main_call0_v7_apply,
      val_main_call0_v0_apply, val_main_c_apply, val_main_v1_apply, val_main_call0_v9_apply, val_main_call0_c_apply, val_main_call0_v5_apply]
    have h4 : val_main_call0_v4 (F := Ideal) (idx_main_call0_v5 (ix1 R)) = 1#32 := by
      show (if (512#32 : BitVec 32) = 0 then (0 : BitVec 32) else if (512#32 : BitVec 32).msb then -1 else 1) = 1#32
      decide
    rw [h4]
    show IntOp.andi (IntOp.cmpi .ne (val_main_call0_v3 (F := Ideal) (ix1 R)) 1#32) (IntOp.cmpi .ne (IntOp.remsi .host (BitVec.ofNat 32 R.val) 512#32) 0#32) = 0#1
    by_cases h0 : R.val = 0
    · rw [h0, show IntOp.remsi .host (BitVec.ofNat 32 0) 512#32 = 0#32 by decide]
      simp [IntOp.andi, IntOp.cmpi]
    · have h3 : val_main_call0_v3 (F := Ideal) (ix1 R) = 1#32 := by
        show (if BitVec.ofNat 32 R.val = 0 then (0 : BitVec 32) else if (BitVec.ofNat 32 R.val).msb then -1 else 1) = 1#32
        have hne : ¬ BitVec.ofNat 32 R.val = 0 := by
          intro h; have := congrArg BitVec.toNat h; rw [hN] at this; exact h0 this
        have hm : (BitVec.ofNat 32 R.val).msb = false := by rw [BitVec.msb_eq_false_iff_two_mul_lt, hN]; omega
        rw [if_neg hne, hm]; rfl
      rw [h3]
      simp [IntOp.andi, IntOp.cmpi]
  rw [val_main_v2_apply, hc, val_main_call0_v2_apply, val_main_v1_apply, val_main_call0_v1_apply, val_main_call0_v0_apply, val_main_c_apply]
  exact hd

/-- The gate of a row for an expert: the row's own where the tile is valid and routed to that expert, zero elsewhere. -/
theorem v33_apply (e : Fin 16) (R : Fin 26624) (n : Fin 2048) (i : Fin 52) (hi : i.val = R.val / 512) :
    val_main_v33 (F := Ideal) x1 x2 x3 (ix3 e R n)
      = Scalar.select (IntOp.andi (IntOp.cmpi .eq (x1 (ix1 i)) (BitVec.ofNat 32 e.val)) (IntOp.cmpi .slt (BitVec.ofNat 32 i.val) (x2 (ix1 0)))) (x3 (ix2 R 0)) 0 := by
  rw [val_main_v33_apply, val_main_v32_apply, val_main_v31_apply, val_main_v17_apply, val_main_v16_apply, val_main_v10_apply, val_main_v15_apply,
    val_main_v14_apply, val_main_v13_apply, val_main_v12_apply, val_main_v8_apply, val_main_v5_apply, val_main_v4_apply, val_main_v3_apply,
    val_main_v9_apply, val_main_v7_apply, val_main_v6_apply, val_main_call1_v2_apply]
  have h1 : idx_main_v14 (idx_main_v15 (idx_main_v31 (idx_main_v32 (idx_main_v33 (ix3 e R n))))) = ix1 R := by
    funext a; match a with | ⟨0, _⟩ => rfl
  have h2 : idx_main_v3 (idx_main_v4 (idx_main_v5 (idx_main_v8 (idx_main_v31 (idx_main_v32 (idx_main_v33 (ix3 e R n))))))) = ix1 i := by
    funext a; match a with | ⟨0, _⟩ => exact Fin.ext hi.symm
  rw [h1, h2, v2_apply, ← hi, val_main_call1_v1_apply]
  have h3 : idx_main_call1_v1 (idx_main_v31 (idx_main_v32 (idx_main_v33 (ix3 e R n)))) = ix2 R 0 := by
    funext a; match a with | ⟨0, _⟩ => rfl | ⟨1, _⟩ => rfl
  have h4 : ∀ j, val_main_v11 (F := Ideal) x2 j = x2 (ix1 0) := by
    intro j; unfold val_main_v11; exact shapeCast_apply x2 _ j (ix1 0) (by decide +revert)
  rw [h3, h4]
  congr 1
  exact Ideal.ofBits_zero_f32

/-- The reference at an entry: a valid tile's row is its gate times its expert's output, an invalid tile's row is zero. -/
theorem v35_apply (R : Fin 26624) (n : Fin 2048) (i : Fin 52) (hi : i.val = R.val / 512) (e : Fin 16) (he : x1 (ix1 i) = BitVec.ofNat 32 e.val) :
    val_main_v35 (F := Ideal) x0 x1 x2 x3 x4 x5 x6 (ix2 R n)
      = if IntOp.cmpi .slt (BitVec.ofNat 32 i.val) (x2 (ix1 0)) = 1#1 then x3 (ix2 R 0) * yv x0 x4 x5 x6 R e n else 0 := by
  have hz : ∀ j, val_main_cst_0 (F := Ideal) j = 0 := fun _ => Ideal.ofBits_zero_f32
  rw [val_main_v35_apply, hz, zero_add]
  have hx : ∀ k : Fin 16, idx_main_v35 (ix2 R n) k = ix3 k R n := fun k => by
    funext a; match a with | ⟨0, _⟩ => rfl | ⟨1, _⟩ => rfl | ⟨2, _⟩ => rfl
  have ht : ∀ k : Fin 16, val_main_v34 (F := Ideal) x0 x1 x2 x3 x4 x5 x6 (idx_main_v35 (ix2 R n) k)
      = if IntOp.cmpi .slt (BitVec.ofNat 32 i.val) (x2 (ix1 0)) = 1#1 then (if k = e then x3 (ix2 R 0) * yv x0 x4 x5 x6 R e n else 0) else 0 := fun k => by
    rw [hx, val_main_v34_apply, v33_apply x1 x2 x3 k R n i hi, v30_apply, he]
    have hk := k.isLt
    have he' := e.isLt
    rw [WordCmp.cmpi_eq_ofNat (by omega) (by omega)]
    generalize IntOp.cmpi .slt (BitVec.ofNat 32 i.val) (x2 (ix1 0)) = b
    have hb : b = 0#1 ∨ b = 1#1 := by revert b; decide
    show Scalar.select _ _ _ * yv x0 x4 x5 x6 R k n = _
    by_cases hke : k = e
    · subst hke
      rcases hb with rfl | rfl <;> simp [Scalar.select, IntOp.andi]
    · have : e.val ≠ k.val := fun h => hke (Fin.ext h.symm)
      rcases hb with rfl | rfl <;> simp [Scalar.select, IntOp.andi, this, hke]
  rw [Finset.sum_congr rfl fun k _ => ht k]
  split
  · rw [Finset.sum_ite_eq' Finset.univ e]; simp
  · simp

end Cert.ExpertsRef

end
-- ==== Proof.ExpertsValue.lean ====
/- The experts call's whole result, for every pair of tables: each tile's block, summed over its four column blocks. -/
module

public import proofs.«01_k».proof.Proof.ExpertsIdealFrame
public import proofs.«01_k».proof.Proof.ExpertsBody
public import proofs.«01_k».proof.Proof.ExpertsRef
public import Idealize.ShloMosaic.Lib.Pipeline.Covers

@[expose] public section

set_option maxRecDepth 16384
noncomputable section
namespace Cert.ExpertsValue
open Cert.ExpertsIdeal Cert.ExpertsIdeal.Gen Idealize.ShloMosaic Idealize.ShloMosaic.TcCoe Idealize.SL.Sem
open Cert.ExpertsIdeal.AnyTables
open Cert.ExpertsBody (share bsum)
open Cert.ExpertsRef (gsum yv)

variable (ch : Tab) (m : (ℓ : Loc nD τ sig) → Buf (Elt Ideal) ℓ) (ρ : Dev nD → PrngReg)

theorem N_eq : grid0.N = 208 := by decide +kernel

/-- A point's coordinates: its tile, and its column block. -/
theorem crd_eq : ∀ t : Fin grid0.N, (grid0.coords t 0).val = t.val / 4 ∧ (grid0.coords t 1).val = t.val % 4 := by decide +kernel

theorem tr0 : ∀ t : Fin grid0.N, cc0_transform_0 (grid0.coords t) = ![t.val / 4, 0] := by decide +kernel
theorem tr4 : ∀ t : Fin grid0.N, cc0_transform_4 (grid0.coords t) = ![t.val / 4, 0] := by decide +kernel
theorem tr5 : ∀ t : Fin grid0.N, cc0_transform_5 (grid0.coords t) = ![t.val / 4, 0] := by decide +kernel
theorem off1 : ∀ i : grid0.Coords, (Scalar.indexCast (BitVec.ofNat 32 (i 0).val) : Index).toNat = (i 0).val := by decide +kernel

/-- The table word a point reads is its tile's. -/
theorem word (T : pre0.Contents (Elt Ideal)) (i : grid0.Coords) :
    T.at 0 (Rect.unit (s := S52) ![(Scalar.indexCast (BitVec.ofNat 32 (i 0).val) : Index).toNat] S1.size (k0_off1_inb i)) numel1_S1 = T 0 (ix1 (i 0)) := by
  refine congrArg (T 0) (funext fun a => ?_)
  match a with
  | ⟨0, _⟩ =>
    apply Fin.ext
    show (Scalar.indexCast (BitVec.ofNat 32 (i 0).val) : Index).toNat + 1 * 0 = (i 0).val
    rw [off1, Nat.mul_zero, Nat.add_zero]

theorem x0_apply (c : Dev nD) (t : Fin (cfgA ch).N) (R : Fin 26624) (r : Fin 512) (d : Fin 2048) (hR : t.val / 4 * 512 + r.val = R.val) :
    iblk ch m ρ c (0 : Fin 6) t (ix2 r d) = m ((c : Thread nD τ).loc main_arg0) (ix2 R d) := by
  refine congrArg (m ((c : Thread nD τ).loc main_arg0)) (funext fun a => Fin.ext ?_)
  match a with
  | ⟨0, _⟩ =>
    show cc0_transform_0 (grid0.coords t) 0 * 512 + 1 * r.val = R.val
    have h1 : cc0_transform_0 (grid0.coords t) 0 = t.val / 4 := congrFun (tr0 t) 0
    rw [h1]; omega
  | ⟨1, _⟩ =>
    show cc0_transform_0 (grid0.coords t) 1 * 2048 + 1 * d.val = d.val
    have h1 : cc0_transform_0 (grid0.coords t) 1 = 0 := congrFun (tr0 t) 1
    rw [h1, Nat.zero_mul, Nat.zero_add, Nat.one_mul]

theorem x4_apply (c : Dev nD) (t : Fin (cfgA ch).N) (R : Fin 26624) (r : Fin 512) (hR : t.val / 4 * 512 + r.val = R.val) :
    iblk ch m ρ c (4 : Fin 6) t (ix2 r 0) = m ((c : Thread nD τ).loc main_arg3) (ix2 R 0) := by
  refine congrArg (m ((c : Thread nD τ).loc main_arg3)) (funext fun a => Fin.ext ?_)
  match a with
  | ⟨0, _⟩ =>
    show cc0_transform_4 (grid0.coords t) 0 * 512 + 1 * r.val = R.val
    have h1 : cc0_transform_4 (grid0.coords t) 0 = t.val / 4 := congrFun (tr4 t) 0
    rw [h1]; omega
  | ⟨1, _⟩ =>
    show cc0_transform_4 (grid0.coords t) 1 * 1 + 1 * 0 = 0
    have h1 : cc0_transform_4 (grid0.coords t) 1 = 0 := congrFun (tr4 t) 1
    rw [h1]

theorem tw1 (T : pre0.Contents (Elt Ideal)) (i : grid0.Coords) (e : Fin 16) (he : T 0 (ix1 (i 0)) = BitVec.ofNat 32 e.val) :
    cc0_transform_1 k0_off1_inb numel1_S1 T i = ![0, e.val, 0, (i 1).val] := by
  unfold cc0_transform_1
  dsimp only
  rw [word, he]
  have h1 : (i 1).val < 4 := (i 1).isLt
  have := e.isLt
  have h2 : (BitVec.ofNat 32 (i 1).val).toNat = (i 1).val := by rw [BitVec.toNat_ofNat]; omega
  have h3 : (BitVec.ofNat 32 e.val).toNat = e.val := by rw [BitVec.toNat_ofNat]; omega
  rw [h2, h3]; rfl

theorem tw2 (T : pre0.Contents (Elt Ideal)) (i : grid0.Coords) (e : Fin 16) (he : T 0 (ix1 (i 0)) = BitVec.ofNat 32 e.val) :
    cc0_transform_2 k0_off1_inb numel1_S1 T i = ![0, e.val, 0, (i 1).val] := tw1 T i e he

theorem tw3 (T : pre0.Contents (Elt Ideal)) (i : grid0.Coords) (e : Fin 16) (he : T 0 (ix1 (i 0)) = BitVec.ofNat 32 e.val) :
    cc0_transform_3 k0_off1_inb numel1_S1 T i = ![0, e.val, (i 1).val, 0] := by
  unfold cc0_transform_3
  dsimp only
  rw [word, he]
  have h1 : (i 1).val < 4 := (i 1).isLt
  have := e.isLt
  have h2 : (BitVec.ofNat 32 (i 1).val).toNat = (i 1).val := by rw [BitVec.toNat_ofNat]; omega
  have h3 : (BitVec.ofNat 32 e.val).toNat = e.val := by rw [BitVec.toNat_ofNat]; omega
  rw [h2, h3]; rfl

theorem x1_apply (c : Dev nD) (t : Fin (cfgA ch).N) (e : Fin 16) (he : ch.1 0 (ix1 (grid0.coords t 0)) = BitVec.ofNat 32 e.val)
    (d : Fin 2048) (f : Fin 256) (f' : Fin 1024) (hf : t.val % 4 * 256 + f.val = f'.val) :
    iblk ch m ρ c (1 : Fin 6) t (ix4 0 0 d f) = m ((c : Thread nD τ).loc main_arg4) (ix4 0 e d f') := by
  refine congrArg (m ((c : Thread nD τ).loc main_arg4)) (funext fun a => Fin.ext ?_)
  have h := tw1 ch.1 (grid0.coords t) e he
  have hc := (crd_eq t).2
  match a with
  | ⟨0, _⟩ =>
    show cc0_transform_1 k0_off1_inb numel1_S1 ch.1 (grid0.coords t) 0 * 1 + 1 * 0 = 0
    have h1 : cc0_transform_1 k0_off1_inb numel1_S1 ch.1 (grid0.coords t) 0 = 0 := congrFun h 0
    rw [h1]
  | ⟨1, _⟩ =>
    show cc0_transform_1 k0_off1_inb numel1_S1 ch.1 (grid0.coords t) 1 * 1 + 1 * 0 = e.val
    have h1 : cc0_transform_1 k0_off1_inb numel1_S1 ch.1 (grid0.coords t) 1 = e.val := congrFun h 1
    rw [h1]; omega
  | ⟨2, _⟩ =>
    show cc0_transform_1 k0_off1_inb numel1_S1 ch.1 (grid0.coords t) 2 * 2048 + 1 * d.val = d.val
    have h1 : cc0_transform_1 k0_off1_inb numel1_S1 ch.1 (grid0.coords t) 2 = 0 := congrFun h 2
    rw [h1, Nat.zero_mul, Nat.zero_add, Nat.one_mul]
  | ⟨3, _⟩ =>
    show cc0_transform_1 k0_off1_inb numel1_S1 ch.1 (grid0.coords t) 3 * 256 + 1 * f.val = f'.val
    have h1 : cc0_transform_1 k0_off1_inb numel1_S1 ch.1 (grid0.coords t) 3 = (grid0.coords t 1).val := congrFun h 3
    rw [h1, hc]; omega

theorem x2_apply (c : Dev nD) (t : Fin (cfgA ch).N) (e : Fin 16) (he : ch.1 0 (ix1 (grid0.coords t 0)) = BitVec.ofNat 32 e.val)
    (d : Fin 2048) (f : Fin 256) (f' : Fin 1024) (hf : t.val % 4 * 256 + f.val = f'.val) :
    iblk ch m ρ c (2 : Fin 6) t (ix4 0 0 d f) = m ((c : Thread nD τ).loc main_arg5) (ix4 0 e d f') := by
  refine congrArg (m ((c : Thread nD τ).loc main_arg5)) (funext fun a => Fin.ext ?_)
  have h := tw2 ch.1 (grid0.coords t) e he
  have hc := (crd_eq t).2
  match a with
  | ⟨0, _⟩ =>
    show cc0_transform_2 k0_off1_inb numel1_S1 ch.1 (grid0.coords t) 0 * 1 + 1 * 0 = 0
    have h1 : cc0_transform_2 k0_off1_inb numel1_S1 ch.1 (grid0.coords t) 0 = 0 := congrFun h 0
    rw [h1]
  | ⟨1, _⟩ =>
    show cc0_transform_2 k0_off1_inb numel1_S1 ch.1 (grid0.coords t) 1 * 1 + 1 * 0 = e.val
    have h1 : cc0_transform_2 k0_off1_inb numel1_S1 ch.1 (grid0.coords t) 1 = e.val := congrFun h 1
    rw [h1]; omega
  | ⟨2, _⟩ =>
    show cc0_transform_2 k0_off1_inb numel1_S1 ch.1 (grid0.coords t) 2 * 2048 + 1 * d.val = d.val
    have h1 : cc0_transform_2 k0_off1_inb numel1_S1 ch.1 (grid0.coords t) 2 = 0 := congrFun h 2
    rw [h1, Nat.zero_mul, Nat.zero_add, Nat.one_mul]
  | ⟨3, _⟩ =>
    show cc0_transform_2 k0_off1_inb numel1_S1 ch.1 (grid0.coords t) 3 * 256 + 1 * f.val = f'.val
    have h1 : cc0_transform_2 k0_off1_inb numel1_S1 ch.1 (grid0.coords t) 3 = (grid0.coords t 1).val := congrFun h 3
    rw [h1, hc]; omega

theorem x3_apply (c : Dev nD) (t : Fin (cfgA ch).N) (e : Fin 16) (he : ch.1 0 (ix1 (grid0.coords t 0)) = BitVec.ofNat 32 e.val)
    (n : Fin 2048) (f : Fin 256) (f' : Fin 1024) (hf : t.val % 4 * 256 + f.val = f'.val) :
    iblk ch m ρ c (3 : Fin 6) t (ix4 0 0 f n) = m ((c : Thread nD τ).loc main_arg6) (ix4 0 e f' n) := by
  refine congrArg (m ((c : Thread nD τ).loc main_arg6)) (funext fun a => Fin.ext ?_)
  have h := tw3 ch.1 (grid0.coords t) e he
  have hc := (crd_eq t).2
  match a with
  | ⟨0, _⟩ =>
    show cc0_transform_3 k0_off1_inb numel1_S1 ch.1 (grid0.coords t) 0 * 1 + 1 * 0 = 0
    have h1 : cc0_transform_3 k0_off1_inb numel1_S1 ch.1 (grid0.coords t) 0 = 0 := congrFun h 0
    rw [h1]
  | ⟨1, _⟩ =>
    show cc0_transform_3 k0_off1_inb numel1_S1 ch.1 (grid0.coords t) 1 * 1 + 1 * 0 = e.val
    have h1 : cc0_transform_3 k0_off1_inb numel1_S1 ch.1 (grid0.coords t) 1 = e.val := congrFun h 1
    rw [h1]; omega
  | ⟨2, _⟩ =>
    show cc0_transform_3 k0_off1_inb numel1_S1 ch.1 (grid0.coords t) 2 * 256 + 1 * f.val = f'.val
    have h1 : cc0_transform_3 k0_off1_inb numel1_S1 ch.1 (grid0.coords t) 2 = (grid0.coords t 1).val := congrFun h 2
    rw [h1, hc]; omega
  | ⟨3, _⟩ =>
    show cc0_transform_3 k0_off1_inb numel1_S1 ch.1 (grid0.coords t) 3 * 2048 + 1 * n.val = n.val
    have h1 : cc0_transform_3 k0_off1_inb numel1_S1 ch.1 (grid0.coords t) 3 = 0 := congrFun h 3
    rw [h1, Nat.zero_mul, Nat.zero_add, Nat.one_mul]

/-- A column block's share is that block's part of the reference's sum. -/
def part (x0 : FVec Ideal S26624x2048 .bf16) (x4 x5 : FVec Ideal S2x16x2048x1024 .f32) (x6 : FVec Ideal S2x16x1024x2048 .f32)
    (R : Fin 26624) (e : Fin 16) (n : Fin 2048) (j : Fin 4) : EReal :=
  ∑ f : Fin 256, (ExpertsRef.silu (gsum x0 x4 R e ⟨j.val * 256 + f.val, by omega⟩) * gsum x0 x5 R e ⟨j.val * 256 + f.val, by omega⟩)
    * x6 (ix4 0 e ⟨j.val * 256 + f.val, by omega⟩ n)

theorem share_eq (c : Dev nD) (t : Fin (cfgA ch).N) (e : Fin 16) (he : ch.1 0 (ix1 (grid0.coords t 0)) = BitVec.ofNat 32 e.val)
    (R : Fin 26624) (r : Fin 512) (hR : t.val / 4 * 512 + r.val = R.val) (n : Fin 2048) (j : Fin 4) (hj : t.val % 4 = j.val) :
    share (iblk ch m ρ c (0 : Fin 6) t) (iblk ch m ρ c (1 : Fin 6) t) (iblk ch m ρ c (2 : Fin 6) t) (iblk ch m ρ c (3 : Fin 6) t) r n
      = part (m ((c : Thread nD τ).loc main_arg0)) (m ((c : Thread nD τ).loc main_arg4)) (m ((c : Thread nD τ).loc main_arg5)) (m ((c : Thread nD τ).loc main_arg6)) R e n j := by
  unfold share part
  refine Finset.sum_congr rfl fun f _ => ?_
  have hf : t.val % 4 * 256 + f.val = (⟨j.val * 256 + f.val, by omega⟩ : Fin 1024).val := by rw [hj]
  have b1 : bsum (iblk ch m ρ c (0 : Fin 6) t) (iblk ch m ρ c (1 : Fin 6) t) r f
      = gsum (m ((c : Thread nD τ).loc main_arg0)) (m ((c : Thread nD τ).loc main_arg4)) R e ⟨j.val * 256 + f.val, by omega⟩ := by
    unfold bsum gsum
    exact Finset.sum_congr rfl fun d _ => by rw [x0_apply ch m ρ c t R r d hR, x1_apply ch m ρ c t e he d f _ hf]
  have b2 : bsum (iblk ch m ρ c (0 : Fin 6) t) (iblk ch m ρ c (2 : Fin 6) t) r f
      = gsum (m ((c : Thread nD τ).loc main_arg0)) (m ((c : Thread nD τ).loc main_arg5)) R e ⟨j.val * 256 + f.val, by omega⟩ := by
    unfold bsum gsum
    exact Finset.sum_congr rfl fun d _ => by rw [x0_apply ch m ρ c t R r d hR, x2_apply ch m ρ c t e he d f _ hf]
  rw [b1, b2, x3_apply ch m ρ c t e he n f _ hf]
  rfl

/-- The reference's sum over an expert's 1024 columns, block by block. -/
theorem yv_parts (x0 : FVec Ideal S26624x2048 .bf16) (x4 x5 : FVec Ideal S2x16x2048x1024 .f32) (x6 : FVec Ideal S2x16x1024x2048 .f32)
    (R : Fin 26624) (e : Fin 16) (n : Fin 2048) :
    yv x0 x4 x5 x6 R e n = ((part x0 x4 x5 x6 R e n 0 + part x0 x4 x5 x6 R e n 1) + part x0 x4 x5 x6 R e n 2) + part x0 x4 x5 x6 R e n 3 := by
  have h : yv x0 x4 x5 x6 R e n = ∑ j : Fin 4, part x0 x4 x5 x6 R e n j := by
    unfold yv part
    rw [← Finset.sum_product']
    refine (Finset.sum_equiv (finProdFinEquiv (m := 4) (n := 256)) (by simp) ?_).symm
    intro p _
    have hp : (⟨p.1.val * 256 + p.2.val, by omega⟩ : Fin 1024) = finProdFinEquiv p := by
      apply Fin.ext; show p.1.val * 256 + p.2.val = p.2.val + 256 * p.1.val; omega
    simp only [hp]
  rw [h, Fin.sum_univ_four]

/-! ## A tile's block after each of its four points -/

theorem cond1_iff (i : grid0.Coords) (v : BitVec 32) : k0_cond1 i v = 1#1 ↔ IntOp.cmpi .slt (BitVec.ofNat 32 (i 0).val) v = 1#1 := by
  unfold k0_cond1
  dsimp only
  show _ ↔ Scalar.cmpi .slt (BitVec.ofNat 32 (i 0).val) v = 1#1
  generalize Scalar.cmpi .slt (BitVec.ofNat 32 (i 0).val) v = b
  revert b
  decide

theorem nv_eq : nv ch = ch.1 1 (ix1 0) := by
  refine congrArg (ch.1 1) (funext fun a => ?_)
  match a with
  | ⟨0, _⟩ => exact Fin.ext rfl

/-- The point's tile is a valid one. -/
def Valid (I : ℕ) : Prop := IntOp.cmpi .slt (BitVec.ofNat 32 I) (ch.1 1 (ix1 0)) = 1#1

theorem P0_iff (t : Fin (cfgA ch).N) : P0_0 ch t ↔ Valid ch (t.val / 4) := by
  show k0_cond1 (grid0.coords t) (nv ch) = 1#1 ↔ _
  rw [cond1_iff, nv_eq, (crd_eq t).1]
  exact Iff.rfl

theorem tr_first (c : Dev nD) (t : Fin (cfgA ch).N) (hv : Valid ch (t.val / 4)) (h : t.val % 4 = 0) (r : Fin 512) (n : Fin 2048) :
    traj0 ch m ρ c t.val t.isLt (ix2 r n)
      = share (iblk ch m ρ c (0 : Fin 6) t) (iblk ch m ρ c (1 : Fin 6) t) (iblk ch m ρ c (2 : Fin 6) t) (iblk ch m ρ c (3 : Fin 6) t) r n := by
  rw [traj0_eq, step0_A ch m ρ c t _ ((P0_iff ch t).2 hv) ((cond2_at t).2 h)]
  refine (congrFun (ExpertsBody.out_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) _ _ _ _ _ _ _ _ _ _ _ _) _).trans ?_
  exact ExpertsBody.pay3_apply _ _ _ _ r n

theorem prev_eq (c : Dev nD) (t : Fin (cfgA ch).N) (h : ¬ t.val = 0) : prev0 ch m ρ c t = traj0 ch m ρ c (t.val - 1) (by omega) := by
  unfold prev0; exact dif_neg h

theorem tr_mid (c : Dev nD) (t : Fin (cfgA ch).N) (hv : Valid ch (t.val / 4)) (h : ¬ t.val % 4 = 0) (h3 : ¬ t.val % 4 = 3) (r : Fin 512) (n : Fin 2048) :
    traj0 ch m ρ c t.val t.isLt (ix2 r n) = traj0 ch m ρ c (t.val - 1) (by omega) (ix2 r n)
      + share (iblk ch m ρ c (0 : Fin 6) t) (iblk ch m ρ c (1 : Fin 6) t) (iblk ch m ρ c (2 : Fin 6) t) (iblk ch m ρ c (3 : Fin 6) t) r n := by
  rw [traj0_eq, step0_B ch m ρ c t _ ((P0_iff ch t).2 hv) (fun q => h ((cond2_at t).1 q)) (fun q => h3 ((cond4_at t).1 q))]
  refine (congrFun (ExpertsBody.out_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) _ _ _ _ _ _ _ _ _ _ _ _ _) _).trans ?_
  rw [prev_eq ch m ρ c t (fun q => h (by rw [q]))]
  exact ExpertsBody.pay4_apply _ _ _ _ _ r n

theorem tr_last (c : Dev nD) (t : Fin (cfgA ch).N) (hv : Valid ch (t.val / 4)) (h3 : t.val % 4 = 3) (r : Fin 512) (n : Fin 2048) :
    traj0 ch m ρ c t.val t.isLt (ix2 r n) = (traj0 ch m ρ c (t.val - 1) (by omega) (ix2 r n)
      + share (iblk ch m ρ c (0 : Fin 6) t) (iblk ch m ρ c (1 : Fin 6) t) (iblk ch m ρ c (2 : Fin 6) t) (iblk ch m ρ c (3 : Fin 6) t) r n)
      * iblk ch m ρ c (4 : Fin 6) t (ix2 r 0) := by
  rw [traj0_eq, step0_C ch m ρ c t _ ((P0_iff ch t).2 hv) (fun q => by have := (cond2_at t).1 q; omega) ((cond4_at t).2 h3)]
  refine (congrFun (ExpertsBody.out_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) _ _ _ _ _ _ _ _ _ _ _ _ _) _).trans ?_
  rw [prev_eq ch m ρ c t (fun q => by rw [q] at h3; omega)]
  refine (ExpertsBody.pay1_apply _ _ r n).trans ?_
  rw [ExpertsBody.pay4_apply]

theorem tr_zero (c : Dev nD) (t : Fin (cfgA ch).N) (hv : ¬ Valid ch (t.val / 4)) (h : t.val % 4 = 0) (r : Fin 512) (n : Fin 2048) :
    traj0 ch m ρ c t.val t.isLt (ix2 r n) = 0 := by
  have q0 : ¬ P0_0 ch t := fun q => hv ((P0_iff ch t).1 q)
  rw [traj0_eq, step0_D ch m ρ c t _ q0 ((cond5_iff _ _).2 ⟨q0, (cond2_at t).2 h⟩)]
  refine (congrFun (ExpertsBody.out_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) _ _ _ _ _ _ _ _ _) _).trans ?_
  exact ExpertsBody.pay2_apply r n

theorem tr_keep (c : Dev nD) (t : Fin (cfgA ch).N) (hv : ¬ Valid ch (t.val / 4)) (h : ¬ t.val % 4 = 0) :
    traj0 ch m ρ c t.val t.isLt = traj0 ch m ρ c (t.val - 1) (by omega) := by
  have q0 : ¬ P0_0 ch t := fun q => hv ((P0_iff ch t).1 q)
  rw [traj0_eq, step0_E ch m ρ c t _ q0 (fun q => h ((cond2_at t).1 ((cond5_iff _ _).1 q).2)), fresh5, decide_eq_false h,
    prev_eq ch m ρ c t (fun q => h (by rw [q]))]
  rfl

theorem tr_congr (c : Dev nD) {a b : ℕ} (e : a = b) (ha : a < (cfgA ch).N) (hb : b < (cfgA ch).N) : traj0 ch m ρ c a ha = traj0 ch m ρ c b hb := by
  subst e; rfl

/-- After a tile's last point its block holds the reference's rows. -/
theorem tile_eq (c : Dev nD) (t : Fin (cfgA ch).N) (h3 : t.val % 4 = 3) (e : Fin 16) (i : Fin 52) (hi : i.val = t.val / 4)
    (he : ch.1 0 (ix1 i) = BitVec.ofNat 32 e.val) (R : Fin 26624) (r : Fin 512) (hR : t.val / 4 * 512 + r.val = R.val) (n : Fin 2048) [Decidable (Valid ch (t.val / 4))] :
    traj0 ch m ρ c t.val t.isLt (ix2 r n)
      = if Valid ch (t.val / 4) then HMul.hMul (α := EReal) (β := EReal) (γ := EReal) (m ((c : Thread nD τ).loc main_arg3) (ix2 R 0))
          (yv (m ((c : Thread nD τ).loc main_arg0)) (m ((c : Thread nD τ).loc main_arg4)) (m ((c : Thread nD τ).loc main_arg5)) (m ((c : Thread nD τ).loc main_arg6)) R e n)
        else 0 := by
  have ht := t.isLt
  have hN : (cfgA ch).N = 208 := N_eq
  let t0 : Fin (cfgA ch).N := ⟨t.val - 3, by omega⟩
  let t1 : Fin (cfgA ch).N := ⟨t.val - 2, by omega⟩
  let t2 : Fin (cfgA ch).N := ⟨t.val - 1, by omega⟩
  have d0 : t0.val / 4 = t.val / 4 := by show (t.val - 3) / 4 = _; omega
  have d1 : t1.val / 4 = t.val / 4 := by show (t.val - 2) / 4 = _; omega
  have d2 : t2.val / 4 = t.val / 4 := by show (t.val - 1) / 4 = _; omega
  have m0 : t0.val % 4 = 0 := by show (t.val - 3) % 4 = _; omega
  have m1 : t1.val % 4 = 1 := by show (t.val - 2) % 4 = _; omega
  have m2 : t2.val % 4 = 2 := by show (t.val - 1) % 4 = _; omega
  have hw : ∀ s : Fin (cfgA ch).N, s.val / 4 = t.val / 4 → ch.1 0 (ix1 (grid0.coords s 0)) = BitVec.ofNat 32 e.val := fun s hs => by
    rw [← he]
    refine congrArg (fun k : Fin 52 => ch.1 0 (ix1 k)) (Fin.ext ?_)
    rw [(crd_eq s).1, hs, hi]
  by_cases hv : Valid ch (t.val / 4)
  · rw [if_pos hv, tr_last ch m ρ c t hv h3]
    have e2 := tr_mid ch m ρ c t2 (by rw [d2]; exact hv) (by omega) (by omega) r n
    have e1 := tr_mid ch m ρ c t1 (by rw [d1]; exact hv) (by omega) (by omega) r n
    have e0 := tr_first ch m ρ c t0 (by rw [d0]; exact hv) m0 r n
    rw [share_eq ch m ρ c t e (hw t rfl) R r hR n 3 h3]
    rw [share_eq ch m ρ c t2 e (hw t2 d2) R r (by rw [d2]; exact hR) n 2 m2] at e2
    rw [share_eq ch m ρ c t1 e (hw t1 d1) R r (by rw [d1]; exact hR) n 1 m1] at e1
    rw [share_eq ch m ρ c t0 e (hw t0 d0) R r (by rw [d0]; exact hR) n 0 m0] at e0
    rw [tr_congr ch m ρ c (show t.val - 1 = t2.val from rfl) (by omega) t2.isLt, e2,
      tr_congr ch m ρ c (show t2.val - 1 = t1.val from by show t.val - 1 - 1 = t.val - 2; omega) (by omega) t1.isLt, e1,
      tr_congr ch m ρ c (show t1.val - 1 = t0.val from by show t.val - 2 - 1 = t.val - 3; omega) (by omega) t0.isLt, e0,
      x4_apply ch m ρ c t R r hR, yv_parts, mul_comm]
  · rw [if_neg hv, tr_keep ch m ρ c t hv (by omega), tr_congr ch m ρ c (show t.val - 1 = t2.val from rfl) (by omega) t2.isLt,
      tr_keep ch m ρ c t2 (by rw [d2]; exact hv) (by omega),
      tr_congr ch m ρ c (show t2.val - 1 = t1.val from by show t.val - 1 - 1 = t.val - 2; omega) (by omega) t1.isLt,
      tr_keep ch m ρ c t1 (by rw [d1]; exact hv) (by omega),
      tr_congr ch m ρ c (show t1.val - 1 = t0.val from by show t.val - 2 - 1 = t.val - 3; omega) (by omega) t0.isLt,
      tr_zero ch m ρ c t0 (by rw [d0]; exact hv) m0]

/-! ## The whole result -/

theorem covers5 : ((cfgA ch).win (5 : Fin 6)).Covers := by
  refine Pipeline.Window.covers_of_index_surj _ rfl (fun a => match a with | ⟨0, _⟩ => show 0 < 512 by decide | ⟨1, _⟩ => show 0 < 2048 by decide) fun β => ?_
  have h0 : (β 0).val < (26624 + 512 - 1) / 512 := (β 0).isLt
  have h1 : (β 1).val < (2048 + 2048 - 1) / 2048 := (β 1).isLt
  refine ⟨⟨4 * (β 0).val, show 4 * (β 0).val < grid0.N by rw [N_eq]; omega⟩, fun a => ?_⟩
  have h := tr5 ⟨4 * (β 0).val, by rw [N_eq]; omega⟩
  match a with
  | ⟨0, _⟩ => exact (congrFun h 0).trans (show 4 * (β 0).val / 4 = (β 0).val by omega)
  | ⟨1, _⟩ => exact (congrFun h 1).trans (show 0 = (β 1).val by omega)

/-- The array the call leaves is the reference's, for tables whose expert numbers are in range. -/
theorem final_eq (hp : Pinned ch m) (ex : Fin 52 → Fin 16) (hex : ∀ i, ch.1 0 (ix1 i) = BitVec.ofNat 32 (ex i).val) (c : Dev nD)
    (x0 : FVec Ideal S26624x2048 .bf16) (x1 : S52.Idx → BitVec 32) (x2 : S1.Idx → BitVec 32) (x3 : FVec Ideal S26624x1 .f32)
    (x4 x5 : FVec Ideal S2x16x2048x1024 .f32) (x6 : FVec Ideal S2x16x1024x2048 .f32)
    (h0 : m ((c : Thread nD τ).loc main_arg0) = x0) (h1 : ch.1 0 = x1) (h2 : ch.1 1 = x2)
    (h3 : m ((c : Thread nD τ).loc main_arg3) = x3) (h4 : m ((c : Thread nD τ).loc main_arg4) = x4)
    (h5 : m ((c : Thread nD τ).loc main_arg5) = x5) (h6 : m ((c : Thread nD τ).loc main_arg6) = x6) :
    (dats ch m ρ 0 c).arrAt (5 : Fin 6) (cfgA ch).N = Cert.ExpertsRefIdeal.Read.val_main_v35 (F := Ideal) x0 x1 x2 x3 x4 x5 x6 := by
  refine (dats ch m ρ 0 c).arrAt_eq_of_covers (5 : Fin 6) _ (covers5 ch) fun t hf y => ?_
  have h3' : t.val % 4 = 3 := by rw [flush5] at hf; exact of_decide_eq_true hf
  have ht : t.val < 208 := Nat.lt_of_lt_of_eq t.isLt N_eq
  have hr : (y 0).val < 512 := (y 0).isLt
  have hd : (y 1).val < 2048 := (y 1).isLt
  let r : Fin 512 := ⟨(y 0).val, hr⟩
  let n : Fin 2048 := ⟨(y 1).val, hd⟩
  let R : Fin 26624 := ⟨t.val / 4 * 512 + (y 0).val, by omega⟩
  let i : Fin 52 := ⟨t.val / 4, by omega⟩
  have hy : y = ix2 r n := by funext a; match a with | ⟨0, _⟩ => rfl | ⟨1, _⟩ => rfl
  have hemb : (((cfgA ch).win (5 : Fin 6)).blk t).view.emb y = ix2 R n := by
    funext a
    apply Fin.ext
    match a with
    | ⟨0, _⟩ =>
      show cc0_transform_5 (grid0.coords t) 0 * 512 + 1 * (y 0).val = t.val / 4 * 512 + (y 0).val
      have h1 : cc0_transform_5 (grid0.coords t) 0 = t.val / 4 := congrFun (tr5 t) 0
      rw [h1, Nat.one_mul]
    | ⟨1, _⟩ =>
      show cc0_transform_5 (grid0.coords t) 1 * 2048 + 1 * (y 1).val = (y 1).val
      have h1 : cc0_transform_5 (grid0.coords t) 1 = 0 := congrFun (tr5 t) 1
      rw [h1, Nat.zero_mul, Nat.zero_add, Nat.one_mul]
  rw [hemb]
  have e := Cert.ExpertsRef.v35_apply x0 x1 x2 x3 x4 x5 x6 R n i (show t.val / 4 = (t.val / 4 * 512 + (y 0).val) / 512 by omega) (ex i) (by rw [← h1]; exact hex i)
  classical
  have o := tile_eq ch m ρ c t h3' (ex i) i rfl (hex i) R r rfl n
  rw [h0, h3, h4, h5, h6] at o
  refine Eq.trans ?_ e.symm
  refine Eq.trans (b := traj0 ch m ρ c t.val t.isLt (ix2 r n)) ?_ (o.trans ?_)
  · rw [after0_5]
    exact congrArg (traj0 ch m ρ c t.val t.isLt) hy
  · unfold Valid
    rw [h2]
    congr

end Cert.ExpertsValue

end
-- ==== Proof.ExpertsClaim.lean ====
/- The experts call's claims: the precondition puts every expert number in range, so the call's frame and value hold at the
   tables the launch memory holds, whatever they are. -/
module

public import proofs.«01_k».proof.Defs
public import proofs.«01_k».proof.Proof.Gen.Pre_experts_in_range
public import proofs.«01_k».proof.Proof.Gen.ExpertsRefIdeal.Run
public import proofs.«01_k».proof.Proof.ExpertsFrame
public import proofs.«01_k».proof.Proof.ExpertsValue

@[expose] public section

set_option maxRecDepth 16384
noncomputable section
namespace Cert.ExpertsClaim
open Idealize.ShloMosaic Idealize.ShloMosaic.TcCoe Idealize.SL.Sem

theorem ofBool_eq_one {b : Bool} (h : BitVec.ofBool b = 1#1) : b = true := by cases b <;> simp_all

open Cert.Pre_experts_in_range in
/-- What the precondition says: every tile's expert number is below sixteen. -/
theorem in_range {F : FTy → Type} [FloatOps F] [Cert.Pre_experts_in_range.Facts] (x0 : FVec F S26624x2048 .bf16) (x1 : IVec S52 32) (x2 : IVec S1 32) (x3 : FVec F S26624x1 .f32)
    (x4 x5 : FVec F S2x16x2048x1024 .f32) (x6 : FVec F S2x16x1024x2048 .f32) (h : Cert.Pre_experts_in_range.fn x0 x1 x2 x3 x4 x5 x6 = fun _ => 1#1) (i : S52.Idx) :
    (x1 i).toNat < 16 := by
  have e := congrFun h i
  unfold Cert.Pre_experts_in_range.fn at e
  obtain ⟨e0, e1⟩ := IntOp.andi_eq_one.1 e
  exact WordArith.toNat_lt_of_zero_sle_of_slt_ofNat (x1 i) 16 (by decide) (ofBool_eq_one e0) (ofBool_eq_one e1)

/-! ## Experts: the tables of a launch memory -/

namespace ExpertsT
open Cert.Experts Cert.Experts.Gen

/-- The pair of tables as the call takes it. -/
def tabs (T0 : S52.Idx → BitVec 32) (T1 : S1.Idx → BitVec 32) : pre0.Contents (Elt Bits) := fun | ⟨0, _⟩ => T0 | ⟨1, _⟩ => T1 | ⟨_ + 2, h⟩ => absurd h (by simp)

theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

theorem col (i : grid0.Coords) : ((BitVec.ofNat 32 (i 1).val).toNat + 1) * 256 ≤ 1024 := by
  have h1 : (i 1).val < 4 := (i 1).isLt
  rw [BitVec.toNat_ofNat]; omega

theorem inb1 (T0 : S52.Idx → BitVec 32) (T1 : S1.Idx → BitVec 32) (h : ∀ i, (T0 i).toNat < 16) (i : grid0.Coords) :
    ∀ a, (cc0_transform_1 k0_off1_inb numel1_S1 (tabs T0 T1) i a + 1) * S1x1x2048x256.size a ≤ S2x16x2048x1024.size a :=
  okcons (by decide) (okcons (by rw [Nat.mul_one]; exact h _) (okcons (by decide) (okcons (col i) fun a => a.elim0)))

theorem inb2 (T0 : S52.Idx → BitVec 32) (T1 : S1.Idx → BitVec 32) (h : ∀ i, (T0 i).toNat < 16) (i : grid0.Coords) :
    ∀ a, (cc0_transform_2 k0_off1_inb numel1_S1 (tabs T0 T1) i a + 1) * S1x1x2048x256.size a ≤ S2x16x2048x1024.size a :=
  okcons (by decide) (okcons (by rw [Nat.mul_one]; exact h _) (okcons (by decide) (okcons (col i) fun a => a.elim0)))

theorem inb3 (T0 : S52.Idx → BitVec 32) (T1 : S1.Idx → BitVec 32) (h : ∀ i, (T0 i).toNat < 16) (i : grid0.Coords) :
    ∀ a, (cc0_transform_3 k0_off1_inb numel1_S1 (tabs T0 T1) i a + 1) * S1x1x256x2048.size a ≤ S2x16x1024x2048.size a :=
  okcons (by decide) (okcons (by rw [Nat.mul_one]; exact h _) (okcons (col i) (okcons (by decide) fun a => a.elim0)))

/-- Tables whose expert numbers are below sixteen keep every weight block inside its array. -/
def tab (T0 : S52.Idx → BitVec 32) (T1 : S1.Idx → BitVec 32) (h : ∀ i, (T0 i).toNat < 16) : Cert.Experts.AnyTables.Tab :=
  ⟨tabs T0 T1, fun i => ⟨inb1 T0 T1 h i, .inl rfl⟩, fun i => ⟨inb2 T0 T1 h i, .inl rfl⟩, fun i => ⟨inb3 T0 T1 h i, .inl rfl⟩⟩

theorem pinned (m : (ℓ : Loc nD τ sig) → Buf (Elt Bits) ℓ) (c₀ : Dev nD) (h : ∀ i, ((m ((c₀.tc : Thread nD τ).loc main_arg1) : S52.Idx → BitVec 32) i).toNat < 16) :
    Cert.Experts.AnyTables.Pinned (tab (m ((c₀.tc : Thread nD τ).loc main_arg1)) (m ((c₀.tc : Thread nD τ).loc main_arg2)) h) m :=
  ⟨fun c => by rw [Subsingleton.elim c c₀]; rfl, fun c => by rw [Subsingleton.elim c c₀]; rfl⟩

end ExpertsT

/-! ## ExpertsIdeal: the tables of a launch memory -/

namespace ExpertsIdealT
open Cert.ExpertsIdeal Cert.ExpertsIdeal.Gen

/-- The pair of tables as the call takes it. -/
def tabs (T0 : S52.Idx → BitVec 32) (T1 : S1.Idx → BitVec 32) : pre0.Contents (Elt Ideal) := fun | ⟨0, _⟩ => T0 | ⟨1, _⟩ => T1 | ⟨_ + 2, h⟩ => absurd h (by simp)

theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

theorem col (i : grid0.Coords) : ((BitVec.ofNat 32 (i 1).val).toNat + 1) * 256 ≤ 1024 := by
  have h1 : (i 1).val < 4 := (i 1).isLt
  rw [BitVec.toNat_ofNat]; omega

theorem inb1 (T0 : S52.Idx → BitVec 32) (T1 : S1.Idx → BitVec 32) (h : ∀ i, (T0 i).toNat < 16) (i : grid0.Coords) :
    ∀ a, (cc0_transform_1 k0_off1_inb numel1_S1 (tabs T0 T1) i a + 1) * S1x1x2048x256.size a ≤ S2x16x2048x1024.size a :=
  okcons (by decide) (okcons (by rw [Nat.mul_one]; exact h _) (okcons (by decide) (okcons (col i) fun a => a.elim0)))

theorem inb2 (T0 : S52.Idx → BitVec 32) (T1 : S1.Idx → BitVec 32) (h : ∀ i, (T0 i).toNat < 16) (i : grid0.Coords) :
    ∀ a, (cc0_transform_2 k0_off1_inb numel1_S1 (tabs T0 T1) i a + 1) * S1x1x2048x256.size a ≤ S2x16x2048x1024.size a :=
  okcons (by decide) (okcons (by rw [Nat.mul_one]; exact h _) (okcons (by decide) (okcons (col i) fun a => a.elim0)))

theorem inb3 (T0 : S52.Idx → BitVec 32) (T1 : S1.Idx → BitVec 32) (h : ∀ i, (T0 i).toNat < 16) (i : grid0.Coords) :
    ∀ a, (cc0_transform_3 k0_off1_inb numel1_S1 (tabs T0 T1) i a + 1) * S1x1x256x2048.size a ≤ S2x16x1024x2048.size a :=
  okcons (by decide) (okcons (by rw [Nat.mul_one]; exact h _) (okcons (col i) (okcons (by decide) fun a => a.elim0)))

/-- Tables whose expert numbers are below sixteen keep every weight block inside its array. -/
def tab (T0 : S52.Idx → BitVec 32) (T1 : S1.Idx → BitVec 32) (h : ∀ i, (T0 i).toNat < 16) : Cert.ExpertsIdeal.AnyTables.Tab :=
  ⟨tabs T0 T1, fun i => ⟨inb1 T0 T1 h i, .inl rfl⟩, fun i => ⟨inb2 T0 T1 h i, .inl rfl⟩, fun i => ⟨inb3 T0 T1 h i, .inl rfl⟩⟩

theorem pinned (m : (ℓ : Loc nD τ sig) → Buf (Elt Ideal) ℓ) (c₀ : Dev nD) (h : ∀ i, ((m ((c₀.tc : Thread nD τ).loc main_arg1) : S52.Idx → BitVec 32) i).toNat < 16) :
    Cert.ExpertsIdeal.AnyTables.Pinned (tab (m ((c₀.tc : Thread nD τ).loc main_arg1)) (m ((c₀.tc : Thread nD τ).loc main_arg2)) h) m :=
  ⟨fun c => by rw [Subsingleton.elim c c₀]; rfl, fun c => by rw [Subsingleton.elim c c₀]; rfl⟩

end ExpertsIdealT

/-! ## The claims -/

attribute [local instance] Cert.Experts.Gen.facts Cert.ExpertsIdeal.Gen.facts Cert.ExpertsRefIdeal.Gen.facts Cert.Pre_experts_in_range.Gen.facts

theorem frame : Cert.quiescent_Experts := by
  intro m g hpre
  exact Cert.Experts.AnyTables.frame _ m g (ExpertsT.pinned m 0 fun i => in_range _ _ _ _ _ _ _ (hpre 0) i)

theorem frame_ideal : Cert.quiescent_ExpertsIdeal := by
  intro m g hpre
  exact Cert.ExpertsIdeal.AnyTables.frame _ m g (ExpertsIdealT.pinned m 0 fun i => in_range _ _ _ _ _ _ _ (hpre 0) i)

open Cert.ExpertsIdeal in
/-- The blocked, routed experts and the plain ones end with equal arrays. -/
theorem algebraic : Cert.algebraic_ExpertsIdeal_ExpertsRefIdeal := by
  intro m g m' g' hpre hag
  have hlt := fun i => in_range _ _ _ _ _ _ _ (hpre 0) i
  have hp := ExpertsIdealT.pinned m 0 hlt
  refine ⟨fun c => Cert.ExpertsRefIdeal.Read.val_main_v35 (F := Ideal) (m' ((c.tc : Thread Cert.ExpertsRefIdeal.nD Cert.ExpertsRefIdeal.τ).loc Cert.ExpertsRefIdeal.main_arg0)) (m' ((c.tc : Thread Cert.ExpertsRefIdeal.nD Cert.ExpertsRefIdeal.τ).loc Cert.ExpertsRefIdeal.main_arg1)) (m' ((c.tc : Thread Cert.ExpertsRefIdeal.nD Cert.ExpertsRefIdeal.τ).loc Cert.ExpertsRefIdeal.main_arg2)) (m' ((c.tc : Thread Cert.ExpertsRefIdeal.nD Cert.ExpertsRefIdeal.τ).loc Cert.ExpertsRefIdeal.main_arg3)) (m' ((c.tc : Thread Cert.ExpertsRefIdeal.nD Cert.ExpertsRefIdeal.τ).loc Cert.ExpertsRefIdeal.main_arg4)) (m' ((c.tc : Thread Cert.ExpertsRefIdeal.nD Cert.ExpertsRefIdeal.τ).loc Cert.ExpertsRefIdeal.main_arg5)) (m' ((c.tc : Thread Cert.ExpertsRefIdeal.nD Cert.ExpertsRefIdeal.τ).loc Cert.ExpertsRefIdeal.main_arg6)), ?_, ?_⟩
  · refine (θ_run _ _ _).mono ?_ (θ_run_and (Cert.ExpertsIdeal.AnyTables.run_main _ m g hp) (Cert.ExpertsIdeal.AnyTables.unchanged _ m g hp))
    rintro r ⟨hr, hu⟩ c
    obtain ⟨a0, a1, a2, a3, a4, a5, a6⟩ := hag c
    refine ⟨((hr c).1 (5 : Fin 6)).trans ?_, hu c⟩
    refine Cert.ExpertsValue.final_eq _ m g hp (fun i => ⟨_, hlt (ix1 i)⟩) (fun i => ?_) c _ _ _ _ _ _ _ a0.symm ?_ ?_ a3.symm a4.symm a5.symm a6.symm
    · apply BitVec.eq_of_toNat_eq
      rw [BitVec.toNat_ofNat]
      exact (Nat.mod_eq_of_lt (by have := hlt (ix1 i); omega)).symm
    · rw [a1]; exact (hp.1 c).symm
    · rw [a2]; exact (hp.2 c).symm
  · refine (θ_run _ _ _).mono ?_ (Cert.ExpertsRefIdeal.Value.run m' g')
    intro r hr c
    obtain ⟨hv, ha⟩ := hr c
    exact ⟨hv.trans (Cert.ExpertsRefIdeal.Read.val_main_v35_eq _ _ _ _ _ _ _), ha⟩

end Cert.ExpertsClaim
end
-- ==== Proof.lean ====
/- The proof of the certificate: the frames of the calls and of their references, and the value claims. The frames of
   the experts are Proof/ExpertsFrame.lean's and Proof/ExpertsIdealFrame.lean's, for every content of the prefetched
   table; those of the other calls are the generated ones. A reference is a straight line of host operations that declares no
   semaphore, so its frame is its generated run. The value claims are Proof/FoxClaim.lean's, Proof/ExpertsClaim.lean's and
   those of the Value module of each further call. -/
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.FoxIdeal.Value
public import proofs.«01_k».proof.Proof.Gen.FoxRefIdeal.Run
public import proofs.«01_k».proof.Proof.Gen.FoxRefIdeal.Read
public import proofs.«01_k».proof.Proof.Gen.ExpertsRefIdeal.Run
public import proofs.«01_k».proof.Proof.Gen.ExpertsRefIdeal.Read
public import proofs.«01_k».proof.Proof.Gen.Pre_finite_scores
public import proofs.«01_k».proof.Proof.Gen.Pre_experts_in_range
public import proofs.«01_k».proof.Proof.Gen.Keys
public import proofs.«01_k».proof.Proof.Gen.Keys.Frame
public import proofs.«01_k».proof.Proof.Gen.KeysIdeal
public import proofs.«01_k».proof.Proof.Gen.KeysIdeal.Frame
public import proofs.«01_k».proof.Proof.Gen.KeysIdeal.Value
public import proofs.«01_k».proof.Proof.Gen.KeysRefIdeal
public import proofs.«01_k».proof.Proof.Gen.KeysRefIdeal.Run
public import proofs.«01_k».proof.Proof.Gen.KeysRefIdeal.Read
public import proofs.«01_k».proof.Proof.KeysValue
public import proofs.«01_k».proof.Proof.Gen.Values
public import proofs.«01_k».proof.Proof.Gen.Values.Frame
public import proofs.«01_k».proof.Proof.Gen.ValuesIdeal
public import proofs.«01_k».proof.Proof.Gen.ValuesIdeal.Frame
public import proofs.«01_k».proof.Proof.Gen.ValuesIdeal.Value
public import proofs.«01_k».proof.Proof.Gen.ValuesRefIdeal
public import proofs.«01_k».proof.Proof.Gen.ValuesRefIdeal.Run
public import proofs.«01_k».proof.Proof.Gen.ValuesRefIdeal.Read
public import proofs.«01_k».proof.Proof.ValuesValue
public import proofs.«01_k».proof.Proof.Gen.Odd
public import proofs.«01_k».proof.Proof.Gen.Odd.Frame
public import proofs.«01_k».proof.Proof.Gen.OddIdeal
public import proofs.«01_k».proof.Proof.Gen.OddIdeal.Frame
public import proofs.«01_k».proof.Proof.Gen.OddIdeal.Value
public import proofs.«01_k».proof.Proof.Gen.OddRefIdeal
public import proofs.«01_k».proof.Proof.Gen.OddRefIdeal.Run
public import proofs.«01_k».proof.Proof.Gen.OddRefIdeal.Read
public import proofs.«01_k».proof.Proof.OddValue
public import proofs.«01_k».proof.Proof.Gen.Logf
public import proofs.«01_k».proof.Proof.Gen.Logf.Frame
public import proofs.«01_k».proof.Proof.Gen.LogfIdeal
public import proofs.«01_k».proof.Proof.Gen.LogfIdeal.Frame
public import proofs.«01_k».proof.Proof.Gen.LogfIdeal.Value
public import proofs.«01_k».proof.Proof.Gen.LogfRefIdeal
public import proofs.«01_k».proof.Proof.Gen.LogfRefIdeal.Run
public import proofs.«01_k».proof.Proof.Gen.LogfRefIdeal.Read
public import proofs.«01_k».proof.Proof.LogfValue
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Proof.OutprojValue
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.ConvValue
public import proofs.«01_k».proof.Proof.Gen.Gmlp
public import proofs.«01_k».proof.Proof.Gen.Gmlp.Frame
public import proofs.«01_k».proof.Proof.Gen.GmlpIdeal
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.GmlpRefIdeal.Read
public import proofs.«01_k».proof.Proof.GmlpValue
public import proofs.«01_k».proof.Proof.Gen.Gated
public import proofs.«01_k».proof.Proof.Gen.Gated.Frame
public import proofs.«01_k».proof.Proof.Gen.GatedIdeal
public import proofs.«01_k».proof.Proof.Gen.GatedIdeal.Frame
public import proofs.«01_k».proof.Proof.Gen.GatedIdeal.Value
public import proofs.«01_k».proof.Proof.Gen.GatedRefIdeal
public import proofs.«01_k».proof.Proof.Gen.GatedRefIdeal.Run
public import proofs.«01_k».proof.Proof.Gen.GatedRefIdeal.Read
public import proofs.«01_k».proof.Proof.GatedValue
public import proofs.«01_k».proof.Proof.Gen.ConvStep
public import proofs.«01_k».proof.Proof.Gen.ConvStep.Frame
public import proofs.«01_k».proof.Proof.Gen.ConvStepIdeal
public import proofs.«01_k».proof.Proof.Gen.ConvStepIdeal.Frame
public import proofs.«01_k».proof.Proof.Gen.ConvStepIdeal.Value
public import proofs.«01_k».proof.Proof.Gen.ConvStepRefIdeal
public import proofs.«01_k».proof.Proof.Gen.ConvStepRefIdeal.Run
public import proofs.«01_k».proof.Proof.Gen.ConvStepRefIdeal.Read
public import proofs.«01_k».proof.Proof.ConvStepValue
public import proofs.«01_k».proof.Proof.FoxClaim
public import proofs.«01_k».proof.Proof.ExpertsClaim
public import Idealize.ShloMosaic.Adequacy
public import Idealize.ShloMosaic.Init

@[expose] public section

noncomputable section

namespace Cert.Proof

open Idealize.ShloMosaic Idealize.SL.Sem Cert.Fox

section frames

attribute [local instance] Cert.FoxRefIdeal.Gen.facts Cert.ExpertsRefIdeal.Gen.facts Cert.KeysRefIdeal.Gen.facts Cert.ValuesRefIdeal.Gen.facts Cert.OddRefIdeal.Gen.facts Cert.LogfRefIdeal.Gen.facts Cert.OutprojRefIdeal.Gen.facts Cert.ConvRefIdeal.Gen.facts Cert.GmlpRefIdeal.Gen.facts Cert.GatedRefIdeal.Gen.facts Cert.ConvStepRefIdeal.Gen.facts

/-- The attention's reference leaves its arguments and ends with no counter raised, from any memory. -/
theorem frame_fox_ref : Cert.quiescent_FoxRefIdeal := fun m g _ =>
  (θ_run Cert.FoxRefIdeal.defs _ _).mono (fun r h => ⟨fun c => (h c).2,
      Idealize.ShloMosaic.sem_eq_zero_of_no_sems (by decide) r.2⟩)
    (Cert.FoxRefIdeal.Value.run (F := Ideal) m g)

/-- The experts' reference leaves its arguments and ends with no counter raised, from any memory. -/
theorem frame_experts_ref : Cert.quiescent_ExpertsRefIdeal := fun m g _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m g)

/-- The keys' reference leaves its arguments and ends with no counter raised, from any memory. -/
theorem frame_keys_ref : Cert.quiescent_KeysRefIdeal := fun m g _ =>
  (θ_run Cert.KeysRefIdeal.defs _ _).mono (fun r h => ⟨fun c => (h c).2,
      Idealize.ShloMosaic.sem_eq_zero_of_no_sems (by decide) r.2⟩)
    (Cert.KeysRefIdeal.Value.run (F := Ideal) m g)

/-- The values' reference leaves its arguments and ends with no counter raised, from any memory. -/
theorem frame_values_ref : Cert.quiescent_ValuesRefIdeal := fun m g _ =>
  (θ_run Cert.ValuesRefIdeal.defs _ _).mono (fun r h => ⟨fun c => (h c).2,
      Idealize.ShloMosaic.sem_eq_zero_of_no_sems (by decide) r.2⟩)
    (Cert.ValuesRefIdeal.Value.run (F := Ideal) m g)

/-- The odd projection's reference leaves its arguments and ends with no counter raised, from any memory. -/
theorem frame_odd_ref : Cert.quiescent_OddRefIdeal := fun m g _ =>
  (θ_run Cert.OddRefIdeal.defs _ _).mono (fun r h => ⟨fun c => (h c).2,
      Idealize.ShloMosaic.sem_eq_zero_of_no_sems (by decide) r.2⟩)
    (Cert.OddRefIdeal.Value.run (F := Ideal) m g)

/-- The forget gates' reference leaves its arguments and ends with no counter raised, from any memory. -/
theorem frame_logf_ref : Cert.quiescent_LogfRefIdeal := fun m g _ =>
  (θ_run Cert.LogfRefIdeal.defs _ _).mono (fun r h => ⟨fun c => (h c).2,
      Idealize.ShloMosaic.sem_eq_zero_of_no_sems (by decide) r.2⟩)
    (Cert.LogfRefIdeal.Value.run (F := Ideal) m g)

/-- The output projection's reference leaves its arguments and ends with no counter raised, from any memory. -/
theorem frame_outproj_ref : Cert.quiescent_OutprojRefIdeal := fun m g _ =>
  (θ_run Cert.OutprojRefIdeal.defs _ _).mono (fun r h => ⟨fun c => (h c).2.2,
      Idealize.ShloMosaic.sem_eq_zero_of_no_sems (by decide) r.2⟩)
    (Cert.OutprojRefIdeal.Value.run (F := Ideal) m g)

/-- The prompt convolution state's reference leaves its arguments and ends with no counter raised, from any memory. -/
theorem frame_conv_ref : Cert.quiescent_ConvRefIdeal := fun m g _ =>
  (θ_run Cert.ConvRefIdeal.defs _ _).mono (fun r h => ⟨fun c => (h c).2,
      Idealize.ShloMosaic.sem_eq_zero_of_no_sems (by decide) r.2⟩)
    (Cert.ConvRefIdeal.Value.run (F := Ideal) m g)

/-- The gated token mixing's reference leaves its arguments and ends with no counter raised, from any memory. -/
theorem frame_gmlp_ref : Cert.quiescent_GmlpRefIdeal := fun m g _ =>
  (θ_run Cert.GmlpRefIdeal.defs _ _).mono (fun r h => ⟨fun c => (h c).2.2,
      Idealize.ShloMosaic.sem_eq_zero_of_no_sems (by decide) r.2⟩)
    (Cert.GmlpRefIdeal.Value.run (F := Ideal) m g)

/-- The gated projection's reference leaves its arguments and ends with no counter raised, from any memory. -/
theorem frame_gated_ref : Cert.quiescent_GatedRefIdeal := fun m g _ =>
  (θ_run Cert.GatedRefIdeal.defs _ _).mono (fun r h => ⟨fun c => (h c).2,
      Idealize.ShloMosaic.sem_eq_zero_of_no_sems (by decide) r.2⟩)
    (Cert.GatedRefIdeal.Value.run (F := Ideal) m g)

/-- The sample convolution state's reference leaves its arguments and ends with no counter raised, from any memory. -/
theorem frame_convstep_ref : Cert.quiescent_ConvStepRefIdeal := fun m g _ =>
  (θ_run Cert.ConvStepRefIdeal.defs _ _).mono (fun r h => ⟨fun c => (h c).2,
      Idealize.ShloMosaic.sem_eq_zero_of_no_sems (by decide) r.2⟩)
    (Cert.ConvStepRefIdeal.Value.run (F := Ideal) m g)

end frames

theorem claim : Cert.Claim := ⟨Cert.Fox.Gen.facts, Cert.FoxIdeal.Gen.facts, Cert.FoxRefIdeal.Gen.facts, Cert.Experts.Gen.facts, Cert.ExpertsIdeal.Gen.facts, Cert.ExpertsRefIdeal.Gen.facts, Cert.Keys.Gen.facts, Cert.KeysIdeal.Gen.facts, Cert.KeysRefIdeal.Gen.facts, Cert.Values.Gen.facts, Cert.ValuesIdeal.Gen.facts, Cert.ValuesRefIdeal.Gen.facts, Cert.Odd.Gen.facts, Cert.OddIdeal.Gen.facts, Cert.OddRefIdeal.Gen.facts, Cert.Logf.Gen.facts, Cert.LogfIdeal.Gen.facts, Cert.LogfRefIdeal.Gen.facts, Cert.Outproj.Gen.facts, Cert.OutprojIdeal.Gen.facts, Cert.OutprojRefIdeal.Gen.facts, Cert.Conv.Gen.facts, Cert.ConvIdeal.Gen.facts, Cert.ConvRefIdeal.Gen.facts, Cert.Gmlp.Gen.facts, Cert.GmlpIdeal.Gen.facts, Cert.GmlpRefIdeal.Gen.facts, Cert.Gated.Gen.facts, Cert.GatedIdeal.Gen.facts, Cert.GatedRefIdeal.Gen.facts, Cert.ConvStep.Gen.facts, Cert.ConvStepIdeal.Gen.facts, Cert.ConvStepRefIdeal.Gen.facts, Cert.Pre_finite_scores.Gen.facts, Cert.Pre_experts_in_range.Gen.facts,
  fun m g _ => Cert.Fox.Gen.frame m g,
  fun m g _ => Cert.FoxIdeal.Gen.frame m g,
  fun m g _ => Cert.FoxIdeal.Gen.frame m g,
  frame_fox_ref,
  fun m g _ => frame_fox_ref m g trivial,
  Cert.ExpertsClaim.frame,
  Cert.ExpertsClaim.frame_ideal,
  frame_experts_ref,
  fun m g _ => frame_experts_ref m g trivial,
  fun m g _ => Cert.Keys.Gen.frame m g,
  fun m g _ => Cert.KeysIdeal.Gen.frame m g,
  frame_keys_ref,
  fun m g _ => Cert.Values.Gen.frame m g,
  fun m g _ => Cert.ValuesIdeal.Gen.frame m g,
  frame_values_ref,
  fun m g _ => Cert.Odd.Gen.frame m g,
  fun m g _ => Cert.OddIdeal.Gen.frame m g,
  frame_odd_ref,
  fun m g _ => Cert.Logf.Gen.frame m g,
  fun m g _ => Cert.LogfIdeal.Gen.frame m g,
  frame_logf_ref,
  fun m g _ => Cert.Outproj.Gen.frame m g,
  fun m g _ => Cert.OutprojIdeal.Gen.frame m g,
  frame_outproj_ref,
  fun m g _ => Cert.Conv.Gen.frame m g,
  fun m g _ => Cert.ConvIdeal.Gen.frame m g,
  frame_conv_ref,
  fun m g _ => Cert.Gmlp.Gen.frame m g,
  fun m g _ => Cert.GmlpIdeal.Gen.frame m g,
  frame_gmlp_ref,
  fun m g _ => Cert.Gated.Gen.frame m g,
  fun m g _ => Cert.GatedIdeal.Gen.frame m g,
  frame_gated_ref,
  fun m g _ => Cert.ConvStep.Gen.frame m g,
  fun m g _ => Cert.ConvStepIdeal.Gen.frame m g,
  frame_convstep_ref,
  trivial,
  Cert.FoxClaim.algebraic,
  trivial,
  Cert.ExpertsClaim.algebraic,
  trivial,
  Cert.KeysValue.algebraic,
  trivial,
  Cert.ValuesValue.algebraic,
  trivial,
  Cert.OddValue.algebraic,
  trivial,
  Cert.LogfValue.algebraic,
  trivial,
  Cert.OutprojValue.algebraic,
  trivial,
  Cert.ConvValue.algebraic,
  trivial,
  Cert.GmlpValue.algebraic,
  trivial,
  Cert.GatedValue.algebraic,
  trivial,
  Cert.ConvStepValue.algebraic⟩

end Cert.Proof

end
